-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21_0) = v0 c
          ∧ r.2.mem ((c.tc : Thread Cert.ReferenceIdeal.nD Cert.ReferenceIdeal.τ).loc Cert.ReferenceIdeal.main_v21_1) = v1 c
          ∧ r.2.mem ((c.tc : Thread Cert.ReferenceIdeal.nD Cert.ReferenceIdeal.τ).loc Cert.ReferenceIdeal.main_v21_2) = v2 c
          ∧ r.2.mem ((c.tc : Thread Cert.ReferenceIdeal.nD Cert.ReferenceIdeal.τ).loc Cert.ReferenceIdeal.main_v21_3) = v3 c
          ∧ r.2.mem ((c.tc : Thread Cert.ReferenceIdeal.nD Cert.ReferenceIdeal.τ).loc Cert.ReferenceIdeal.main_v21_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x5120 : Shape := ⟨3, ![3, 640, 5120]⟩
abbrev S3x640x40 : Shape := ⟨3, ![3, 640, 40]⟩
abbrev S576x5120 : Shape := ⟨2, ![576, 5120]⟩
abbrev S5x40 : Shape := ⟨2, ![5, 40]⟩
abbrev S512 : Shape := ⟨1, ![512]⟩
abbrev S3x640 : Shape := ⟨2, ![3, 640]⟩
abbrev S3x640x512 : Shape := ⟨3, ![3, 640, 512]⟩
abbrev S3x640x64 : Shape := ⟨3, ![3, 640, 64]⟩
abbrev S5120 : Shape := ⟨1, ![5120]⟩
abbrev S32 : Shape := ⟨1, ![32]⟩
abbrev S_ : Shape := ⟨0, ![]⟩
abbrev S32x1 : Shape := ⟨2, ![32, 1]⟩
abbrev S1920x5120 : Shape := ⟨2, ![1920, 5120]⟩
abbrev S1920x40 : Shape := ⟨2, ![1920, 40]⟩
abbrev S1x512 : Shape := ⟨2, ![1, 512]⟩
abbrev S3x5x128 : Shape := ⟨3, ![3, 5, 128]⟩
abbrev S1920x512 : Shape := ⟨2, ![1920, 512]⟩
abbrev S1920x64 : Shape := ⟨2, ![1920, 64]⟩
abbrev S1x5120 : Shape := ⟨2, ![1, 5120]⟩
abbrev S3x5x5120 : Shape := ⟨3, ![3, 5, 5120]⟩
abbrev S3x5x512 : Shape := ⟨3, ![3, 5, 512]⟩
abbrev S1920x576 : Shape := ⟨2, ![1920, 576]⟩
abbrev S1920x5 : Shape := ⟨2, ![1920, 5]⟩
abbrev S384x5120 : Shape := ⟨2, ![384, 5120]⟩
abbrev S384x40 : Shape := ⟨2, ![384, 40]⟩
abbrev S384x512 : Shape := ⟨2, ![384, 512]⟩
abbrev S384x64 : Shape := ⟨2, ![384, 64]⟩
abbrev S384x576 : Shape := ⟨2, ![384, 576]⟩
abbrev S384x5 : Shape := ⟨2, ![384, 5]⟩
abbrev S64x128 : Shape := ⟨2, ![64, 128]⟩
abbrev S1x1 : Shape := ⟨2, ![1, 1]⟩
abbrev S128x128 : Shape := ⟨2, ![128, 128]⟩
abbrev S384x1 : Shape := ⟨2, ![384, 1]⟩
abbrev S384x128 : Shape := ⟨2, ![384, 128]⟩
abbrev S512x5120 : Shape := ⟨2, ![512, 5120]⟩
abbrev S384 : Shape := ⟨1, ![384]⟩
abbrev S128x512 : Shape := ⟨2, ![128, 512]⟩
abbrev S1x1x512 : Shape := ⟨3, ![1, 1, 512]⟩
abbrev S1x1x128 : Shape := ⟨3, ![1, 1, 128]⟩
abbrev S1x128 : Shape := ⟨2, ![1, 128]⟩
abbrev S32x128 : Shape := ⟨2, ![32, 128]⟩
abbrev S128x64 : Shape := ⟨2, ![128, 64]⟩
abbrev S384x256 : Shape := ⟨2, ![384, 256]⟩
abbrev S576x512 : Shape := ⟨2, ![576, 512]⟩

abbrev nBuf : Space → Nat
  | .hbm => 42
  | .vmem => 29
  | .smem => 1
  | _ => 0

abbrev bufTy : (tb : Table) → Fin (tcTables nBuf tb) → BufTy
  | .hbm, ⟨0, _⟩ => ⟨S3x640x5120, .fp8e4m3⟩
  | .hbm, ⟨1, _⟩ => ⟨S3x640x40, .f32⟩
  | .hbm, ⟨2, _⟩ => ⟨S576x5120, .fp8e4m3⟩
  | .hbm, ⟨3, _⟩ => ⟨S5x40, .f32⟩
  | .hbm, ⟨4, _⟩ => ⟨S512, .f32⟩
  | .hbm, ⟨5, _⟩ => ⟨S3x640, .i32⟩
  | .hbm, ⟨6, _⟩ => ⟨S3x640x512, .bf16⟩
  | .hbm, ⟨7, _⟩ => ⟨S3x640x64, .bf16⟩
  | .hbm, ⟨8, _⟩ => ⟨S3x640x5120, .bf16⟩
  | .hbm, ⟨9, _⟩ => ⟨S5120, .f32⟩
  | .hbm, ⟨10, _⟩ => ⟨S3x640x5120, .bf16⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32x1, .f32⟩
  | .hbm, ⟨28, _⟩ => ⟨S1920x5120, .fp8e4m3⟩
  | .hbm, ⟨29, _⟩ => ⟨S1920x40, .f32⟩
  | .hbm, ⟨30, _⟩ => ⟨S1x512, .f32⟩
  | .hbm, ⟨31, _⟩ => ⟨S3x5x128, .i32⟩
  | .hbm, ⟨32, _⟩ => ⟨S1920x512, .bf16⟩
  | .hbm, ⟨33, _⟩ => ⟨S1920x64, .bf16⟩
  | .hbm, ⟨34, _⟩ => ⟨S1920x5120, .bf16⟩
  | .hbm, ⟨35, _⟩ => ⟨S1x5120, .f32⟩
  | .hbm, ⟨36, _⟩ => ⟨S1920x5120, .bf16⟩
  | .hbm, ⟨37, _⟩ => ⟨S1920x5120, .bf16⟩
  | .hbm, ⟨38, _⟩ => ⟨S3x5x5120, .f32⟩
  | .hbm, ⟨39, _⟩ => ⟨S3x5x512, .f32⟩
  | .hbm, ⟨40, _⟩ => ⟨S1920x576, .fp8e5m2⟩
  | .hbm, ⟨41, _⟩ => ⟨S1920x5, .f32⟩
  | .local _ .vmem, ⟨0, _⟩ => ⟨S384x5120, .fp8e4m3⟩
  | .local _ .vmem, ⟨1, _⟩ => ⟨S384x5120, .fp8e4m3⟩
  | .local _ .vmem, ⟨2, _⟩ => ⟨S384x40, .f32⟩
  | .local _ .vmem, ⟨3, _⟩ => ⟨S384x40, .f32⟩
  | .local _ .vmem, ⟨4, _⟩ => ⟨S576x5120, .fp8e4m3⟩
  | .local _ .vmem, ⟨5, _⟩ => ⟨S1x512, .f32⟩
  | .local _ .vmem, ⟨6, _⟩ => ⟨S32x1, .f32⟩
  | .local _ .vmem, ⟨7, _⟩ => ⟨S3x5x128, .i32⟩
  | .local _ .vmem, ⟨8, _⟩ => ⟨S384x512, .bf16⟩
  | .local _ .vmem, ⟨9, _⟩ => ⟨S384x512, .bf16⟩
  | .local _ .vmem, ⟨10, _⟩ => ⟨S384x64, .bf16⟩
  | .local _ .vmem, ⟨11, _⟩ => ⟨S384x64, .bf16⟩
  | .local _ .vmem, ⟨12, _⟩ => ⟨S384x5120, .bf16⟩
  | .local _ .vmem, ⟨13, _⟩ => ⟨S384x5120, .bf16⟩
  | .local _ .vmem, ⟨14, _⟩ => ⟨S1x5120, .f32⟩
  | .local _ .vmem, ⟨15, _⟩ => ⟨S384x5120, .bf16⟩
  | .local _ .vmem, ⟨16, _⟩ => ⟨S384x5120, .bf16⟩
  | .local _ .vmem, ⟨17, _⟩ => ⟨S384x5120, .bf16⟩
  | .local _ .vmem, ⟨18, _⟩ => ⟨S384x5120, .bf16⟩
  | .local _ .vmem, ⟨19, _⟩ => ⟨S3x5x5120, .f32⟩
  | .local _ .vmem, ⟨20, _⟩ => ⟨S3x5x512, .f32⟩
  | .local _ .vmem, ⟨21, _⟩ => ⟨S384x576, .fp8e5m2⟩
  | .local _ .vmem, ⟨22, _⟩ => ⟨S384x576, .fp8e5m2⟩
  | .local _ .vmem, ⟨23, _⟩ => ⟨S384x5, .f32⟩
  | .local _ .vmem, ⟨24, _⟩ => ⟨S384x5, .f32⟩
  | .local _ .vmem, ⟨25, _⟩ => ⟨S576x5120, .bf16⟩
  | .local _ .vmem, ⟨26, _⟩ => ⟨S384x5120, .bf16⟩
  | .local _ .vmem, ⟨27, _⟩ => ⟨S384x5120, .f32⟩
  | .local _ .vmem, ⟨28, _⟩ => ⟨S64x128, .f32⟩
  | .local _ .smem, ⟨0, _⟩ => ⟨S5x40, .f32⟩
  | _, _ => ⟨S3x640x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![5], ![false]⟩

def k0_off1 (i : grid0.Coords) (c0_i32_136 : BitVec 32) : Fin 3 → Nat :=
  let arg0 : BitVec 32 := BitVec.ofNat 32 (i 0).val
  let c3_i32 : BitVec 32 := 3#32
  let v481 : BitVec 32 := Scalar.muli arg0 c3_i32
  let v482 : BitVec 32 := Scalar.addi v481 c0_i32_136
  let c0_i32_137 : BitVec 32 := 0#32
  let v484 : BitVec 1 := Scalar.cmpi .sgt v482 c0_i32_137
  let v485 : BitVec 32 := Scalar.extui v484
  let c0_i32_138 : BitVec 32 := 0#32
  let v486 : BitVec 1 := Scalar.cmpi .slt v482 c0_i32_138
  let v487 : BitVec 32 := Scalar.extui v486
  let v488 : BitVec 32 := Scalar.subi v485 v487
  let c5_i32 : BitVec 32 := 5#32
  let c0_i32_139 : BitVec 32 := 0#32
  let v489 : BitVec 1 := Scalar.cmpi .sgt c5_i32 c0_i32_139
  let v490 : BitVec 32 := Scalar.extui v489
  let c0_i32_140 : BitVec 32 := 0#32
  let v491 : BitVec 1 := Scalar.cmpi .slt c5_i32 c0_i32_140
  let v492 : BitVec 32 := Scalar.extui v491
  let v493 : BitVec 32 := Scalar.subi v490 v492
  let v494 : BitVec 1 := Scalar.cmpi .ne v488 v493
  let v495 : BitVec 32 := Scalar.remsi v482 c5_i32
  let c0_i32_141 : BitVec 32 := 0#32
  let v496 : BitVec 1 := Scalar.cmpi .ne v495 c0_i32_141
  let v497 : BitVec 1 := Scalar.andi v494 v496
  let v483 : BitVec 32 := Scalar.divsi v482 c5_i32
  let c1_i32 : BitVec 32 := 1#32
  let v498 : BitVec 32 := Scalar.subi v483 c1_i32
  let v499 : BitVec 32 := Scalar.select v497 v498 v483
  let v513 : Index := Scalar.indexCast v499
  let c5_i32_142 : BitVec 32 := 5#32
  let c0_i32_143 : BitVec 32 := 0#32
  let v500 : BitVec 1 := Scalar.cmpi .eq c5_i32_142 c0_i32_143
  let c1_i32_144 : BitVec 32 := 1#32
  let v501 : BitVec 32 := Scalar.select v500 c1_i32_144 c5_i32_142
  let v502 : BitVec 32 := Scalar.remsi v482 v501
  let c0_i32_146 : BitVec 32 := 0#32
  let v504 : BitVec 1 := Scalar.cmpi .slt v502 c0_i32_146
  let c0_i32_147 : BitVec 32 := 0#32
  let v505 : BitVec 1 := Scalar.cmpi .slt v501 c0_i32_147
  let v506 : BitVec 1 := Scalar.xori v504 v505
  let c0_i32_145 : BitVec 32 := 0#32
  let v503 : BitVec 1 := Scalar.cmpi .ne v502 c0_i32_145
  let v507 : BitVec 1 := Scalar.andi v506 v503
  let v508 : BitVec 32 := Scalar.addi v502 v501
  let v509 : BitVec 32 := Scalar.select v507 v508 v502
  let v514 : Index := Scalar.indexCast v509
  let c0_149 : Index := 0#32
  ![v513.toNat, v514.toNat, 0]
def k0_off2 (i : grid0.Coords) (c0_i32_184 : BitVec 32) : Fin 3 → Nat :=
  let arg0 : BitVec 32 := BitVec.ofNat 32 (i 0).val
  let c3_i32_183 : BitVec 32 := 3#32
  let v592 : BitVec 32 := Scalar.muli arg0 c3_i32_183
  let v593 : BitVec 32 := Scalar.addi v592 c0_i32_184
  let c0_i32_186 : BitVec 32 := 0#32
  let v595 : BitVec 1 := Scalar.cmpi .sgt v593 c0_i32_186
  let v596 : BitVec 32 := Scalar.extui v595
  let c0_i32_187 : BitVec 32 := 0#32
  let v597 : BitVec 1 := Scalar.cmpi .slt v593 c0_i32_187
  let v598 : BitVec 32 := Scalar.extui v597
  let v599 : BitVec 32 := Scalar.subi v596 v598
  let c5_i32_185 : BitVec 32 := 5#32
  let c0_i32_188 : BitVec 32 := 0#32
  let v600 : BitVec 1 := Scalar.cmpi .sgt c5_i32_185 c0_i32_188
  let v601 : BitVec 32 := Scalar.extui v600
  let c0_i32_189 : BitVec 32 := 0#32
  let v602 : BitVec 1 := Scalar.cmpi .slt c5_i32_185 c0_i32_189
  let v603 : BitVec 32 := Scalar.extui v602
  let v604 : BitVec 32 := Scalar.subi v601 v603
  let v605 : BitVec 1 := Scalar.cmpi .ne v599 v604
  let v606 : BitVec 32 := Scalar.remsi v593 c5_i32_185
  let c0_i32_190 : BitVec 32 := 0#32
  let v607 : BitVec 1 := Scalar.cmpi .ne v606 c0_i32_190
  let v608 : BitVec 1 := Scalar.andi v605 v607
  let v594 : BitVec 32 := Scalar.divsi v593 c5_i32_185
  let c1_i32_191 : BitVec 32 := 1#32
  let v609 : BitVec 32 := Scalar.subi v594 c1_i32_191
  let v610 : BitVec 32 := Scalar.select v608 v609 v594
  let v621 : Index := Scalar.indexCast v610
  let c5_i32_192 : BitVec 32 := 5#32
  let c0_i32_193 : BitVec 32 := 0#32
  let v611 : BitVec 1 := Scalar.cmpi .eq c5_i32_192 c0_i32_193
  let c1_i32_194 : BitVec 32 := 1#32
  let v612 : BitVec 32 := Scalar.select v611 c1_i32_194 c5_i32_192
  let v613 : BitVec 32 := Scalar.remsi v593 v612
  let c0_i32_196 : BitVec 32 := 0#32
  let v615 : BitVec 1 := Scalar.cmpi .slt v613 c0_i32_196
  let c0_i32_197 : BitVec 32 := 0#32
  let v616 : BitVec 1 := Scalar.cmpi .slt v612 c0_i32_197
  let v617 : BitVec 1 := Scalar.xori v615 v616
  let c0_i32_195 : BitVec 32 := 0#32
  let v614 : BitVec 1 := Scalar.cmpi .ne v613 c0_i32_195
  let v618 : BitVec 1 := Scalar.andi v617 v614
  let v619 : BitVec 32 := Scalar.addi v613 v612
  let v620 : BitVec 32 := Scalar.select v618 v619 v613
  let v622 : Index := Scalar.indexCast v620
  let c0_198 : Index := 0#32
  ![v621.toNat, v622.toNat, 0]
def k0_off3 (i : grid0.Coords) (c0_i32_551 : BitVec 32) : Fin 3 → Nat :=
  let arg0 : BitVec 32 := BitVec.ofNat 32 (i 0).val
  let c3_i32_550 : BitVec 32 := 3#32
  let v1491 : BitVec 32 := Scalar.muli arg0 c3_i32_550
  let v1492 : BitVec 32 := Scalar.addi v1491 c0_i32_551
  let c0_i32_553 : BitVec 32 := 0#32
  let v1494 : BitVec 1 := Scalar.cmpi .sgt v1492 c0_i32_553
  let v1495 : BitVec 32 := Scalar.extui v1494
  let c0_i32_554 : BitVec 32 := 0#32
  let v1496 : BitVec 1 := Scalar.cmpi .slt v1492 c0_i32_554
  let v1497 : BitVec 32 := Scalar.extui v1496
  let v1498 : BitVec 32 := Scalar.subi v1495 v1497
  let c5_i32_552 : BitVec 32 := 5#32
  let c0_i32_555 : BitVec 32 := 0#32
  let v1499 : BitVec 1 := Scalar.cmpi .sgt c5_i32_552 c0_i32_555
  let v1500 : BitVec 32 := Scalar.extui v1499
  let c0_i32_556 : BitVec 32 := 0#32
  let v1501 : BitVec 1 := Scalar.cmpi .slt c5_i32_552 c0_i32_556
  let v1502 : BitVec 32 := Scalar.extui v1501
  let v1503 : BitVec 32 := Scalar.subi v1500 v1502
  let v1504 : BitVec 1 := Scalar.cmpi .ne v1498 v1503
  let v1505 : BitVec 32 := Scalar.remsi v1492 c5_i32_552
  let c0_i32_557 : BitVec 32 := 0#32
  let v1506 : BitVec 1 := Scalar.cmpi .ne v1505 c0_i32_557
  let v1507 : BitVec 1 := Scalar.andi v1504 v1506
  let v1493 : BitVec 32 := Scalar.divsi v1492 c5_i32_552
  let c1_i32_558 : BitVec 32 := 1#32
  let v1508 : BitVec 32 := Scalar.subi v1493 c1_i32_558
  let v1509 : BitVec 32 := Scalar.select v1507 v1508 v1493
  let v1523 : Index := Scalar.indexCast v1509
  let c5_i32_559 : BitVec 32 := 5#32
  let c0_i32_560 : BitVec 32 := 0#32
  let v1510 : BitVec 1 := Scalar.cmpi .eq c5_i32_559 c0_i32_560
  let c1_i32_561 : BitVec 32 := 1#32
  let v1511 : BitVec 32 := Scalar.select v1510 c1_i32_561 c5_i32_559
  let v1512 : BitVec 32 := Scalar.remsi v1492 v1511
  let c0_i32_563 : BitVec 32 := 0#32
  let v1514 : BitVec 1 := Scalar.cmpi .slt v1512 c0_i32_563
  let c0_i32_564 : BitVec 32 := 0#32
  let v1515 : BitVec 1 := Scalar.cmpi .slt v1511 c0_i32_564
  let v1516 : BitVec 1 := Scalar.xori v1514 v1515
  let c0_i32_562 : BitVec 32 := 0#32
  let v1513 : BitVec 1 := Scalar.cmpi .ne v1512 c0_i32_562
  let v1517 : BitVec 1 := Scalar.andi v1516 v1513
  let v1518 : BitVec 32 := Scalar.addi v1512 v1511
  let v1519 : BitVec 32 := Scalar.select v1517 v1518 v1512
  let v1524 : Index := Scalar.indexCast v1519
  let c0_566 : Index := 0#32
  ![v1523.toNat, v1524.toNat, 0]
def k0_off4 (i : grid0.Coords) (c0_i32_613 : BitVec 32) : Fin 3 → Nat :=
  let arg0 : BitVec 32 := BitVec.ofNat 32 (i 0).val
  let c3_i32_612 : BitVec 32 := 3#32
  let v1629 : BitVec 32 := Scalar.muli arg0 c3_i32_612
  let v1630 : BitVec 32 := Scalar.addi v1629 c0_i32_613
  let c0_i32_615 : BitVec 32 := 0#32
  let v1632 : BitVec 1 := Scalar.cmpi .sgt v1630 c0_i32_615
  let v1633 : BitVec 32 := Scalar.extui v1632
  let c0_i32_616 : BitVec 32 := 0#32
  let v1634 : BitVec 1 := Scalar.cmpi .slt v1630 c0_i32_616
  let v1635 : BitVec 32 := Scalar.extui v1634
  let v1636 : BitVec 32 := Scalar.subi v1633 v1635
  let c5_i32_614 : BitVec 32 := 5#32
  let c0_i32_617 : BitVec 32 := 0#32
  let v1637 : BitVec 1 := Scalar.cmpi .sgt c5_i32_614 c0_i32_617
  let v1638 : BitVec 32 := Scalar.extui v1637
  let c0_i32_618 : BitVec 32 := 0#32
  let v1639 : BitVec 1 := Scalar.cmpi .slt c5_i32_614 c0_i32_618
  let v1640 : BitVec 32 := Scalar.extui v1639
  let v1641 : BitVec 32 := Scalar.subi v1638 v1640
  let v1642 : BitVec 1 := Scalar.cmpi .ne v1636 v1641
  let v1643 : BitVec 32 := Scalar.remsi v1630 c5_i32_614
  let c0_i32_619 : BitVec 32 := 0#32
  let v1644 : BitVec 1 := Scalar.cmpi .ne v1643 c0_i32_619
  let v1645 : BitVec 1 := Scalar.andi v1642 v1644
  let v1631 : BitVec 32 := Scalar.divsi v1630 c5_i32_614
  let c1_i32_620 : BitVec 32 := 1#32
  let v1646 : BitVec 32 := Scalar.subi v1631 c1_i32_620
  let v1647 : BitVec 32 := Scalar.select v1645 v1646 v1631
  let v1661 : Index := Scalar.indexCast v1647
  let c5_i32_621 : BitVec 32 := 5#32
  let c0_i32_622 : BitVec 32 := 0#32
  let v1648 : BitVec 1 := Scalar.cmpi .eq c5_i32_621 c0_i32_622
  let c1_i32_623 : BitVec 32 := 1#32
  let v1649 : BitVec 32 := Scalar.select v1648 c1_i32_623 c5_i32_621
  let v1650 : BitVec 32 := Scalar.remsi v1630 v1649
  let c0_i32_625 : BitVec 32 := 0#32
  let v1652 : BitVec 1 := Scalar.cmpi .slt v1650 c0_i32_625
  let c0_i32_626 : BitVec 32 := 0#32
  let v1653 : BitVec 1 := Scalar.cmpi .slt v1649 c0_i32_626
  let v1654 : BitVec 1 := Scalar.xori v1652 v1653
  let c0_i32_624 : BitVec 32 := 0#32
  let v1651 : BitVec 1 := Scalar.cmpi .ne v1650 c0_i32_624
  let v1655 : BitVec 1 := Scalar.andi v1654 v1651
  let v1656 : BitVec 32 := Scalar.addi v1650 v1649
  let v1657 : BitVec 32 := Scalar.select v1655 v1656 v1650
  let v1662 : Index := Scalar.indexCast v1657
  let c512_628 : Index := 512#32
  ![v1661.toNat, v1662.toNat, 512]
def k0_off5 (i : grid0.Coords) (c0_i32_675 : BitVec 32) : Fin 3 → Nat :=
  let arg0 : BitVec 32 := BitVec.ofNat 32 (i 0).val
  let c3_i32_674 : BitVec 32 := 3#32
  let v1767 : BitVec 32 := Scalar.muli arg0 c3_i32_674
  let v1768 : BitVec 32 := Scalar.addi v1767 c0_i32_675
  let c0_i32_677 : BitVec 32 := 0#32
  let v1770 : BitVec 1 := Scalar.cmpi .sgt v1768 c0_i32_677
  let v1771 : BitVec 32 := Scalar.extui v1770
  let c0_i32_678 : BitVec 32 := 0#32
  let v1772 : BitVec 1 := Scalar.cmpi .slt v1768 c0_i32_678
  let v1773 : BitVec 32 := Scalar.extui v1772
  let v1774 : BitVec 32 := Scalar.subi v1771 v1773
  let c5_i32_676 : BitVec 32 := 5#32
  let c0_i32_679 : BitVec 32 := 0#32
  let v1775 : BitVec 1 := Scalar.cmpi .sgt c5_i32_676 c0_i32_679
  let v1776 : BitVec 32 := Scalar.extui v1775
  let c0_i32_680 : BitVec 32 := 0#32
  let v1777 : BitVec 1 := Scalar.cmpi .slt c5_i32_676 c0_i32_680
  let v1778 : BitVec 32 := Scalar.extui v1777
  let v1779 : BitVec 32 := Scalar.subi v1776 v1778
  let v1780 : BitVec 1 := Scalar.cmpi .ne v1774 v1779
  let v1781 : BitVec 32 := Scalar.remsi v1768 c5_i32_676
  let c0_i32_681 : BitVec 32 := 0#32
  let v1782 : BitVec 1 := Scalar.cmpi .ne v1781 c0_i32_681
  let v1783 : BitVec 1 := Scalar.andi v1780 v1782
  let v1769 : BitVec 32 := Scalar.divsi v1768 c5_i32_676
  let c1_i32_682 : BitVec 32 := 1#32
  let v1784 : BitVec 32 := Scalar.subi v1769 c1_i32_682
  let v1785 : BitVec 32 := Scalar.select v1783 v1784 v1769
  let v1799 : Index := Scalar.indexCast v1785
  let c5_i32_683 : BitVec 32 := 5#32
  let c0_i32_684 : BitVec 32 := 0#32
  let v1786 : BitVec 1 := Scalar.cmpi .eq c5_i32_683 c0_i32_684
  let c1_i32_685 : BitVec 32 := 1#32
  let v1787 : BitVec 32 := Scalar.select v1786 c1_i32_685 c5_i32_683
  let v1788 : BitVec 32 := Scalar.remsi v1768 v1787
  let c0_i32_687 : BitVec 32 := 0#32
  let v1790 : BitVec 1 := Scalar.cmpi .slt v1788 c0_i32_687
  let c0_i32_688 : BitVec 32 := 0#32
  let v1791 : BitVec 1 := Scalar.cmpi .slt v1787 c0_i32_688
  let v1792 : BitVec 1 := Scalar.xori v1790 v1791
  let c0_i32_686 : BitVec 32 := 0#32
  let v1789 : BitVec 1 := Scalar.cmpi .ne v1788 c0_i32_686
  let v1793 : BitVec 1 := Scalar.andi v1792 v1789
  let v1794 : BitVec 32 := Scalar.addi v1788 v1787
  let v1795 : BitVec 32 := Scalar.select v1793 v1794 v1788
  let v1800 : Index := Scalar.indexCast v1795
  let c1024_690 : Index := 1024#32
  ![v1799.toNat, v1800.toNat, 1024]
def k0_off6 (i : grid0.Coords) (c0_i32_737 : BitVec 32) : Fin 3 → Nat :=
  let arg0 : BitVec 32 := BitVec.ofNat 32 (i 0).val
  let c3_i32_736 : BitVec 32 := 3#32
  let v1905 : BitVec 32 := Scalar.muli arg0 c3_i32_736
  let v1906 : BitVec 32 := Scalar.addi v1905 c0_i32_737
  let c0_i32_739 : BitVec 32 := 0#32
  let v1908 : BitVec 1 := Scalar.cmpi .sgt v1906 c0_i32_739
  let v1909 : BitVec 32 := Scalar.extui v1908
  let c0_i32_740 : BitVec 32 := 0#32
  let v1910 : BitVec 1 := Scalar.cmpi .slt v1906 c0_i32_740
  let v1911 : BitVec 32 := Scalar.extui v1910
  let v1912 : BitVec 32 := Scalar.subi v1909 v1911
  let c5_i32_738 : BitVec 32 := 5#32
  let c0_i32_741 : BitVec 32 := 0#32
  let v1913 : BitVec 1 := Scalar.cmpi .sgt c5_i32_738 c0_i32_741
  let v1914 : BitVec 32 := Scalar.extui v1913
  let c0_i32_742 : BitVec 32 := 0#32
  let v1915 : BitVec 1 := Scalar.cmpi .slt c5_i32_738 c0_i32_742
  let v1916 : BitVec 32 := Scalar.extui v1915
  let v1917 : BitVec 32 := Scalar.subi v1914 v1916
  let v1918 : BitVec 1 := Scalar.cmpi .ne v1912 v1917
  let v1919 : BitVec 32 := Scalar.remsi v1906 c5_i32_738
  let c0_i32_743 : BitVec 32 := 0#32
  let v1920 : BitVec 1 := Scalar.cmpi .ne v1919 c0_i32_743
  let v1921 : BitVec 1 := Scalar.andi v1918 v1920
  let v1907 : BitVec 32 := Scalar.divsi v1906 c5_i32_738
  let c1_i32_744 : BitVec 32 := 1#32
  let v1922 : BitVec 32 := Scalar.subi v1907 c1_i32_744
  let v1923 : BitVec 32 := Scalar.select v1921 v1922 v1907
  let v1937 : Index := Scalar.indexCast v1923
  let c5_i32_745 : BitVec 32 := 5#32
  let c0_i32_746 : BitVec 32 := 0#32
  let v1924 : BitVec 1 := Scalar.cmpi .eq c5_i32_745 c0_i32_746
  let c1_i32_747 : BitVec 32 := 1#32
  let v1925 : BitVec 32 := Scalar.select v1924 c1_i32_747 c5_i32_745
  let v1926 : BitVec 32 := Scalar.remsi v1906 v1925
  let c0_i32_749 : BitVec 32 := 0#32
  let v1928 : BitVec 1 := Scalar.cmpi .slt v1926 c0_i32_749
  let c0_i32_750 : BitVec 32 := 0#32
  let v1929 : BitVec 1 := Scalar.cmpi .slt v1925 c0_i32_750
  let v1930 : BitVec 1 := Scalar.xori v1928 v1929
  let c0_i32_748 : BitVec 32 := 0#32
  let v1927 : BitVec 1 := Scalar.cmpi .ne v1926 c0_i32_748
  let v1931 : BitVec 1 := Scalar.andi v1930 v1927
  let v1932 : BitVec 32 := Scalar.addi v1926 v1925
  let v1933 : BitVec 32 := Scalar.select v1931 v1932 v1926
  let v1938 : Index := Scalar.indexCast v1933
  let c1536_752 : Index := 1536#32
  ![v1937.toNat, v1938.toNat, 1536]
def k0_off7 (i : grid0.Coords) (c0_i32_799 : BitVec 32) : Fin 3 → Nat :=
  let arg0 : BitVec 32 := BitVec.ofNat 32 (i 0).val
  let c3_i32_798 : BitVec 32 := 3#32
  let v2043 : BitVec 32 := Scalar.muli arg0 c3_i32_798
  let v2044 : BitVec 32 := Scalar.addi v2043 c0_i32_799
  let c0_i32_801 : BitVec 32 := 0#32
  let v2046 : BitVec 1 := Scalar.cmpi .sgt v2044 c0_i32_801
  let v2047 : BitVec 32 := Scalar.extui v2046
  let c0_i32_802 : BitVec 32 := 0#32
  let v2048 : BitVec 1 := Scalar.cmpi .slt v2044 c0_i32_802
  let v2049 : BitVec 32 := Scalar.extui v2048
  let v2050 : BitVec 32 := Scalar.subi v2047 v2049
  let c5_i32_800 : BitVec 32 := 5#32
  let c0_i32_803 : BitVec 32 := 0#32
  let v2051 : BitVec 1 := Scalar.cmpi .sgt c5_i32_800 c0_i32_803
  let v2052 : BitVec 32 := Scalar.extui v2051
  let c0_i32_804 : BitVec 32 := 0#32
  let v2053 : BitVec 1 := Scalar.cmpi .slt c5_i32_800 c0_i32_804
  let v2054 : BitVec 32 := Scalar.extui v2053
  let v2055 : BitVec 32 := Scalar.subi v2052 v2054
  let v2056 : BitVec 1 := Scalar.cmpi .ne v2050 v2055
  let v2057 : BitVec 32 := Scalar.remsi v2044 c5_i32_800
  let c0_i32_805 : BitVec 32 := 0#32
  let v2058 : BitVec 1 := Scalar.cmpi .ne v2057 c0_i32_805
  let v2059 : BitVec 1 := Scalar.andi v2056 v2058
  let v2045 : BitVec 32 := Scalar.divsi v2044 c5_i32_800
  let c1_i32_806 : BitVec 32 := 1#32
  let v2060 : BitVec 32 := Scalar.subi v2045 c1_i32_806
  let v2061 : BitVec 32 := Scalar.select v2059 v2060 v2045
  let v2075 : Index := Scalar.indexCast v2061
  let c5_i32_807 : BitVec 32 := 5#32
  let c0_i32_808 : BitVec 32 := 0#32
  let v2062 : BitVec 1 := Scalar.cmpi .eq c5_i32_807 c0_i32_808
  let c1_i32_809 : BitVec 32 := 1#32
  let v2063 : BitVec 32 := Scalar.select v2062 c1_i32_809 c5_i32_807
  let v2064 : BitVec 32 := Scalar.remsi v2044 v2063
  let c0_i32_811 : BitVec 32 := 0#32
  let v2066 : BitVec 1 := Scalar.cmpi .slt v2064 c0_i32_811
  let c0_i32_812 : BitVec 32 := 0#32
  let v2067 : BitVec 1 := Scalar.cmpi .slt v2063 c0_i32_812
  let v2068 : BitVec 1 := Scalar.xori v2066 v2067
  let c0_i32_810 : BitVec 32 := 0#32
  let v2065 : BitVec 1 := Scalar.cmpi .ne v2064 c0_i32_810
  let v2069 : BitVec 1 := Scalar.andi v2068 v2065
  let v2070 : BitVec 32 := Scalar.addi v2064 v2063
  let v2071 : BitVec 32 := Scalar.select v2069 v2070 v2064
  let v2076 : Index := Scalar.indexCast v2071
  let c2048_814 : Index := 2048#32
  ![v2075.toNat, v2076.toNat, 2048]
def k0_off8 (i : grid0.Coords) (c0_i32_861 : BitVec 32) : Fin 3 → Nat :=
  let arg0 : BitVec 32 := BitVec.ofNat 32 (i 0).val
  let c3_i32_860 : BitVec 32 := 3#32
  let v2181 : BitVec 32 := Scalar.muli arg0 c3_i32_860
  let v2182 : BitVec 32 := Scalar.addi v2181 c0_i32_861
  let c0_i32_863 : BitVec 32 := 0#32
  let v2184 : BitVec 1 := Scalar.cmpi .sgt v2182 c0_i32_863
  let v2185 : BitVec 32 := Scalar.extui v2184
  let c0_i32_864 : BitVec 32 := 0#32
  let v2186 : BitVec 1 := Scalar.cmpi .slt v2182 c0_i32_864
  let v2187 : BitVec 32 := Scalar.extui v2186
  let v2188 : BitVec 32 := Scalar.subi v2185 v2187
  let c5_i32_862 : BitVec 32 := 5#32
  let c0_i32_865 : BitVec 32 := 0#32
  let v2189 : BitVec 1 := Scalar.cmpi .sgt c5_i32_862 c0_i32_865
  let v2190 : BitVec 32 := Scalar.extui v2189
  let c0_i32_866 : BitVec 32 := 0#32
  let v2191 : BitVec 1 := Scalar.cmpi .slt c5_i32_862 c0_i32_866
  let v2192 : BitVec 32 := Scalar.extui v2191
  let v2193 : BitVec 32 := Scalar.subi v2190 v2192
  let v2194 : BitVec 1 := Scalar.cmpi .ne v2188 v2193
  let v2195 : BitVec 32 := Scalar.remsi v2182 c5_i32_862
  let c0_i32_867 : BitVec 32 := 0#32
  let v2196 : BitVec 1 := Scalar.cmpi .ne v2195 c0_i32_867
  let v2197 : BitVec 1 := Scalar.andi v2194 v2196
  let v2183 : BitVec 32 := Scalar.divsi v2182 c5_i32_862
  let c1_i32_868 : BitVec 32 := 1#32
  let v2198 : BitVec 32 := Scalar.subi v2183 c1_i32_868
  let v2199 : BitVec 32 := Scalar.select v2197 v2198 v2183
  let v2213 : Index := Scalar.indexCast v2199
  let c5_i32_869 : BitVec 32 := 5#32
  let c0_i32_870 : BitVec 32 := 0#32
  let v2200 : BitVec 1 := Scalar.cmpi .eq c5_i32_869 c0_i32_870
  let c1_i32_871 : BitVec 32 := 1#32
  let v2201 : BitVec 32 := Scalar.select v2200 c1_i32_871 c5_i32_869
  let v2202 : BitVec 32 := Scalar.remsi v2182 v2201
  let c0_i32_873 : BitVec 32 := 0#32
  let v2204 : BitVec 1 := Scalar.cmpi .slt v2202 c0_i32_873
  let c0_i32_874 : BitVec 32 := 0#32
  let v2205 : BitVec 1 := Scalar.cmpi .slt v2201 c0_i32_874
  let v2206 : BitVec 1 := Scalar.xori v2204 v2205
  let c0_i32_872 : BitVec 32 := 0#32
  let v2203 : BitVec 1 := Scalar.cmpi .ne v2202 c0_i32_872
  let v2207 : BitVec 1 := Scalar.andi v2206 v2203
  let v2208 : BitVec 32 := Scalar.addi v2202 v2201
  let v2209 : BitVec 32 := Scalar.select v2207 v2208 v2202
  let v2214 : Index := Scalar.indexCast v2209
  let c2560_876 : Index := 2560#32
  ![v2213.toNat, v2214.toNat, 2560]
def k0_off9 (i : grid0.Coords) (c0_i32_923 : BitVec 32) : Fin 3 → Nat :=
  let arg0 : BitVec 32 := BitVec.ofNat 32 (i 0).val
  let c3_i32_922 : BitVec 32 := 3#32
  let v2319 : BitVec 32 := Scalar.muli arg0 c3_i32_922
  let v2320 : BitVec 32 := Scalar.addi v2319 c0_i32_923
  let c0_i32_925 : BitVec 32 := 0#32
  let v2322 : BitVec 1 := Scalar.cmpi .sgt v2320 c0_i32_925
  let v2323 : BitVec 32 := Scalar.extui v2322
  let c0_i32_926 : BitVec 32 := 0#32
  let v2324 : BitVec 1 := Scalar.cmpi .slt v2320 c0_i32_926
  let v2325 : BitVec 32 := Scalar.extui v2324
  let v2326 : BitVec 32 := Scalar.subi v2323 v2325
  let c5_i32_924 : BitVec 32 := 5#32
  let c0_i32_927 : BitVec 32 := 0#32
  let v2327 : BitVec 1 := Scalar.cmpi .sgt c5_i32_924 c0_i32_927
  let v2328 : BitVec 32 := Scalar.extui v2327
  let c0_i32_928 : BitVec 32 := 0#32
  let v2329 : BitVec 1 := Scalar.cmpi .slt c5_i32_924 c0_i32_928
  let v2330 : BitVec 32 := Scalar.extui v2329
  let v2331 : BitVec 32 := Scalar.subi v2328 v2330
  let v2332 : BitVec 1 := Scalar.cmpi .ne v2326 v2331
  let v2333 : BitVec 32 := Scalar.remsi v2320 c5_i32_924
  let c0_i32_929 : BitVec 32 := 0#32
  let v2334 : BitVec 1 := Scalar.cmpi .ne v2333 c0_i32_929
  let v2335 : BitVec 1 := Scalar.andi v2332 v2334
  let v2321 : BitVec 32 := Scalar.divsi v2320 c5_i32_924
  let c1_i32_930 : BitVec 32 := 1#32
  let v2336 : BitVec 32 := Scalar.subi v2321 c1_i32_930
  let v2337 : BitVec 32 := Scalar.select v2335 v2336 v2321
  let v2351 : Index := Scalar.indexCast v2337
  let c5_i32_931 : BitVec 32 := 5#32
  let c0_i32_932 : BitVec 32 := 0#32
  let v2338 : BitVec 1 := Scalar.cmpi .eq c5_i32_931 c0_i32_932
  let c1_i32_933 : BitVec 32 := 1#32
  let v2339 : BitVec 32 := Scalar.select v2338 c1_i32_933 c5_i32_931
  let v2340 : BitVec 32 := Scalar.remsi v2320 v2339
  let c0_i32_935 : BitVec 32 := 0#32
  let v2342 : BitVec 1 := Scalar.cmpi .slt v2340 c0_i32_935
  let c0_i32_936 : BitVec 32 := 0#32
  let v2343 : BitVec 1 := Scalar.cmpi .slt v2339 c0_i32_936
  let v2344 : BitVec 1 := Scalar.xori v2342 v2343
  let c0_i32_934 : BitVec 32 := 0#32
  let v2341 : BitVec 1 := Scalar.cmpi .ne v2340 c0_i32_934
  let v2345 : BitVec 1 := Scalar.andi v2344 v2341
  let v2346 : BitVec 32 := Scalar.addi v2340 v2339
  let v2347 : BitVec 32 := Scalar.select v2345 v2346 v2340
  let v2352 : Index := Scalar.indexCast v2347
  let c3072_938 : Index := 3072#32
  ![v2351.toNat, v2352.toNat, 3072]
def k0_off10 (i : grid0.Coords) (c0_i32_985 : BitVec 32) : Fin 3 → Nat :=
  let arg0 : BitVec 32 := BitVec.ofNat 32 (i 0).val
  let c3_i32_984 : BitVec 32 := 3#32
  let v2457 : BitVec 32 := Scalar.muli arg0 c3_i32_984
  let v2458 : BitVec 32 := Scalar.addi v2457 c0_i32_985
  let c0_i32_987 : BitVec 32 := 0#32
  let v2460 : BitVec 1 := Scalar.cmpi .sgt v2458 c0_i32_987
  let v2461 : BitVec 32 := Scalar.extui v2460
  let c0_i32_988 : BitVec 32 := 0#32
  let v2462 : BitVec 1 := Scalar.cmpi .slt v2458 c0_i32_988
  let v2463 : BitVec 32 := Scalar.extui v2462
  let v2464 : BitVec 32 := Scalar.subi v2461 v2463
  let c5_i32_986 : BitVec 32 := 5#32
  let c0_i32_989 : BitVec 32 := 0#32
  let v2465 : BitVec 1 := Scalar.cmpi .sgt c5_i32_986 c0_i32_989
  let v2466 : BitVec 32 := Scalar.extui v2465
  let c0_i32_990 : BitVec 32 := 0#32
  let v2467 : BitVec 1 := Scalar.cmpi .slt c5_i32_986 c0_i32_990
  let v2468 : BitVec 32 := Scalar.extui v2467
  let v2469 : BitVec 32 := Scalar.subi v2466 v2468
  let v2470 : BitVec 1 := Scalar.cmpi .ne v2464 v2469
  let v2471 : BitVec 32 := Scalar.remsi v2458 c5_i32_986
  let c0_i32_991 : BitVec 32 := 0#32
  let v2472 : BitVec 1 := Scalar.cmpi .ne v2471 c0_i32_991
  let v2473 : BitVec 1 := Scalar.andi v2470 v2472
  let v2459 : BitVec 32 := Scalar.divsi v2458 c5_i32_986
  let c1_i32_992 : BitVec 32 := 1#32
  let v2474 : BitVec 32 := Scalar.subi v2459 c1_i32_992
  let v2475 : BitVec 32 := Scalar.select v2473 v2474 v2459
  let v2489 : Index := Scalar.indexCast v2475
  let c5_i32_993 : BitVec 32 := 5#32
  let c0_i32_994 : BitVec 32 := 0#32
  let v2476 : BitVec 1 := Scalar.cmpi .eq c5_i32_993 c0_i32_994
  let c1_i32_995 : BitVec 32 := 1#32
  let v2477 : BitVec 32 := Scalar.select v2476 c1_i32_995 c5_i32_993
  let v2478 : BitVec 32 := Scalar.remsi v2458 v2477
  let c0_i32_997 : BitVec 32 := 0#32
  let v2480 : BitVec 1 := Scalar.cmpi .slt v2478 c0_i32_997
  let c0_i32_998 : BitVec 32 := 0#32
  let v2481 : BitVec 1 := Scalar.cmpi .slt v2477 c0_i32_998
  let v2482 : BitVec 1 := Scalar.xori v2480 v2481
  let c0_i32_996 : BitVec 32 := 0#32
  let v2479 : BitVec 1 := Scalar.cmpi .ne v2478 c0_i32_996
  let v2483 : BitVec 1 := Scalar.andi v2482 v2479
  let v2484 : BitVec 32 := Scalar.addi v2478 v2477
  let v2485 : BitVec 32 := Scalar.select v2483 v2484 v2478
  let v2490 : Index := Scalar.indexCast v2485
  let c3584_1000 : Index := 3584#32
  ![v2489.toNat, v2490.toNat, 3584]
def k0_off11 (i : grid0.Coords) (c0_i32_1047 : BitVec 32) : Fin 3 → Nat :=
  let arg0 : BitVec 32 := BitVec.ofNat 32 (i 0).val
  let c3_i32_1046 : BitVec 32 := 3#32
  let v2595 : BitVec 32 := Scalar.muli arg0 c3_i32_1046
  let v2596 : BitVec 32 := Scalar.addi v2595 c0_i32_1047
  let c0_i32_1049 : BitVec 32 := 0#32
  let v2598 : BitVec 1 := Scalar.cmpi .sgt v2596 c0_i32_1049
  let v2599 : BitVec 32 := Scalar.extui v2598
  let c0_i32_1050 : BitVec 32 := 0#32
  let v2600 : BitVec 1 := Scalar.cmpi .slt v2596 c0_i32_1050
  let v2601 : BitVec 32 := Scalar.extui v2600
  let v2602 : BitVec 32 := Scalar.subi v2599 v2601
  let c5_i32_1048 : BitVec 32 := 5#32
  let c0_i32_1051 : BitVec 32 := 0#32
  let v2603 : BitVec 1 := Scalar.cmpi .sgt c5_i32_1048 c0_i32_1051
  let v2604 : BitVec 32 := Scalar.extui v2603
  let c0_i32_1052 : BitVec 32 := 0#32
  let v2605 : BitVec 1 := Scalar.cmpi .slt c5_i32_1048 c0_i32_1052
  let v2606 : BitVec 32 := Scalar.extui v2605
  let v2607 : BitVec 32 := Scalar.subi v2604 v2606
  let v2608 : BitVec 1 := Scalar.cmpi .ne v2602 v2607
  let v2609 : BitVec 32 := Scalar.remsi v2596 c5_i32_1048
  let c0_i32_1053 : BitVec 32 := 0#32
  let v2610 : BitVec 1 := Scalar.cmpi .ne v2609 c0_i32_1053
  let v2611 : BitVec 1 := Scalar.andi v2608 v2610
  let v2597 : BitVec 32 := Scalar.divsi v2596 c5_i32_1048
  let c1_i32_1054 : BitVec 32 := 1#32
  let v2612 : BitVec 32 := Scalar.subi v2597 c1_i32_1054
  let v2613 : BitVec 32 := Scalar.select v2611 v2612 v2597
  let v2627 : Index := Scalar.indexCast v2613
  let c5_i32_1055 : BitVec 32 := 5#32
  let c0_i32_1056 : BitVec 32 := 0#32
  let v2614 : BitVec 1 := Scalar.cmpi .eq c5_i32_1055 c0_i32_1056
  let c1_i32_1057 : BitVec 32 := 1#32
  let v2615 : BitVec 32 := Scalar.select v2614 c1_i32_1057 c5_i32_1055
  let v2616 : BitVec 32 := Scalar.remsi v2596 v2615
  let c0_i32_1059 : BitVec 32 := 0#32
  let v2618 : BitVec 1 := Scalar.cmpi .slt v2616 c0_i32_1059
  let c0_i32_1060 : BitVec 32 := 0#32
  let v2619 : BitVec 1 := Scalar.cmpi .slt v2615 c0_i32_1060
  let v2620 : BitVec 1 := Scalar.xori v2618 v2619
  let c0_i32_1058 : BitVec 32 := 0#32
  let v2617 : BitVec 1 := Scalar.cmpi .ne v2616 c0_i32_1058
  let v2621 : BitVec 1 := Scalar.andi v2620 v2617
  let v2622 : BitVec 32 := Scalar.addi v2616 v2615
  let v2623 : BitVec 32 := Scalar.select v2621 v2622 v2616
  let v2628 : Index := Scalar.indexCast v2623
  let c4096_1062 : Index := 4096#32
  ![v2627.toNat, v2628.toNat, 4096]
def k0_off12 (i : grid0.Coords) (c0_i32_1109 : BitVec 32) : Fin 3 → Nat :=
  let arg0 : BitVec 32 := BitVec.ofNat 32 (i 0).val
  let c3_i32_1108 : BitVec 32 := 3#32
  let v2733 : BitVec 32 := Scalar.muli arg0 c3_i32_1108
  let v2734 : BitVec 32 := Scalar.addi v2733 c0_i32_1109
  let c0_i32_1111 : BitVec 32 := 0#32
  let v2736 : BitVec 1 := Scalar.cmpi .sgt v2734 c0_i32_1111
  let v2737 : BitVec 32 := Scalar.extui v2736
  let c0_i32_1112 : BitVec 32 := 0#32
  let v2738 : BitVec 1 := Scalar.cmpi .slt v2734 c0_i32_1112
  let v2739 : BitVec 32 := Scalar.extui v2738
  let v2740 : BitVec 32 := Scalar.subi v2737 v2739
  let c5_i32_1110 : BitVec 32 := 5#32
  let c0_i32_1113 : BitVec 32 := 0#32
  let v2741 : BitVec 1 := Scalar.cmpi .sgt c5_i32_1110 c0_i32_1113
  let v2742 : BitVec 32 := Scalar.extui v2741
  let c0_i32_1114 : BitVec 32 := 0#32
  let v2743 : BitVec 1 := Scalar.cmpi .slt c5_i32_1110 c0_i32_1114
  let v2744 : BitVec 32 := Scalar.extui v2743
  let v2745 : BitVec 32 := Scalar.subi v2742 v2744
  let v2746 : BitVec 1 := Scalar.cmpi .ne v2740 v2745
  let v2747 : BitVec 32 := Scalar.remsi v2734 c5_i32_1110
  let c0_i32_1115 : BitVec 32 := 0#32
  let v2748 : BitVec 1 := Scalar.cmpi .ne v2747 c0_i32_1115
  let v2749 : BitVec 1 := Scalar.andi v2746 v2748
  let v2735 : BitVec 32 := Scalar.divsi v2734 c5_i32_1110
  let c1_i32_1116 : BitVec 32 := 1#32
  let v2750 : BitVec 32 := Scalar.subi v2735 c1_i32_1116
  let v2751 : BitVec 32 := Scalar.select v2749 v2750 v2735
  let v2765 : Index := Scalar.indexCast v2751
  let c5_i32_1117 : BitVec 32 := 5#32
  let c0_i32_1118 : BitVec 32 := 0#32
  let v2752 : BitVec 1 := Scalar.cmpi .eq c5_i32_1117 c0_i32_1118
  let c1_i32_1119 : BitVec 32 := 1#32
  let v2753 : BitVec 32 := Scalar.select v2752 c1_i32_1119 c5_i32_1117
  let v2754 : BitVec 32 := Scalar.remsi v2734 v2753
  let c0_i32_1121 : BitVec 32 := 0#32
  let v2756 : BitVec 1 := Scalar.cmpi .slt v2754 c0_i32_1121
  let c0_i32_1122 : BitVec 32 := 0#32
  let v2757 : BitVec 1 := Scalar.cmpi .slt v2753 c0_i32_1122
  let v2758 : BitVec 1 := Scalar.xori v2756 v2757
  let c0_i32_1120 : BitVec 32 := 0#32
  let v2755 : BitVec 1 := Scalar.cmpi .ne v2754 c0_i32_1120
  let v2759 : BitVec 1 := Scalar.andi v2758 v2755
  let v2760 : BitVec 32 := Scalar.addi v2754 v2753
  let v2761 : BitVec 32 := Scalar.select v2759 v2760 v2754
  let v2766 : Index := Scalar.indexCast v2761
  let c4608_1124 : Index := 4608#32
  ![v2765.toNat, v2766.toNat, 4608]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S576x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S5x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x5120 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S384x5120 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x5120 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x5x5120 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x5x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S384x576 .fp8e5m2 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x5 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S3x640x5120 : Shape := ⟨3, ![3, 640, 5120]⟩
abbrev S3x640x40 : Shape := ⟨3, ![3, 640, 40]⟩
abbrev S576x5120 : Shape := ⟨2, ![576, 5120]⟩
abbrev S5x40 : Shape := ⟨2, ![5, 40]⟩
abbrev S512 : Shape := ⟨1, ![512]⟩
abbrev S3x640 : Shape := ⟨2, ![3, 640]⟩
abbrev S3x640x512 : Shape := ⟨3, ![3, 640, 512]⟩
abbrev S3x640x64 : Shape := ⟨3, ![3, 640, 64]⟩
abbrev S5120 : Shape := ⟨1, ![5120]⟩
abbrev S32 : Shape := ⟨1, ![32]⟩
abbrev S_ : Shape := ⟨0, ![]⟩
abbrev S1x32 : Shape := ⟨2, ![1, 32]⟩
abbrev S1920x5120 : Shape := ⟨2, ![1920, 5120]⟩
abbrev S1920x40 : Shape := ⟨2, ![1920, 40]⟩
abbrev S1x512 : Shape := ⟨2, ![1, 512]⟩
abbrev S1920x1 : Shape := ⟨2, ![1920, 1]⟩
abbrev S1920x512 : Shape := ⟨2, ![1920, 512]⟩
abbrev S1920x64 : Shape := ⟨2, ![1920, 64]⟩
abbrev S1x5120 : Shape := ⟨2, ![1, 5120]⟩
abbrev S3x5x5120 : Shape := ⟨3, ![3, 5, 5120]⟩
abbrev S3x5x512 : Shape := ⟨3, ![3, 5, 512]⟩
abbrev S1920x576 : Shape := ⟨2, ![1920, 576]⟩
abbrev S1920x5 : Shape := ⟨2, ![1920, 5]⟩
abbrev S512x5120 : Shape := ⟨2, ![512, 5120]⟩
abbrev S4x128x40x128 : Shape := ⟨4, ![4, 128, 40, 128]⟩
abbrev S4x40 : Shape := ⟨2, ![4, 40]⟩
abbrev S4x1x40x1 : Shape := ⟨4, ![4, 1, 40, 1]⟩
abbrev S64x5120 : Shape := ⟨2, ![64, 5120]⟩
abbrev S64x40x128 : Shape := ⟨3, ![64, 40, 128]⟩
abbrev S1x40 : Shape := ⟨2, ![1, 40]⟩
abbrev S1x40x1 : Shape := ⟨3, ![1, 40, 1]⟩
abbrev S1920x40x128 : Shape := ⟨3, ![1920, 40, 128]⟩
abbrev S1920x40x1 : Shape := ⟨3, ![1920, 40, 1]⟩
abbrev S1920 : Shape := ⟨1, ![1920]⟩
abbrev S3x5x128x512 : Shape := ⟨4, ![3, 5, 128, 512]⟩
abbrev S1920x32 : Shape := ⟨2, ![1920, 32]⟩
abbrev S1920x32x2 : Shape := ⟨3, ![1920, 32, 2]⟩
abbrev S1920x32x1 : Shape := ⟨3, ![1920, 32, 1]⟩
abbrev S1920x4x128 : Shape := ⟨3, ![1920, 4, 128]⟩
abbrev S1920x4 : Shape := ⟨2, ![1920, 4]⟩
abbrev S1920x4x1 : Shape := ⟨3, ![1920, 4, 1]⟩
abbrev S3x5x128x5120 : Shape := ⟨4, ![3, 5, 128, 5120]⟩

abbrev nBuf : Space → Nat
  | .hbm => 42
  | .vmem => 17
  | .smem => 0
  | _ => 0

abbrev bufTy : (tb : Table) → Fin (tcTables nBuf tb) → BufTy
  | .hbm, ⟨0, _⟩ => ⟨S3x640x5120, .fp8e4m3⟩
  | .hbm, ⟨1, _⟩ => ⟨S3x640x40, .f32⟩
  | .hbm, ⟨2, _⟩ => ⟨S576x5120, .fp8e4m3⟩
  | .hbm, ⟨3, _⟩ => ⟨S5x40, .f32⟩
  | .hbm, ⟨4, _⟩ => ⟨S512, .f32⟩
  | .hbm, ⟨5, _⟩ => ⟨S3x640, .i32⟩
  | .hbm, ⟨6, _⟩ => ⟨S3x640x512, .bf16⟩
  | .hbm, ⟨7, _⟩ => ⟨S3x640x64, .bf16⟩
  | .hbm, ⟨8, _⟩ => ⟨S3x640x5120, .bf16⟩
  | .hbm, ⟨9, _⟩ => ⟨S5120, .f32⟩
  | .hbm, ⟨10, _⟩ => ⟨S3x640x5120, .bf16⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S1x32, .f32⟩
  | .hbm, ⟨28, _⟩ => ⟨S1920x5120, .fp8e4m3⟩
  | .hbm, ⟨29, _⟩ => ⟨S1920x40, .f32⟩
  | .hbm, ⟨30, _⟩ => ⟨S1x512, .f32⟩
  | .hbm, ⟨31, _⟩ => ⟨S1920x1, .i32⟩
  | .hbm, ⟨32, _⟩ => ⟨S1920x512, .bf16⟩
  | .hbm, ⟨33, _⟩ => ⟨S1920x64, .bf16⟩
  | .hbm, ⟨34, _⟩ => ⟨S1920x5120, .bf16⟩
  | .hbm, ⟨35, _⟩ => ⟨S1x5120, .f32⟩
  | .hbm, ⟨36, _⟩ => ⟨S1920x5120, .bf16⟩
  | .hbm, ⟨37, _⟩ => ⟨S1920x5120, .bf16⟩
  | .hbm, ⟨38, _⟩ => ⟨S3x5x5120, .f32⟩
  | .hbm, ⟨39, _⟩ => ⟨S3x5x512, .f32⟩
  | .hbm, ⟨40, _⟩ => ⟨S1920x576, .fp8e5m2⟩
  | .hbm, ⟨41, _⟩ => ⟨S1920x5, .f32⟩
  | .local _ .vmem, ⟨0, _⟩ => ⟨S1920x5120, .fp8e4m3⟩
  | .local _ .vmem, ⟨1, _⟩ => ⟨S1920x40, .f32⟩
  | .local _ .vmem, ⟨2, _⟩ => ⟨S576x5120, .fp8e4m3⟩
  | .local _ .vmem, ⟨3, _⟩ => ⟨S5x40, .f32⟩
  | .local _ .vmem, ⟨4, _⟩ => ⟨S1x512, .f32⟩
  | .local _ .vmem, ⟨5, _⟩ => ⟨S1x32, .f32⟩
  | .local _ .vmem, ⟨6, _⟩ => ⟨S1920x1, .i32⟩
  | .local _ .vmem, ⟨7, _⟩ => ⟨S1920x512, .bf16⟩
  | .local _ .vmem, ⟨8, _⟩ => ⟨S1920x64, .bf16⟩
  | .local _ .vmem, ⟨9, _⟩ => ⟨S1920x5120, .bf16⟩
  | .local _ .vmem, ⟨10, _⟩ => ⟨S1x5120, .f32⟩
  | .local _ .vmem, ⟨11, _⟩ => ⟨S1920x5120, .bf16⟩
  | .local _ .vmem, ⟨12, _⟩ => ⟨S1920x5120, .bf16⟩
  | .local _ .vmem, ⟨13, _⟩ => ⟨S3x5x5120, .f32⟩
  | .local _ .vmem, ⟨14, _⟩ => ⟨S3x5x512, .f32⟩
  | .local _ .vmem, ⟨15, _⟩ => ⟨S1920x576, .fp8e5m2⟩
  | .local _ .vmem, ⟨16, _⟩ => ⟨S1920x5, .f32⟩
  | _, _ => ⟨S3x640x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S1920x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1920x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1920x5120 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1920x5120 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1920x5120 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x5x5120 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x5x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1920x576 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1920x5 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.KernelCases.lean ====
/-
  The two cases of the kernel body: the first grid point (which scales the weights into the scratch) and the later ones.
-/
module

public import proofs.«01_k».proof.Proof.Gen.Kernel.Frame
public import proofs.«01_k».proof.Proof.Gen.Kernel.Skeleton

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body scales the weights into the scratch. -/
abbrev first (i : grid0.Coords) : Prop := (Scalar.cmpi .ne (Scalar.extui (Scalar.cmpi .eq (BitVec.ofNat 32 (i 0).val) 0#32)) 0#32) = 1#1

/-- It holds at the first point only. -/
theorem first_iff : ∀ t : Fin cfg0.N, first (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [first, e0]
    word_cmp
   : ∀ t : Fin grid0.N, first (grid0.coords t) ↔ t.val % 5 = 0)

end Cert.Kernel.Body

end
-- ==== Proof.KernelFirst.lean ====
/-
  The kernel body run once, at the first grid point.
-/
module

public import proofs.«01_k».proof.Proof.KernelCases
public import proofs.«01_k».proof.Proof.Gen.Kernel.Skeleton

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple AT THE FIRST POINT (the conditional taken: the weights are scaled into the scratch): on whole memrefs, the inputs' at their contents, the results' and the scratch buffers' at
    anything, the body runs to the continuation holding the inputs' as they were and the others at some contents. -/
theorem bodyA (c : Dev nD) (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) (hc0 : first i)
    (x0 : Vec F S384x5120 .fp8e4m3) (x1 : Vec F S384x40 .f32) (x2 : Vec F S576x5120 .fp8e4m3) (x3 : Vec F S5x40 .f32) (x4 : Vec F S1x512 .f32) (x5 : Vec F S32x1 .f32) (x6 : Vec F S3x5x128 .i32) (x7 : Vec F S384x512 .bf16) (x8 : Vec F S384x64 .bf16) (x9 : Vec F S384x5120 .bf16) (x10 : Vec F S1x5120 .f32) (x11 : Vec F S384x5120 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_mla_kv_bwd_eq_skeleton]; unfold cc0_mla_kv_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Body

end
-- ==== Proof.KernelLater.lean ====
/-
  The kernel body run once, at a generic later grid point.
-/
module

public import proofs.«01_k».proof.Proof.KernelCases
public import proofs.«01_k».proof.Proof.Gen.Kernel.Skeleton

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple AT A LATER POINT (the conditional not taken): on whole memrefs, the inputs' at their contents, the results' and the scratch buffers' at
    anything, the body runs to the continuation holding the inputs' as they were and the others at some contents. -/
theorem bodyB (c : Dev nD) (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) (hc0 : ¬first i)
    (x0 : Vec F S384x5120 .fp8e4m3) (x1 : Vec F S384x40 .f32) (x2 : Vec F S576x5120 .fp8e4m3) (x3 : Vec F S5x40 .f32) (x4 : Vec F S1x512 .f32) (x5 : Vec F S32x1 .f32) (x6 : Vec F S3x5x128 .i32) (x7 : Vec F S384x512 .bf16) (x8 : Vec F S384x64 .bf16) (x9 : Vec F S384x5120 .bf16) (x10 : Vec F S1x5120 .f32) (x11 : Vec F S384x5120 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_mla_kv_bwd_eq_skeleton]; unfold cc0_mla_kv_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Body

end
-- ==== Proof.KernelFrame.lean ====
/-
  The frame: every run of the kernel's program ends, with its arguments unchanged and every semaphore at zero.
-/
module

public import proofs.«01_k».proof.Proof.KernelFirst
public import proofs.«01_k».proof.Proof.KernelLater
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S384x5120 .fp8e4m3 := win0_0.stage (cfg0.slots t 0)
abbrev ms1 (t : Fin cfg0.N) : Memref sig .tc .vmem S384x40 .f32 := win0_1.stage (cfg0.slots t 1)
abbrev ms2 (t : Fin cfg0.N) : Memref sig .tc .vmem S576x5120 .fp8e4m3 := win0_2.stage (cfg0.slots t 2)
abbrev ms3 (t : Fin cfg0.N) : Memref sig .tc .smem S5x40 .f32 := win0_3.stage (cfg0.slots t 3)
abbrev ms4 (t : Fin cfg0.N) : Memref sig .tc .vmem S1x512 .f32 := win0_4.stage (cfg0.slots t 4)
abbrev ms5 (t : Fin cfg0.N) : Memref sig .tc .vmem S32x1 .f32 := win0_5.stage (cfg0.slots t 5)
abbrev ms6 (t : Fin cfg0.N) : Memref sig .tc .vmem S3x5x128 .i32 := win0_6.stage (cfg0.slots t 6)
abbrev ms7 (t : Fin cfg0.N) : Memref sig .tc .vmem S384x512 .bf16 := win0_7.stage (cfg0.slots t 7)
abbrev ms8 (t : Fin cfg0.N) : Memref sig .tc .vmem S384x64 .bf16 := win0_8.stage (cfg0.slots t 8)
abbrev ms9 (t : Fin cfg0.N) : Memref sig .tc .vmem S384x5120 .bf16 := win0_9.stage (cfg0.slots t 9)
abbrev ms10 (t : Fin cfg0.N) : Memref sig .tc .vmem S1x5120 .f32 := win0_10.stage (cfg0.slots t 10)
abbrev ms11 (t : Fin cfg0.N) : Memref sig .tc .vmem S384x5120 .bf16 := win0_11.stage (cfg0.slots t 11)
abbrev ms12 (t : Fin cfg0.N) : Memref sig .tc .vmem S384x5120 .bf16 := win0_12.stage (cfg0.slots t 12)
abbrev ms13 (t : Fin cfg0.N) : Memref sig .tc .vmem S3x5x5120 .f32 := win0_13.stage (cfg0.slots t 13)
abbrev ms14 (t : Fin cfg0.N) : Memref sig .tc .vmem S3x5x512 .f32 := win0_14.stage (cfg0.slots t 14)
abbrev ms15 (t : Fin cfg0.N) : Memref sig .tc .vmem S384x576 .fp8e5m2 := win0_15.stage (cfg0.slots t 15)
abbrev ms16 (t : Fin cfg0.N) : Memref sig .tc .vmem S384x5 .f32 := win0_16.stage (cfg0.slots t 16)
abbrev sc0 : Memref sig .tc .vmem S576x5120 .bf16 := Memref.whole cc0_scratch0
abbrev sc1 : Memref sig .tc .vmem S384x5120 .bf16 := Memref.whole cc0_scratch1
abbrev sc2 : Memref sig .tc .vmem S384x5120 .f32 := Memref.whole cc0_scratch2
abbrev sc3 : Memref sig .tc .vmem S64x128 .f32 := Memref.whole cc0_scratch3

/-- What the body may use beside the windows: the scratch memrefs at some contents, and the generator's register. -/
theorem rest_eq (c : Dev nD) :
    (Pipeline.ΦA spec0 c : sProp 𝕄)
      = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The proof data -/

/-- The windows whose contents the frame does not name: the results'. -/
def forgets : Fin 17 → Bool := fun w => w.val == 12 || w.val == 13 || w.val == 14 || w.val == 15 || w.val == 16

/-- The proof data on core `c`: each input's buffer at its block after every point, the results' at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q _ := fullShare
  owed _ := 0

/-- Its arrays are those at the kernel's entry. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d))
    ∗ (∃ d, owns (c : Thread nD τ) (ms12 t) fullShare d) ∗ (∃ d, owns (c : Thread nD τ) (ms13 t) fullShare d) ∗ (∃ d, owns (c : Thread nD τ) (ms14 t) fullShare d) ∗ (∃ d, owns (c : Thread nD τ) (ms15 t) fullShare d) ∗ (∃ d, owns (c : Thread nD τ) (ms16 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t)
    ∗ (∃ d, owns (c : Thread nD τ) (ms12 t) fullShare d) ∗ (∃ d, owns (c : Thread nD τ) (ms13 t) fullShare d) ∗ (∃ d, owns (c : Thread nD τ) (ms14 t) fullShare d) ∗ (∃ d, owns (c : Thread nD τ) (ms15 t) fullShare d) ∗ (∃ d, owns (c : Thread nD τ) (ms16 t) fullShare d))

set_option maxHeartbeats 3200000 in
/-- The body at any point: the inputs' memrefs hold their blocks, and the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, rest_eq]
  by_cases h0 : t.val % 5 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((bodyA c (grid0.coords t) _ _ _ _ _ _ _ _ _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((bodyB c (grid0.coords t) _ _ _ _ _ _ _ _ _ _ _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- Every run ends with the pipeline's inputs and the other unscoped buffers as they were, and every semaphore at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (fun c => (dats m 0 c).toRForget forgets) (V m)) :=
  (θ_run defs _ _).mono (fun _ h => h.1) (run_main_quiescent m ρ)

/-- Every run ends with the argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

/-- THE FRAME: every run ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Body

end
-- ==== Proof.KernelIdealCases.lean ====
/-
  The two cases of the kernel body: the first grid point (which scales the weights into the scratch) and the later ones.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body scales the weights into the scratch. -/
abbrev first (i : grid0.Coords) : Prop := (Scalar.cmpi .ne (Scalar.extui (Scalar.cmpi .eq (BitVec.ofNat 32 (i 0).val) 0#32)) 0#32) = 1#1

/-- It holds at the first point only. -/
theorem first_iff : ∀ t : Fin cfg0.N, first (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [first, e0]
    word_cmp
   : ∀ t : Fin grid0.N, first (grid0.coords t) ↔ t.val % 5 = 0)

end Cert.KernelIdeal.Body

end
-- ==== Proof.KernelIdealFirst.lean ====
/-
  The kernel body run once, at the first grid point.
-/
module

public import proofs.«01_k».proof.Proof.KernelIdealCases
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple AT THE FIRST POINT (the conditional taken: the weights are scaled into the scratch): on whole memrefs, the inputs' at their contents, the results' and the scratch buffers' at
    anything, the body runs to the continuation holding the inputs' as they were and the others at some contents. -/
theorem bodyA (c : Dev nD) (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) (hc0 : first i)
    (x0 : Vec F S384x5120 .fp8e4m3) (x1 : Vec F S384x40 .f32) (x2 : Vec F S576x5120 .fp8e4m3) (x3 : Vec F S5x40 .f32) (x4 : Vec F S1x512 .f32) (x5 : Vec F S32x1 .f32) (x6 : Vec F S3x5x128 .i32) (x7 : Vec F S384x512 .bf16) (x8 : Vec F S384x64 .bf16) (x9 : Vec F S384x5120 .bf16) (x10 : Vec F S1x5120 .f32) (x11 : Vec F S384x5120 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_mla_kv_bwd_eq_skeleton]; unfold cc0_mla_kv_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Body

end
-- ==== Proof.KernelIdealLater.lean ====
/-
  The kernel body run once, at a generic later grid point.
-/
module

public import proofs.«01_k».proof.Proof.KernelIdealCases
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple AT A LATER POINT (the conditional not taken): on whole memrefs, the inputs' at their contents, the results' and the scratch buffers' at
    anything, the body runs to the continuation holding the inputs' as they were and the others at some contents. -/
theorem bodyB (c : Dev nD) (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) (hc0 : ¬first i)
    (x0 : Vec F S384x5120 .fp8e4m3) (x1 : Vec F S384x40 .f32) (x2 : Vec F S576x5120 .fp8e4m3) (x3 : Vec F S5x40 .f32) (x4 : Vec F S1x512 .f32) (x5 : Vec F S32x1 .f32) (x6 : Vec F S3x5x128 .i32) (x7 : Vec F S384x512 .bf16) (x8 : Vec F S384x64 .bf16) (x9 : Vec F S384x5120 .bf16) (x10 : Vec F S1x5120 .f32) (x11 : Vec F S384x5120 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_mla_kv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_mla_kv_bwd_eq_skeleton]; unfold cc0_mla_kv_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Body

end
-- ==== Proof.KernelIdealFrame.lean ====
/-
  The frame: every run of the kernel's program ends, with its arguments unchanged and every semaphore at zero.
-/
module

public import proofs.«01_k».proof.Proof.KernelIdealFirst
public import proofs.«01_k».proof.Proof.KernelIdealLater
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S384x5120 .fp8e4m3 := win0_0.stage (cfg0.slots t 0)
abbrev ms1 (t : Fin cfg0.N) : Memref sig .tc .vmem S384x40 .f32 := win0_1.stage (cfg0.slots t 1)
abbrev ms2 (t : Fin cfg0.N) : Memref sig .tc .vmem S576x5120 .fp8e4m3 := win0_2.stage (cfg0.slots t 2)
abbrev ms3 (t : Fin cfg0.N) : Memref sig .tc .smem S5x40 .f32 := win0_3.stage (cfg0.slots t 3)
abbrev ms4 (t : Fin cfg0.N) : Memref sig .tc .vmem S1x512 .f32 := win0_4.stage (cfg0.slots t 4)
abbrev ms5 (t : Fin cfg0.N) : Memref sig .tc .vmem S32x1 .f32 := win0_5.stage (cfg0.slots t 5)
abbrev ms6 (t : Fin cfg0.N) : Memref sig .tc .vmem S3x5x128 .i32 := win0_6.stage (cfg0.slots t 6)
abbrev ms7 (t : Fin cfg0.N) : Memref sig .tc .vmem S384x512 .bf16 := win0_7.stage (cfg0.slots t 7)
abbrev ms8 (t : Fin cfg0.N) : Memref sig .tc .vmem S384x64 .bf16 := win0_8.stage (cfg0.slots t 8)
abbrev ms9 (t : Fin cfg0.N) : Memref sig .tc .vmem S384x5120 .bf16 := win0_9.stage (cfg0.slots t 9)
abbrev ms10 (t : Fin cfg0.N) : Memref sig .tc .vmem S1x5120 .f32 := win0_10.stage (cfg0.slots t 10)
abbrev ms11 (t : Fin cfg0.N) : Memref sig .tc .vmem S384x5120 .bf16 := win0_11.stage (cfg0.slots t 11)
abbrev ms12 (t : Fin cfg0.N) : Memref sig .tc .vmem S384x5120 .bf16 := win0_12.stage (cfg0.slots t 12)
abbrev ms13 (t : Fin cfg0.N) : Memref sig .tc .vmem S3x5x5120 .f32 := win0_13.stage (cfg0.slots t 13)
abbrev ms14 (t : Fin cfg0.N) : Memref sig .tc .vmem S3x5x512 .f32 := win0_14.stage (cfg0.slots t 14)
abbrev ms15 (t : Fin cfg0.N) : Memref sig .tc .vmem S384x576 .fp8e5m2 := win0_15.stage (cfg0.slots t 15)
abbrev ms16 (t : Fin cfg0.N) : Memref sig .tc .vmem S384x5 .f32 := win0_16.stage (cfg0.slots t 16)
abbrev sc0 : Memref sig .tc .vmem S576x5120 .bf16 := Memref.whole cc0_scratch0
abbrev sc1 : Memref sig .tc .vmem S384x5120 .bf16 := Memref.whole cc0_scratch1
abbrev sc2 : Memref sig .tc .vmem S384x5120 .f32 := Memref.whole cc0_scratch2
abbrev sc3 : Memref sig .tc .vmem S64x128 .f32 := Memref.whole cc0_scratch3

/-- What the body may use beside the windows: the scratch memrefs at some contents, and the generator's register. -/
theorem rest_eq (c : Dev nD) :
    (Pipeline.ΦA spec0 c : sProp 𝕄)
      = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The proof data -/

/-- The windows whose contents the frame does not name: the results'. -/
def forgets : Fin 17 → Bool := fun w => w.val == 12 || w.val == 13 || w.val == 14 || w.val == 15 || w.val == 16

/-- The proof data on core `c`: each input's buffer at its block after every point, the results' at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q _ := fullShare
  owed _ := 0

/-- Its arrays are those at the kernel's entry. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d))
    ∗ (∃ d, owns (c : Thread nD τ) (ms12 t) fullShare d) ∗ (∃ d, owns (c : Thread nD τ) (ms13 t) fullShare d) ∗ (∃ d, owns (c : Thread nD τ) (ms14 t) fullShare d) ∗ (∃ d, owns (c : Thread nD τ) (ms15 t) fullShare d) ∗ (∃ d, owns (c : Thread nD τ) (ms16 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t)
    ∗ (∃ d, owns (c : Thread nD τ) (ms12 t) fullShare d) ∗ (∃ d, owns (c : Thread nD τ) (ms13 t) fullShare d) ∗ (∃ d, owns (c : Thread nD τ) (ms14 t) fullShare d) ∗ (∃ d, owns (c : Thread nD τ) (ms15 t) fullShare d) ∗ (∃ d, owns (c : Thread nD τ) (ms16 t) fullShare d))

set_option maxHeartbeats 3200000 in
/-- The body at any point: the inputs' memrefs hold their blocks, and the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, rest_eq]
  by_cases h0 : t.val % 5 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((bodyA c (grid0.coords t) _ _ _ _ _ _ _ _ _ _ _ _ _ _ _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((bodyB c (grid0.coords t) _ _ _ _ _ _ _ _ _ _ _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- Every run ends with the pipeline's inputs and the other unscoped buffers as they were, and every semaphore at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (fun c => (dats m 0 c).toRForget forgets) (V m)) :=
  (θ_run defs _ _).mono (fun _ h => h.1) (run_main_quiescent m ρ)

/-- Every run ends with the argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

/-- THE FRAME: every run ends with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Body

end
-- ==== Proof.HostVals.lean ====
/-
  What the two programs' regions find in the arrays that the host lines before them write, in terms of the arguments.
-/
module

public import proofs.«01_k».proof.Proof.Gen.KernelIdeal.Frame
public import proofs.«01_k».proof.Proof.Gen.ReferenceIdeal.Frame
public import Idealize.ShloMosaic.Lib.StableHlo.Run
public import Idealize.ShloMosaic.Lib.Pipeline.ValueKit

@[expose] public section

noncomputable section

namespace Cert.Host

open Idealize.ShloMosaic Idealize.ShloMosaic.TcCoe Idealize.ShloMosaic.Tactic
open Idealize.SL Idealize.SL.Sem

/-- The rotation's frequencies. -/
def freqs : Vec Ideal ⟨1, ![32]⟩ .f32 :=
  Host.divf (F := Ideal) (φ := .f32) (fun _ => Ideal.ofBits .f32 0x3F800000#32)
    (Host.powf (F := Ideal) (φ := .f32) (fun _ => Ideal.ofBits .f32 0x461C4000#32)
      (Host.divf (F := Ideal) (φ := .f32)
        (addf (F := Ideal) (φ := .f32) (fun _ => Ideal.ofBits .f32 0x00000000#32)
          (mulf (F := Ideal) (φ := .f32) (fun _ => Ideal.ofBits .f32 0x40000000#32) (sitofp (F := Ideal) .f32 (iotaInDim ⟨1, ![32]⟩ 32 0))))
        (fun _ => Ideal.ofBits .f32 0x42800000#32)))

section Kernel
open Cert.KernelIdeal Cert.KernelIdeal.Gen
variable (m : (ℓ : Loc nD τ sig) → Buf (Elt Ideal) ℓ) (c : Dev nD)

theorem k11 : V m c main_v11 = shapeCast S32x1 freqs shapeCasts_S32_S32x1 := by
  unfold_abbrev_sides
  after_results
  rfl

theorem k12 : V m c main_v12 = shapeCast S1920x5120 (m ((c : Thread nD τ).loc main_arg0) : Vec Ideal S3x640x5120 .fp8e4m3) shapeCasts_S3x640x5120_S1920x5120 := by
  unfold_abbrev_sides
  after_results
  rfl

theorem k13 : V m c main_v13 = shapeCast S1920x40 (m ((c : Thread nD τ).loc main_arg1) : Vec Ideal S3x640x40 .f32) shapeCasts_S3x640x40_S1920x40 := by
  unfold_abbrev_sides
  after_results
  rfl

theorem k14 : V m c main_v14 = shapeCast S1x512 (m ((c : Thread nD τ).loc main_arg4) : Vec Ideal S512 .f32) shapeCasts_S512_S1x512 := by
  unfold_abbrev_sides
  after_results
  rfl

theorem k15 : V m c main_v15 = shapeCast S3x5x128 (m ((c : Thread nD τ).loc main_arg5) : Vec Ideal S3x640 .i32) shapeCasts_S3x640_S3x5x128 := by
  unfold_abbrev_sides
  after_results
  rfl

theorem k16 : V m c main_v16 = shapeCast S1920x512 (m ((c : Thread nD τ).loc main_arg6) : Vec Ideal S3x640x512 .bf16) shapeCasts_S3x640x512_S1920x512 := by
  unfold_abbrev_sides
  after_results
  rfl

theorem k17 : V m c main_v17 = shapeCast S1920x64 (m ((c : Thread nD τ).loc main_arg7) : Vec Ideal S3x640x64 .bf16) shapeCasts_S3x640x64_S1920x64 := by
  unfold_abbrev_sides
  after_results
  rfl

theorem k18 : V m c main_v18 = shapeCast S1920x5120 (m ((c : Thread nD τ).loc main_arg8) : Vec Ideal S3x640x5120 .bf16) shapeCasts_S3x640x5120_S1920x5120 := by
  unfold_abbrev_sides
  after_results
  rfl

theorem k19 : V m c main_v19 = shapeCast S1x5120 (m ((c : Thread nD τ).loc main_arg9) : Vec Ideal S5120 .f32) shapeCasts_S5120_S1x5120 := by
  unfold_abbrev_sides
  after_results
  rfl

theorem k20 : V m c main_v20 = shapeCast S1920x5120 (m ((c : Thread nD τ).loc main_arg10) : Vec Ideal S3x640x5120 .bf16) shapeCasts_S3x640x5120_S1920x5120 := by
  unfold_abbrev_sides
  after_results
  rfl

end Kernel

section Reference
open Cert.ReferenceIdeal Cert.ReferenceIdeal.Gen
variable (m : (ℓ : Loc nD τ sig) → Buf (Elt Ideal) ℓ) (c : Dev nD)

theorem r11 : V m c main_v11 = shapeCast S1x32 freqs shapeCasts_S32_S1x32 := by
  unfold_abbrev_sides
  after_results
  rfl

theorem r12 : V m c main_v12 = shapeCast S1920x5120 (m ((c : Thread nD τ).loc main_arg0) : Vec Ideal S3x640x5120 .fp8e4m3) shapeCasts_S3x640x5120_S1920x5120 := by
  unfold_abbrev_sides
  after_results
  rfl

theorem r13 : V m c main_v13 = shapeCast S1920x40 (m ((c : Thread nD τ).loc main_arg1) : Vec Ideal S3x640x40 .f32) shapeCasts_S3x640x40_S1920x40 := by
  unfold_abbrev_sides
  after_results
  rfl

theorem r14 : V m c main_v14 = shapeCast S1x512 (m ((c : Thread nD τ).loc main_arg4) : Vec Ideal S512 .f32) shapeCasts_S512_S1x512 := by
  unfold_abbrev_sides
  after_results
  rfl

theorem r15 : V m c main_v15 = shapeCast S1920x1 (m ((c : Thread nD τ).loc main_arg5) : Vec Ideal S3x640 .i32) shapeCasts_S3x640_S1920x1 := by
  unfold_abbrev_sides
  after_results
  rfl

theorem r16 : V m c main_v16 = shapeCast S1920x512 (m ((c : Thread nD τ).loc main_arg6) : Vec Ideal S3x640x512 .bf16) shapeCasts_S3x640x512_S1920x512 := by
  unfold_abbrev_sides
  after_results
  rfl

theorem r17 : V m c main_v17 = shapeCast S1920x64 (m ((c : Thread nD τ).loc main_arg7) : Vec Ideal S3x640x64 .bf16) shapeCasts_S3x640x64_S1920x64 := by
  unfold_abbrev_sides
  after_results
  rfl

theorem r18 : V m c main_v18 = shapeCast S1920x5120 (m ((c : Thread nD τ).loc main_arg8) : Vec Ideal S3x640x5120 .bf16) shapeCasts_S3x640x5120_S1920x5120 := by
  unfold_abbrev_sides
  after_results
  rfl

theorem r19 : V m c main_v19 = shapeCast S1x5120 (m ((c : Thread nD τ).loc main_arg9) : Vec Ideal S5120 .f32) shapeCasts_S5120_S1x5120 := by
  unfold_abbrev_sides
  after_results
  rfl

theorem r20 : V m c main_v20 = shapeCast S1920x5120 (m ((c : Thread nD τ).loc main_arg10) : Vec Ideal S3x640x5120 .bf16) shapeCasts_S3x640x5120_S1920x5120 := by
  unfold_abbrev_sides
  after_results
  rfl

end Reference

end Cert.Host
-- ==== Proof.Spec.lean ====
/-
  What one token's row of the five results is, over the extended reals: plain functions of the row's data. Both the
  kernel's blocks and the reference's whole arrays are read as these.
-/
module

public import Idealize.ShloMosaic.Lib.Pointwise

@[expose] public section

noncomputable section

namespace Cert.Spec

open Idealize.ShloMosaic

/-- An entry of a matrix at natural coordinates. -/
def at2 {A B : ℕ} [NeZero A] [NeZero B] {e : EltTy} (x : Vec Ideal ⟨2, ![A, B]⟩ e) (a b : ℕ) : Elt Ideal e := x (ix2 (Fin.ofNat A a) (Fin.ofNat B b))

/-- An entry of a three-axis array at natural coordinates. -/
def at3 {A B C : ℕ} [NeZero A] [NeZero B] [NeZero C] {e : EltTy} (x : Vec Ideal ⟨3, ![A, B, C]⟩ e) (a b c : ℕ) : Elt Ideal e :=
  x (ix3 (Fin.ofNat A a) (Fin.ofNat B b) (Fin.ofNat C c))

theorem at2_eq {A B : ℕ} [NeZero A] [NeZero B] {e : EltTy} (x : Vec Ideal ⟨2, ![A, B]⟩ e) (p : Fin A) (q : Fin B) :
    x (ix2 p q) = at2 x p.val q.val := by
  unfold at2; congr 2 <;> exact Fin.ext (by simp [Fin.ofNat, Nat.mod_eq_of_lt])

theorem at3_eq {A B C : ℕ} [NeZero A] [NeZero B] [NeZero C] {e : EltTy} (x : Vec Ideal ⟨3, ![A, B, C]⟩ e) (p : Fin A) (q : Fin B) (r : Fin C) :
    x (ix3 p q r) = at3 x p.val q.val r.val := by
  unfold at3; congr 2 <;> exact Fin.ext (by simp [Fin.ofNat, Nat.mod_eq_of_lt])

/-- One token's data: its dequantised input row, the dequantised weights, the gains, the rotation's frequencies and the
    token's position, and its rows of the gradients, of the residual stream's input and of the residual gradient. -/
structure Row where
  xw : ℕ → EReal
  W : ℕ → ℕ → EReal
  ng : ℕ → EReal
  freq : ℕ → EReal
  pos : EReal
  dc : ℕ → EReal
  dk : ℕ → EReal
  h : ℕ → EReal
  ag : ℕ → EReal
  dr : ℕ → EReal

/-- The quotient of an angle by a quarter turn, rounded to a whole number. -/
def quad (a : EReal) : EReal := Ideal.liftRound Int.floor (a * Ideal.ofBits FTy.f32 0x3F22F983#32 + Ideal.ofBits FTy.f32 0x3F000000#32)
/-- What is left of the angle after its quarter turns. -/
def rem (a : EReal) : EReal :=
  a - quad a * Ideal.ofBits FTy.f32 0x3FC90000#32 - quad a * Ideal.ofBits FTy.f32 0x39FDA000#32 - quad a * Ideal.ofBits FTy.f32 0x33A22169#32
/-- The sine's polynomial. -/
def sinP (r : EReal) : EReal :=
  r + r * (r * r) * (Ideal.ofBits FTy.f32 0xBE2AAAA3#32
    + r * r * (Ideal.ofBits FTy.f32 0x3C08839E#32 + r * r * Ideal.ofBits FTy.f32 0xB94CA1F9#32))
/-- The cosine's polynomial. -/
def cosP (r : EReal) : EReal :=
  1 - Ideal.ofBits FTy.f32 0x3F000000#32 * (r * r)
    + r * r * (r * r) * (Ideal.ofBits FTy.f32 0x3D2AAAA5#32
      + r * r * (Ideal.ofBits FTy.f32 0xBAB6061A#32 + r * r * Ideal.ofBits FTy.f32 0x37CCF5CE#32))
/-- The quadrant, a number from 0 to 3. -/
def quadrant (a : EReal) : BitVec 32 := IntOp.andi (FloatOps.fptosi (F := Ideal) (φ := FTy.f32) 32 (quad a)) 3#32
/-- The sine, by its quadrant. -/
def sinA (a : EReal) : EReal :=
  Scalar.select (IntOp.cmpi .eq (quadrant a) 0#32) (sinP (rem a)) (Scalar.select (IntOp.cmpi .eq (quadrant a) 1#32) (cosP (rem a))
    (Scalar.select (IntOp.cmpi .eq (quadrant a) 2#32) (0 - sinP (rem a)) (0 - cosP (rem a))))
/-- The cosine, by its quadrant. -/
def cosA (a : EReal) : EReal :=
  Scalar.select (IntOp.cmpi .eq (quadrant a) 0#32) (cosP (rem a)) (Scalar.select (IntOp.cmpi .eq (quadrant a) 1#32) (0 - sinP (rem a))
    (Scalar.select (IntOp.cmpi .eq (quadrant a) 2#32) (0 - cosP (rem a)) (sinP (rem a))))

/-- The exponent of the power of two above `x`, up to 126, and 0 for the smallest `x`. -/
def expo (x : EReal) : EReal :=
  if x < Ideal.ofBits FTy.f32 0x00800000#32 then 0
  else min (Ideal.liftRound Int.floor (Ideal.div (Ideal.log x) ((Real.log 2 : ℝ) : EReal)) + 1) (Ideal.ofBits FTy.f32 0x42FC0000#32)
/-- A group's largest magnitude over the largest code. -/
def over (a : EReal) : EReal := a * Ideal.ofBits FTy.f32 0x37924925#32
/-- A group's scale, and the scale's reciprocal. -/
def gscale (a : EReal) : EReal := FloatOps.exp2 (F := Ideal) (φ := FTy.f32) (expo (over a))
def ginv (a : EReal) : EReal := FloatOps.exp2 (F := Ideal) (φ := FTy.f32) (0 - expo (over a))
/-- A value cut to the codes' range. -/
def clip (x : EReal) : EReal := min (Ideal.ofBits FTy.f32 0x47600000#32) (max (Ideal.ofBits FTy.f32 0xC7600000#32) x)

namespace Row
variable (w : Row)

/-- The latent. -/
def c (n : ℕ) : EReal := ∑ k : Fin 5120, w.xw k * w.W n k
/-- The latent's reciprocal root mean square. -/
def rstd : EReal := Ideal.rsqrt ((∑ n : Fin 512, w.c n * w.c n) * Ideal.ofBits FTy.f32 0x3B000000#32 + Ideal.ofBits FTy.f32 0x358637BD#32)
/-- The token's part of the latent gain's gradient. -/
def dgp (n : ℕ) : EReal := w.dc n * w.c n * w.rstd
/-- The mean of the gained gradient along the latent. -/
def meanC : EReal := (∑ n : Fin 512, w.dc n * w.ng n * w.c n) * Ideal.ofBits FTy.f32 0x3B000000#32
/-- The gradient of the latent before its norm. -/
def dcl (n : ℕ) : EReal := w.rstd * (w.dc n * w.ng n - w.c n * (w.rstd * w.rstd) * w.meanC)
/-- The gradient of the rotated part before its rotation. -/
def dkr (n : ℕ) : EReal :=
  if n % 2 < 1 then w.dk (n / 2 * 2) * cosA (w.pos * w.freq (n / 2)) + w.dk (n / 2 * 2 + 1) * sinA (w.pos * w.freq (n / 2))
  else (0 - w.dk (n / 2 * 2)) * sinA (w.pos * w.freq (n / 2)) + w.dk (n / 2 * 2 + 1) * cosA (w.pos * w.freq (n / 2))
/-- The largest magnitude of a group. -/
def amax (g : ℕ) : EReal :=
  if g < 4 then Finset.univ.fold max (Ideal.ofBits FTy.f32 0xFF800000#32) fun x : Fin 128 =>
    FloatOps.absf (F := Ideal) (φ := FTy.f32) (w.dcl (g * 128 + x))
  else Finset.univ.fold max (Ideal.ofBits FTy.f32 0xFF800000#32) fun x : Fin 64 => FloatOps.absf (F := Ideal) (φ := FTy.f32) (w.dkr x)
/-- A scale. -/
def scale (g : ℕ) : EReal := gscale (w.amax g)
/-- A code. -/
def code (n : ℕ) : EReal :=
  if n < 512 then clip (w.dcl n * ginv (w.amax (n / 128))) else clip (w.dkr (n - 512) * ginv (w.amax 4))
/-- The gradient of the projection's input. -/
def dx (k : ℕ) : EReal := ∑ n : Fin 576, w.code n * w.scale (n / 128) * w.W n k
/-- The residual stream's reciprocal root mean square. -/
def rstdH : EReal := Ideal.rsqrt ((∑ k : Fin 5120, w.h k * w.h k) * Ideal.ofBits FTy.f32 0x394CCCCD#32 + Ideal.ofBits FTy.f32 0x358637BD#32)
/-- The token's part of the residual gain's gradient. -/
def dagp (k : ℕ) : EReal := w.dx k * w.h k * w.rstdH
/-- The mean of the gained gradient along the residual stream. -/
def meanH : EReal := (∑ k : Fin 5120, w.dx k * w.ag k * w.h k) * Ideal.ofBits FTy.f32 0x394CCCCD#32
/-- The gradient of the residual stream. -/
def dh (k : ℕ) : EReal := w.dr k + w.rstdH * (w.dx k * w.ag k - w.h k * (w.rstdH * w.rstdH) * w.meanH)

end Row
end Cert.Spec
-- ==== Proof.KernelIdealSplit.lean ====
/-
  The kernel body in two: the scaling of the weights into the scratch, done at the first grid point only, and the rest.
-/
module

public import proofs.«01_k».proof.Proof.KernelIdealCases
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scaling of the weights into the scratch. -/
noncomputable def scaleWeights (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) :
    Prog (TpuEff nD τ sig (Elt F) Λ₀ .tc) PUnit := do
  let v4803 : Elt F .f32 ← k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  let v4806 : Vec F S64x128 .fp8e4m3 ← Prog.lift (.load arg3 (Rect.unit (s := S576x5120) ![512, 4992] S64x128.size inb_S576x5120_S64x128_512_4992).toLoadRect (View.loadsAt_vmem h_S64x128))
  let v4809 : Vec F S64x128 .bf16 ← Prog.lift (.load arg18 (Rect.unit (s := S576x5120) ![512, 4992] S64x128.size inb_S576x5120_S64x128_512_4992).toLoadRect (View.loadsAt_vmem h_S64x128))
  Prog.lift (.store arg18 (Rect.unit (s := S576x5120) ![512, 4992] S64x128.size inb_S576x5120_S64x128_512_4992) (k0_pay242 v4803 v4806) Finset.univ (View.stores_vmem h_S64x128 (harg18.storeExact_slice rfl _ packedbf16_S576x5120_S64x128_512_4992) (fun _ => rfl)) (.inl rfl))
  pure ⟨⟩

/-- The opening of the rest of the body: the first blocks of the activations, scaled. -/
noncomputable def rest55 (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) :

    Prog (TpuEff nD τ sig (Elt F) Λ₀ .tc) (Σ' (arg0 : BitVec 32) (v4 : FVec F S384x40 .f32), FVec F S384x1 .f32) := do
  let arg0 : BitVec 32 := BitVec.ofNat 32 (i 0).val
  let v3 : Vec F S384x40 .f32 ← Prog.lift (.load arg2 (Rect.unit (s := S384x40) ![0, 0] S384x40.size inb_S384x40_S384x40_0_0).toLoadRect (View.loadsAt_vmem h_S384x40))
  let v9 : Vec F S384x128 .fp8e4m3 ← Prog.lift (.load arg1 (Rect.unit (s := S384x5120) ![0, 0] S384x128.size inb_S384x5120_S384x128_0_0).toLoadRect (View.loadsAt_vmem h_S384x128))
  let v13 : Vec F S384x128 .bf16 ← Prog.lift (.load arg19 (Rect.unit (s := S384x5120) ![0, 0] S384x128.size inb_S384x5120_S384x128_0_0).toLoadRect (View.loadsAt_vmem h_S384x128))
  Prog.lift (.store arg19 (Rect.unit (s := S384x5120) ![0, 0] S384x128.size inb_S384x5120_S384x128_0_0) (k0_pay244 v3 v9) Finset.univ (View.stores_vmem h_S384x128 (harg19.storeExact_slice rfl _ packedbf16_S384x5120_S384x128_0_0) (fun _ => rfl)) (.inl rfl))
  let v20 : Vec F S384x128 .fp8e4m3 ← Prog.lift (.load arg1 (Rect.unit (s := S384x5120) ![0, 128] S384x128.size inb_S384x5120_S384x128_0_128).toLoadRect (View.loadsAt_vmem h_S384x128))
  let v24 : Vec F S384x128 .bf16 ← Prog.lift (.load arg19 (Rect.unit (s := S384x5120) ![0, 128] S384x128.size inb_S384x5120_S384x128_0_128).toLoadRect (View.loadsAt_vmem h_S384x128))
  Prog.lift (.store arg19 (Rect.unit (s := S384x5120) ![0, 128] S384x128.size inb_S384x5120_S384x128_0_128) (k0_pay245 v3 v20) Finset.univ (View.stores_vmem h_S384x128 (harg19.storeExact_slice rfl _ packedbf16_S384x5120_S384x128_0_128) (fun _ => rfl)) (.inl rfl))
  let v31 : Vec F S384x128 .fp8e4m3 ← Prog.lift (.load arg1 (Rect.unit (s := S384x5120) ![0, 256] S384x128.size inb_S384x5120_S384x128_0_256).toLoadRect (View.loadsAt_vmem h_S384x128))
  let v35 : Vec F S384x128 .bf16 ← Prog.lift (.load arg19 (Rect.unit (s := S384x5120) ![0, 256] S384x128.size inb_S384x5120_S384x128_0_256).toLoadRect (View.loadsAt_vmem h_S384x128))
  Prog.lift (.store arg19 (Rect.unit (s := S384x5120) ![0, 256] S384x128.size inb_S384x5120_S384x128_0_256) (k0_pay246 v3 v31) Finset.univ (View.stores_vmem h_S384x128 (harg19.storeExact_slice rfl _ packedbf16_S384x5120_S384x128_0_256) (fun _ => rfl)) (.inl rfl))
  pure ⟨arg0, k0_pay243 v3, k0_pay247 v3⟩

/-- The rest of the body up to the last chunks of columns. -/
noncomputable def rest128 (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) :

    Prog (TpuEff nD τ sig (Elt F) Λ₀ .tc) (Σ' (arg0 : BitVec 32) (v1266 : FVec F S384x576 .bf16) (v1474 : FVec F S384x1 .f32) (v2441 : FVec F S384x128 .f32) (v2447 : FVec F S384x512 .f32) (v2456 : FVec F S384x512 .f32) (v2458 : BitVec 32) (c5_i32_986 : BitVec 32) (v2459 : BitVec 32) (v2461 : BitVec 32), BitVec 32) := do
  let ⟨arg0, v4, v38⟩ : Σ' (arg0 : BitVec 32) (v4 : FVec F S384x40 .f32), FVec F S384x1 .f32 ← rest55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  let ⟨v78, v79⟩ : Σ' (v78 : FVec F S384x128 .bf16), Vec F S384x128 .bf16 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v38
  let ⟨v118, v121⟩ : Σ' (v118 : FVec F S384x128 .bf16), FVec F S384x128 .bf16 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v78 v79
  let v162 : FVec F S384x128 .bf16 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v118 v121
  let v203 : FVec F S384x1 .f32 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v162
  let ⟨v243, v244⟩ : Σ' (v243 : FVec F S384x128 .bf16), Vec F S384x128 .bf16 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v203
  let ⟨v283, v286⟩ : Σ' (v283 : FVec F S384x128 .bf16), FVec F S384x128 .bf16 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v243 v244
  let v327 : FVec F S384x128 .bf16 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v283 v286
  let v368 : FVec F S384x1 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v327
  let ⟨v408, v409⟩ : Σ' (v408 : FVec F S384x128 .bf16), Vec F S384x128 .bf16 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v368
  let v448 : FVec F S384x512 .bf16 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v408 v409
  let ⟨v463, v480, v482, c5_i32, v483, v488, v490, v492⟩ : Σ' (v463 : FVec F S384x512 .f32) (v480 : FVec F S384x512 .f32) (v482 : BitVec 32) (c5_i32 : BitVec 32) (v483 : BitVec 32) (v488 : BitVec 32) (v490 : BitVec 32), BitVec 32 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v448
  let ⟨v519, v520, v531, v533⟩ : Σ' (v519 : BitVec 32) (v520 : BitVec 32) (v531 : BitVec 1), BitVec 1 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v463 v482 c5_i32 v483 v488 v490 v492
  let ⟨v556, v573, c5_i32_175⟩ : Σ' (v556 : BitVec 32) (v573 : BitVec 32), BitVec 32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v463 v519 v520 v531 v533
  let ⟨v610, v612, v613⟩ : Σ' (v610 : BitVec 32) (v612 : BitVec 32), BitVec 32 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v463 v556 v573 c5_i32_175
  let ⟨v645, v646, v656, v658⟩ : Σ' (v645 : IVec S32x128 32) (v646 : FVec F S32x128 .f32) (v656 : FVec F S32x128 .f32), FVec F S32x128 .f32 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v610 v612 v613
  let ⟨v691, v696, v700⟩ : Σ' (v691 : FVec F S32x128 .f32) (v696 : FVec F S32x128 .f32), FVec F S64x128 .f32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v645 v646 v656 v658
  let ⟨v719, v721, v722, v736, v737⟩ : Σ' (v719 : FVec F S128x64 .f32) (v721 : BitVec 32) (v722 : BitVec 32) (v736 : BitVec 1), BitVec 32 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v691 v696 v700
  let ⟨v772, v773, v774, v775, v780, cst_262⟩ : Σ' (v772 : FVec F S32x128 .f32) (v773 : IVec S32x128 32) (v774 : FVec F S32x128 .f32) (v775 : FVec F S32x128 .f32) (v780 : FVec F S32x128 .f32), F .f32 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v721 v722 v736 v737
  let ⟨v819, v824⟩ : Σ' (v819 : FVec F S32x128 .f32), FVec F S32x128 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v772 v773 v774 v775 v780 cst_262
  let ⟨v847, v849, c5_i32_295, v850, v855, v860⟩ : Σ' (v847 : FVec F S128x64 .f32) (v849 : BitVec 32) (c5_i32_295 : BitVec 32) (v850 : BitVec 32) (v855 : BitVec 32), BitVec 32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v819 v824
  let ⟨v900, v901, v902, v903, cst_316⟩ : Σ' (v900 : FVec F S32x128 .f32) (v901 : IVec S32x128 32) (v902 : FVec F S32x128 .f32) (v903 : FVec F S32x128 .f32), F .f32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v849 c5_i32_295 v850 v855 v860
  let ⟨v940, v942, v947⟩ : Σ' (v940 : IVec S32x128 32) (v942 : FVec F S32x128 .f32), FVec F S32x128 .f32 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v900 v901 v902 v903 cst_316
  let ⟨v976, v977, v982, v983, v985⟩ : Σ' (v976 : FVec F S384x64 .f32) (v977 : FVec F S384x128 .f32) (v982 : FVec F S384x1 .f32) (v983 : IVec S384x256 32), IVec S384x256 32 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v480 v719 v847 v940 v942 v947
  let ⟨v1018, v1027⟩ : Σ' (v1018 : FVec F S384x1 .f32), FVec F S384x128 .fp8e5m2 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v977 v982 v983 v985
  let ⟨v1034, v1035, v1066, v1068, v1069⟩ : Σ' (v1034 : FVec F S384x128 .bf16) (v1035 : FVec F S384x128 .f32) (v1066 : IVec S384x1 32) (v1068 : IVec S384x1 1), IVec S384x1 32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v480 v1018 v1027
  let ⟨v1092, v1093, v1098, v1110, cst_396, v1111⟩ : Σ' (v1092 : FVec F S384x128 .bf16) (v1093 : FVec F S384x128 .f32) (v1098 : FVec F S384x1 .f32) (v1110 : IVec S384x256 1) (cst_396 : F .f32), FVec F S384x256 .f32 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v480 v1035 v1066 v1068 v1069
  let ⟨v1150, v1151, v1152⟩ : Σ' (v1150 : FVec F S384x128 .bf16) (v1151 : FVec F S384x128 .f32), FVec F S384x128 .f32 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v480 v1093 v1098 v1110 cst_396 v1111
  let ⟨v1192, v1196⟩ : Σ' (v1192 : FVec F S384x1 .f32), FVec F S384x128 .f32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1151 v1152
  let ⟨v1208, v1235, v1237⟩ : Σ' (v1208 : FVec F S384x128 .bf16) (v1235 : IVec S384x1 1), IVec S384x1 32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v976 v1192 v1196
  let ⟨v1266, v1277⟩ : Σ' (v1266 : FVec F S384x576 .bf16), FVec F S384x128 .f32 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v976 v1034 v1092 v1150 v1208 v1235 v1237
  let ⟨v1317, v1320⟩ : Σ' (v1317 : FVec F S384x128 .f32), FVec F S384x128 .f32 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1277
  let v1362 : FVec F S384x128 .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1317 v1320
  let ⟨v1402, v1406⟩ : Σ' (v1402 : FVec F S384x128 .f32), FVec F S384x128 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1362
  let ⟨v1447, v1448⟩ : Σ' (v1447 : FVec F S384x128 .f32), Vec F S384x128 .bf16 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1402 v1406
  let ⟨v1474, v1475, v1481⟩ : Σ' (v1474 : FVec F S384x1 .f32) (v1475 : FVec F S384x128 .f32), FVec F S384x512 .f32 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1266 v1447 v1448
  let ⟨v1490, v1528, c1_i32_568⟩ : Σ' (v1490 : FVec F S384x512 .f32) (v1528 : BitVec 32), BitVec 32 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1474 v1481
  let ⟨v1566, c5_i32_586, v1567, v1568⟩ : Σ' (v1566 : BitVec 32) (c5_i32_586 : BitVec 32) (v1567 : BitVec 32), BitVec 1 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1490 v1528 c1_i32_568
  let ⟨v1611, v1612⟩ : Σ' (v1611 : FVec F S384x128 .f32), FVec F S384x128 .f32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1475 v1481 v1490 v1566 c5_i32_586 v1567 v1568
  let ⟨v1613, v1619, v1628, v1647, v1649, v1650⟩ : Σ' (v1613 : FVec F S384x128 .f32) (v1619 : FVec F S384x512 .f32) (v1628 : FVec F S384x512 .f32) (v1647 : BitVec 32) (v1649 : BitVec 32), BitVec 32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1266 v1474 v1611 v1612
  let ⟨v1684, v1686, v1687, v1688, v1689, c0_i32_643⟩ : Σ' (v1684 : BitVec 32) (v1686 : BitVec 32) (v1687 : BitVec 32) (v1688 : BitVec 1) (v1689 : BitVec 1), BitVec 32 ← k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1628 v1647 v1649 v1650
  let ⟨v1721, v1731⟩ : Σ' (v1721 : BitVec 32), BitVec 32 ← k0_part96 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1628 v1684 v1686 v1687 v1688 v1689 c0_i32_643
  let ⟨v1751, v1757, v1766, v1768, c5_i32_676, v1769, v1771, c0_i32_678⟩ : Σ' (v1751 : FVec F S384x128 .f32) (v1757 : FVec F S384x512 .f32) (v1766 : FVec F S384x512 .f32) (v1768 : BitVec 32) (c5_i32_676 : BitVec 32) (v1769 : BitVec 32) (v1771 : BitVec 32), BitVec 32 ← k0_part97 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1266 v1474 v1613 v1619 v1628 v1721 v1731
  let ⟨v1805, c5_i32_693, v1806, v1811, v1812⟩ : Σ' (v1805 : BitVec 32) (c5_i32_693 : BitVec 32) (v1806 : BitVec 32) (v1811 : BitVec 32), BitVec 1 ← k0_part98 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1766 v1768 c5_i32_676 v1769 v1771 c0_i32_678
  let ⟨v1842, c5_i32_710, v1843, v1848, v1853⟩ : Σ' (v1842 : BitVec 32) (c5_i32_710 : BitVec 32) (v1843 : BitVec 32) (v1848 : BitVec 32), BitVec 32 ← k0_part99 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1766 v1805 c5_i32_693 v1806 v1811 v1812
  let ⟨v1889, v1891, v1895⟩ : Σ' (v1889 : FVec F S384x128 .f32) (v1891 : FVec F S384x512 .f32), FVec F S384x512 .f32 ← k0_part100 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1266 v1751 v1757 v1766 v1842 c5_i32_710 v1843 v1848 v1853
  let ⟨v1904, v1923, v1933, v1934⟩ : Σ' (v1904 : FVec F S384x512 .f32) (v1923 : BitVec 32) (v1933 : BitVec 32), FVec F S128x512 .f32 ← k0_part101 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1474 v1891 v1895
  let v1973 : FVec F S1x512 .f32 ← k0_part102 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1904 v1923 v1933 v1934
  k0_part103 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1904 v1973
  let ⟨v2027, v2033, v2042, v2044, v2045, v2056, v2057⟩ : Σ' (v2027 : FVec F S384x128 .f32) (v2033 : FVec F S384x512 .f32) (v2042 : FVec F S384x512 .f32) (v2044 : BitVec 32) (v2045 : BitVec 32) (v2056 : BitVec 1), BitVec 32 ← k0_part104 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1266 v1474 v1889 v1895
  let ⟨v2081, v2082, v2096, v2097⟩ : Σ' (v2081 : BitVec 32) (v2082 : BitVec 32) (v2096 : BitVec 1), BitVec 32 ← k0_part105 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2042 v2044 v2045 v2056 v2057
  let ⟨v2118, v2135, c5_i32_841, v2136, c1_i32_843⟩ : Σ' (v2118 : BitVec 32) (v2135 : BitVec 32) (c5_i32_841 : BitVec 32) (v2136 : BitVec 1), BitVec 32 ← k0_part106 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2042 v2081 v2082 v2096 v2097
  let ⟨v2165, v2171⟩ : Σ' (v2165 : FVec F S384x128 .f32), FVec F S384x512 .f32 ← k0_part107 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1266 v2027 v2033 v2042 v2118 v2135 c5_i32_841 v2136 c1_i32_843
  let ⟨v2180, v2218, c1_i32_878⟩ : Σ' (v2180 : FVec F S384x512 .f32) (v2218 : BitVec 32), BitVec 32 ← k0_part108 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1474 v2171
  let ⟨v2256, c5_i32_896, v2257, v2258⟩ : Σ' (v2256 : BitVec 32) (c5_i32_896 : BitVec 32) (v2257 : BitVec 32), BitVec 1 ← k0_part109 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2180 v2218 c1_i32_878
  let ⟨v2301, v2302⟩ : Σ' (v2301 : FVec F S384x128 .f32), FVec F S384x128 .f32 ← k0_part110 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2165 v2171 v2180 v2256 c5_i32_896 v2257 v2258
  let ⟨v2303, v2309, v2318, v2337, v2339, v2340⟩ : Σ' (v2303 : FVec F S384x128 .f32) (v2309 : FVec F S384x512 .f32) (v2318 : FVec F S384x512 .f32) (v2337 : BitVec 32) (v2339 : BitVec 32), BitVec 32 ← k0_part111 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1266 v1474 v2301 v2302
  let ⟨v2374, v2376, v2377, v2378, v2379, c0_i32_953⟩ : Σ' (v2374 : BitVec 32) (v2376 : BitVec 32) (v2377 : BitVec 32) (v2378 : BitVec 1) (v2379 : BitVec 1), BitVec 32 ← k0_part112 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2318 v2337 v2339 v2340
  let ⟨v2411, v2421⟩ : Σ' (v2411 : BitVec 32), BitVec 32 ← k0_part113 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2318 v2374 v2376 v2377 v2378 v2379 c0_i32_953
  let ⟨v2441, v2447, v2456, v2458, c5_i32_986, v2459, v2461, c0_i32_988⟩ : Σ' (v2441 : FVec F S384x128 .f32) (v2447 : FVec F S384x512 .f32) (v2456 : FVec F S384x512 .f32) (v2458 : BitVec 32) (c5_i32_986 : BitVec 32) (v2459 : BitVec 32) (v2461 : BitVec 32), BitVec 32 ← k0_part114 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1266 v1474 v2303 v2309 v2318 v2411 v2421
  pure ⟨arg0, v1266, v1474, v2441, v2447, v2456, v2458, c5_i32_986, v2459, v2461, c0_i32_988⟩

/-- The rest of the body: everything but the scaling of the weights. -/
noncomputable def rest (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) :

    Prog (TpuEff nD τ sig (Elt F) Λ₀ .tc) PUnit := do
  let ⟨arg0, v1266, v1474, v2441, v2447, v2456, v2458, c5_i32_986, v2459, v2461, c0_i32_988⟩ : Σ' (arg0 : BitVec 32) (v1266 : FVec F S384x576 .bf16) (v1474 : FVec F S384x1 .f32) (v2441 : FVec F S384x128 .f32) (v2447 : FVec F S384x512 .f32) (v2456 : FVec F S384x512 .f32) (v2458 : BitVec 32) (c5_i32_986 : BitVec 32) (v2459 : BitVec 32) (v2461 : BitVec 32), BitVec 32 ← rest128 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  let ⟨v2495, c5_i32_1003, v2496, v2501, v2502⟩ : Σ' (v2495 : BitVec 32) (c5_i32_1003 : BitVec 32) (v2496 : BitVec 32) (v2501 : BitVec 32), BitVec 1 ← k0_part115 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2456 v2458 c5_i32_986 v2459 v2461 c0_i32_988
  let ⟨v2532, c5_i32_1020, v2533, v2538, v2543⟩ : Σ' (v2532 : BitVec 32) (c5_i32_1020 : BitVec 32) (v2533 : BitVec 32) (v2538 : BitVec 32), BitVec 32 ← k0_part116 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2456 v2495 c5_i32_1003 v2496 v2501 v2502
  let ⟨v2579, v2581, v2585⟩ : Σ' (v2579 : FVec F S384x128 .f32) (v2581 : FVec F S384x512 .f32), FVec F S384x512 .f32 ← k0_part117 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1266 v2441 v2447 v2456 v2532 c5_i32_1020 v2533 v2538 v2543
  let ⟨v2594, v2613, v2623, v2624⟩ : Σ' (v2594 : FVec F S384x512 .f32) (v2613 : BitVec 32) (v2623 : BitVec 32), FVec F S128x512 .f32 ← k0_part118 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1474 v2581 v2585
  let v2663 : FVec F S1x512 .f32 ← k0_part119 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2594 v2613 v2623 v2624
  k0_part120 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2594 v2663
  let ⟨v2717, v2723, v2732, v2734, v2735, v2746, v2747⟩ : Σ' (v2717 : FVec F S384x128 .f32) (v2723 : FVec F S384x512 .f32) (v2732 : FVec F S384x512 .f32) (v2734 : BitVec 32) (v2735 : BitVec 32) (v2746 : BitVec 1), BitVec 32 ← k0_part121 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v1266 v1474 v2579 v2585
  let ⟨v2771, v2772, v2786, v2787⟩ : Σ' (v2771 : BitVec 32) (v2772 : BitVec 32) (v2786 : BitVec 1), BitVec 32 ← k0_part122 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2732 v2734 v2735 v2746 v2747
  let ⟨v2808, v2825, c5_i32_1151, v2826, c1_i32_1153⟩ : Σ' (v2808 : BitVec 32) (v2825 : BitVec 32) (c5_i32_1151 : BitVec 32) (v2826 : BitVec 1), BitVec 32 ← k0_part123 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v2732 v2771 v2772 v2786 v2787
  let ⟨v2861, v2867, v2868, v2870⟩ : Σ' (v2861 : FVec F S384x1 .f32) (v2867 : FVec F S384x512 .f32) (v2868 : Vec F S384x512 .f32), FVec F S384x512 .f32 ← k0_part124 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1474 v2717 v2723 v2732 v2808 v2825 c5_i32_1151 v2826 c1_i32_1153
  let v2907 : Vec F S384x512 .bf16 ← k0_part125 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1474 v2861 v2867 v2868 v2870
  let ⟨v2942, v2943, v2945⟩ : Σ' (v2942 : FVec F S384x512 .f32) (v2943 : Vec F S384x512 .f32), FVec F S384x512 .f32 ← k0_part126 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1474 v2861 v2907
  let v2982 : Vec F S384x512 .bf16 ← k0_part127 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1474 v2861 v2942 v2943 v2945
  let v2985 : Vec F S384x512 .bf16 ← Prog.lift (.load arg12 (Rect.unit (s := S384x5120) ![0, 4096] S384x512.size inb_S384x5120_S384x512_0_4096).toLoadRect (View.loadsAt_vmem h_S384x512))
  let v2988 : Vec F S384x512 .f32 ← Prog.lift (.load arg20 (Rect.unit (s := S384x5120) ![0, 4096] S384x512.size inb_S384x5120_S384x512_0_4096).toLoadRect (View.loadsAt_vmem h_S384x512))
  let v2996 : Vec F S384x512 .bf16 ← Prog.lift (.load arg13 (Rect.unit (s := S384x5120) ![0, 4096] S384x512.size inb_S384x5120_S384x512_0_4096).toLoadRect (View.loadsAt_vmem h_S384x512))
  Prog.lift (.store arg13 (Rect.unit (s := S384x5120) ![0, 4096] S384x512.size inb_S384x5120_S384x512_0_4096) (k0_pay1 v1474 v2861 v2982 v2985 v2988) Finset.univ (View.stores_vmem h_S384x512 (harg13.storeExact_slice rfl _ packedbf16_S384x5120_S384x512_0_4096) (fun _ => rfl)) (.inl rfl))
  let v2997 : Vec F S384x512 .bf16 ← Prog.lift (.load arg10 (Rect.unit (s := S384x5120) ![0, 4608] S384x512.size inb_S384x5120_S384x512_0_4608).toLoadRect (View.loadsAt_vmem h_S384x512))
  let v3000 : Vec F S384x512 .bf16 ← Prog.lift (.load arg12 (Rect.unit (s := S384x5120) ![0, 4608] S384x512.size inb_S384x5120_S384x512_0_4608).toLoadRect (View.loadsAt_vmem h_S384x512))
  let v3003 : Vec F S384x512 .f32 ← Prog.lift (.load arg20 (Rect.unit (s := S384x5120) ![0, 4608] S384x512.size inb_S384x5120_S384x512_0_4608).toLoadRect (View.loadsAt_vmem h_S384x512))
  let v3011 : Vec F S384x512 .bf16 ← Prog.lift (.load arg13 (Rect.unit (s := S384x5120) ![0, 4608] S384x512.size inb_S384x5120_S384x512_0_4608).toLoadRect (View.loadsAt_vmem h_S384x512))
  Prog.lift (.store arg13 (Rect.unit (s := S384x5120) ![0, 4608] S384x512.size inb_S384x5120_S384x512_0_4608) (k0_pay2 v1474 v2861 v2997 v3000 v3003) Finset.univ (View.stores_vmem h_S384x512 (harg13.storeExact_slice rfl _ packedbf16_S384x5120_S384x512_0_4608) (fun _ => rfl)) (.inl rfl))
  pure ⟨⟩

/-- The scaling of the weights at the first point, and nothing at the others. -/
noncomputable def start (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) :
    Prog (TpuEff nD τ sig (Elt F) Λ₀ .tc) PUnit :=
  if first i then scaleWeights i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 else pure ⟨⟩

theorem part55_eq (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) :
    k0_part55 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => rest55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  rw [k0_part55_eq_skeleton]
  by_cases h : first i
  · simp only [k0_part55_skel, start, if_pos h, dif_pos h, scaleWeights, bind_assoc, pure_bind]
    rfl
  · simp only [k0_part55_skel, start, if_neg h, dif_neg h, pure_bind]
    rfl

theorem part128_eq (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) :
    k0_part128 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => rest128 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  rw [k0_part128_eq_skeleton]
  unfold k0_part128_skel
  rw [part55_eq, bind_assoc]
  rfl

/-- The body is the scaling of the weights, at the first point, and then the rest. -/
theorem body_eq (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole) :
    cc0_mla_kv_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (start i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 >>= fun _ => rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  rw [cc0_mla_kv_bwd_eq_skeleton]
  unfold cc0_mla_kv_bwd_skel
  rw [part128_eq, bind_assoc]
  rfl

end Cert.KernelIdeal.Body

end
-- ==== Proof.KernelIdealRest.lean ====
/-
  The rest of the body, run once at symbolic contents: what it leaves in the results' buffers.
-/
module

public import proofs.«01_k».proof.Proof.KernelIdealSplit
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- What the rest of the body leaves in the five results' buffers, with the proof that from the inputs' buffers at
    `x0 … x11`, the scaled weights at `x17`, the two whole-array results' at `y13` and `y14` and the others at anything it
    runs to its return, handing back the inputs' as they were and the results' at those contents. -/
noncomputable def restRun (c : Dev nD) (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
    (x0 : Vec F S384x5120 .fp8e4m3) (x1 : Vec F S384x40 .f32) (x2 : Vec F S576x5120 .fp8e4m3) (x3 : Vec F S5x40 .f32) (x4 : Vec F S1x512 .f32) (x5 : Vec F S32x1 .f32) (x6 : Vec F S3x5x128 .i32) (x7 : Vec F S384x512 .bf16) (x8 : Vec F S384x64 .bf16) (x9 : Vec F S384x5120 .bf16) (x10 : Vec F S1x5120 .f32) (x11 : Vec F S384x5120 .bf16)
    (x17 : Vec F S576x5120 .bf16) (y13 : Vec F S3x5x5120 .f32) (y14 : Vec F S3x5x512 .f32) :
    { W : Bf (F := F) c arg13 × Bf (F := F) c arg14 × Bf (F := F) c arg15 × Bf (F := F) c arg16 × Bf (F := F) c arg17 //
      ∀ (f12 : Bf (F := F) c arg13) (f15 : Bf (F := F) c arg16) (f16 : Bf (F := F) c arg17) (f18 : Bf (F := F) c arg19)
        (f19 : Bf (F := F) c arg20) (f20 : Bf (F := F) c arg21) (E : Set ℕ) (Q : PUnit → sProp 𝕄),
        iprop(pt c arg1 (harg1.unread x0) ∗ pt c arg2 (harg2.unread x1) ∗ pt c arg3 (harg3.unread x2) ∗ pt c arg4 (harg4.unread x3) ∗ pt c arg5 (harg5.unread x4) ∗ pt c arg6 (harg6.unread x5) ∗ pt c arg7 (harg7.unread x6) ∗ pt c arg8 (harg8.unread x7) ∗ pt c arg9 (harg9.unread x8) ∗ pt c arg10 (harg10.unread x9) ∗ pt c arg11 (harg11.unread x10) ∗ pt c arg12 (harg12.unread x11) ∗ pt c arg13 (f12) ∗ pt c arg14 (harg14.unread y13) ∗ pt c arg15 (harg15.unread y14) ∗ pt c arg16 (f15) ∗ pt c arg17 (f16) ∗ pt c arg18 (harg18.unread x17) ∗ pt c arg19 (f18) ∗ pt c arg20 (f19) ∗ pt c arg21 (f20)
          ∗ (iprop(pt c arg1 (harg1.unread x0) ∗ pt c arg2 (harg2.unread x1) ∗ pt c arg3 (harg3.unread x2) ∗ pt c arg4 (harg4.unread x3) ∗ pt c arg5 (harg5.unread x4) ∗ pt c arg6 (harg6.unread x5) ∗ pt c arg7 (harg7.unread x6) ∗ pt c arg8 (harg8.unread x7) ∗ pt c arg9 (harg9.unread x8) ∗ pt c arg10 (harg10.unread x9) ∗ pt c arg11 (harg11.unread x10) ∗ pt c arg12 (harg12.unread x11) ∗ pt c arg13 W.1 ∗ pt c arg14 W.2.1 ∗ pt c arg15 W.2.2.1 ∗ pt c arg16 W.2.2.2.1 ∗ pt c arg17 W.2.2.2.2 ∗ pt c arg18 (harg18.unread x17) ∗ (∃ f, pt c arg19 f) ∗ (∃ f, pt c arg20 f) ∗ (∃ f, pt c arg21 f)) -∗ Q ⟨⟩))
        ⊢ wp frame (wpE (defs₀ (F := F)) Variants.none c none) E (rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q } := by
  refine ⟨⟨?_, ?_, ?_, ?_, ?_⟩, fun f12 f15 f16 f18 f19 f20 E Q => ?run⟩
  case run =>
    iintro ⟨H0, H1, H2, H3, H4, H5, H6, H7, H8, H9, H10, H11, H12, H13, H14, H15, H16, H17, H18, H19, H20, Hk⟩
    unfold rest
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    iexists _; iexact H20

end Cert.KernelIdeal.Body

end
-- ==== Proof.Pieces.lean ====
/-
  Lists of stores each of which writes its own part of ONE array: what a load of the buffer reads after them.
-/
module

public import proofs.«01_k».proof.Proof.Spec
public import proofs.«01_k».proof.Proof.KernelIdealRest

@[expose] public section

noncomputable section

namespace Cert.KernelIdeal.Val

open Idealize.ShloMosaic Cert.Spec Cert.KernelIdeal

/-- Every store of the list holds its own part of the matrix `g`. -/
def Agrees {S : Shape} {e : EltTy} (G : S.Idx → Elt Ideal e) (L : List (View.Piece (Elt Ideal) S e)) : Prop :=
  ∀ p ∈ L, ∀ x : p.1.shape.Idx, p.2 x = G (p.1.emb x)

theorem Agrees.nil {S : Shape} {e : EltTy} {G : S.Idx → Elt Ideal e} : Agrees G [] := fun _ h => absurd h List.not_mem_nil

theorem Agrees.cons {S : Shape} {e : EltTy} {G : S.Idx → Elt Ideal e} {r : Rect S} {w : r.shape.Idx → Elt Ideal e}
    {L : List (View.Piece (Elt Ideal) S e)} (h : ∀ x, w x = G (r.emb x)) (hL : Agrees G L) : Agrees G (⟨r, w⟩ :: L) := by
  intro p hp
  rcases List.mem_cons.1 hp with rfl | hp
  · exact h
  · exact hL p hp

/-- A matrix as an array. -/
def arr2 {A B : ℕ} {e : EltTy} (g : ℕ → ℕ → Elt Ideal e) : (⟨2, ![A, B]⟩ : Shape).Idx → Elt Ideal e := fun j => g (j 0).val (j 1).val

variable {A B m n : ℕ} {e : EltTy} {g : ℕ → ℕ → Elt Ideal e}

/-- A store of a block of rows and columns, entry by entry. -/
theorem Agrees.cons_unit {o0 o1 : ℕ} {inb : ∀ a, (![o0, o1] : Fin 2 → ℕ) a + (![m, n] : Fin 2 → ℕ) a ≤ (⟨2, ![A, B]⟩ : Shape).size a}
    {w : (⟨2, ![m, n]⟩ : Shape).Idx → Elt Ideal e} {L : List (View.Piece (Elt Ideal) (⟨2, ![A, B]⟩ : Shape) e)}
    (h : ∀ (a : Fin m) (b : Fin n), w (ix2 a b) = g (o0 + a) (o1 + b)) (hL : Agrees (arr2 g) L) :
    Agrees (arr2 g) (⟨Rect.unit (s := (⟨2, ![A, B]⟩ : Shape)) ![o0, o1] ![m, n] inb, w⟩ :: L) := by
  refine Agrees.cons (fun x => ?_) hL
  have hx : x = ix2 (x 0) (x 1) := by funext a; match a with | 0 => rfl | 1 => rfl
  refine (congrArg w hx).trans ((h _ _).trans ?_)
  show _ = g (o0 + 1 * _) (o1 + 1 * _)
  rw [Nat.one_mul, Nat.one_mul]

/-- A store of every `s`-th row, entry by entry. -/
theorem Agrees.cons_rows {o0 s : ℕ} {inb} {hs} {w : (⟨2, ![m, n]⟩ : Shape).Idx → Elt Ideal e}
    {L : List (View.Piece (Elt Ideal) (⟨2, ![A, B]⟩ : Shape) e)}
    (h : ∀ (a : Fin m) (b : Fin n), w (ix2 a b) = g (o0 + s * a) b) (hL : Agrees (arr2 g) L) :
    Agrees (arr2 g) (⟨{ off := ![o0, 0], size := ![m, n], stride := ![s, 1], inb := inb, stride_pos := hs }, w⟩ :: L) := by
  refine Agrees.cons (fun x => ?_) hL
  have hx : x = ix2 (x 0) (x 1) := by funext a; match a with | 0 => rfl | 1 => rfl
  refine (congrArg w hx).trans ((h _ _).trans ?_)
  show _ = g (o0 + s * _) (0 + 1 * _)
  rw [Nat.one_mul, Nat.zero_add]

/-- An entry of what a list of stores leaves, where its newest part holds the entry and agrees with one array. -/
theorem canon_append {S : Shape} {G : S.Idx → Elt Ideal e} {M : List (View.Piece (Elt Ideal) S e)} :
    ∀ {L : List (View.Piece (Elt Ideal) S e)} (_ : Agrees G L) (y : S.Idx) (_ : ∃ p ∈ L, y ∈ p.1.set), View.canon (L ++ M) y = G y
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_append (fun q hq => hL q (by simp [hq])) y ?_
      obtain ⟨q, hq, hyq⟩ := hy
      rcases List.mem_cons.mp hq with rfl | hq'
      · exact absurd hyq hm
      · exact ⟨q, hq', hyq⟩

/-- What a load reads after stores whose newest part covers the buffer and agrees with one matrix. -/
theorem readCov_append {sp : Space} {v : View sig .tc sp (⟨2, ![A, B]⟩ : Shape) e} {L M : List (View.Piece (Elt Ideal) (⟨2, ![A, B]⟩ : Shape) e)}
    (hL : Agrees (arr2 g) L) (hc : ∀ y, ∃ p ∈ L, y ∈ p.1.set) (R : LoadRect (⟨2, ![A, B]⟩ : Shape)) (j : R.shape.Idx) :
    v.readCov (L ++ M) R j = g (R.off 0 + R.stride 0 * (j 0).val) (R.off 1 + R.stride 1 * (j 1).val) := by
  rw [View.readCov_eq_canon']
  exact canon_append hL _ (hc _)

/-- What a load reads after stores that cover the buffer and agree with one matrix. -/
theorem readCov_of {sp : Space} {v : View sig .tc sp (⟨2, ![A, B]⟩ : Shape) e} {L : List (View.Piece (Elt Ideal) (⟨2, ![A, B]⟩ : Shape) e)}
    (hL : Agrees (arr2 g) L) (hc : ∀ y, ∃ p ∈ L, y ∈ p.1.set) (R : LoadRect (⟨2, ![A, B]⟩ : Shape)) (j : R.shape.Idx) :
    v.readCov L R j = g (R.off 0 + R.stride 0 * (j 0).val) (R.off 1 + R.stride 1 * (j 1).val) := by
  rw [View.readCov_eq_canon']
  exact View.canon_apply_of_pieces _ L hL _ (hc _)

/-- The same, a block of rows and columns loaded. -/
theorem readCov_of_unit {sp : Space} (v : View sig .tc sp (⟨2, ![A, B]⟩ : Shape) e) {L : List (View.Piece (Elt Ideal) (⟨2, ![A, B]⟩ : Shape) e)}
    (hL : Agrees (arr2 g) L) (hc : ∀ y, ∃ p ∈ L, y ∈ p.1.set) {o0 o1 : ℕ}
    (inb : ∀ a, (![o0, o1] : Fin 2 → ℕ) a + (![m, n] : Fin 2 → ℕ) a ≤ (⟨2, ![A, B]⟩ : Shape).size a) (a : Fin m) (b : Fin n) :
    v.readCov L (Rect.unit (s := (⟨2, ![A, B]⟩ : Shape)) ![o0, o1] ![m, n] inb).toLoadRect (ix2 a b) = g (o0 + a) (o1 + b) := by
  refine (readCov_of hL hc _ _).trans ?_
  show g (o0 + 1 * _) (o1 + 1 * _) = _
  rw [Nat.one_mul, Nat.one_mul]; rfl

/-- The same, every `s`-th row loaded. -/
theorem readCov_of_rows {sp : Space} (v : View sig .tc sp (⟨2, ![A, B]⟩ : Shape) e) {L : List (View.Piece (Elt Ideal) (⟨2, ![A, B]⟩ : Shape) e)}
    (hL : Agrees (arr2 g) L) (hc : ∀ y, ∃ p ∈ L, y ∈ p.1.set) {o0 s : ℕ} (inb) (a : Fin m) (b : Fin n) :
    v.readCov L (⟨![o0, 0], ![m, n], ![s, 1], inb⟩ : LoadRect (⟨2, ![A, B]⟩ : Shape)) (ix2 a b) = g (o0 + s * a) b := by
  refine (readCov_of hL hc _ _).trans ?_
  show g (o0 + s * _) (0 + 1 * _) = _
  rw [Nat.one_mul, Nat.zero_add]; rfl

/-- The same, a block of rows and columns loaded, the stores' newest part covering the buffer. -/
theorem readCov_append_unit {sp : Space} (v : View sig .tc sp (⟨2, ![A, B]⟩ : Shape) e) {L M : List (View.Piece (Elt Ideal) (⟨2, ![A, B]⟩ : Shape) e)}
    (hL : Agrees (arr2 g) L) (hc : ∀ y, ∃ p ∈ L, y ∈ p.1.set) {o0 o1 : ℕ}
    (inb : ∀ a, (![o0, o1] : Fin 2 → ℕ) a + (![m, n] : Fin 2 → ℕ) a ≤ (⟨2, ![A, B]⟩ : Shape).size a) (a : Fin m) (b : Fin n) :
    v.readCov (L ++ M) (Rect.unit (s := (⟨2, ![A, B]⟩ : Shape)) ![o0, o1] ![m, n] inb).toLoadRect (ix2 a b) = g (o0 + a) (o1 + b) := by
  refine (readCov_append hL hc _ _).trans ?_
  show g (o0 + 1 * _) (o1 + 1 * _) = _
  rw [Nat.one_mul, Nat.one_mul]; rfl

/-- The same, every `s`-th row loaded. -/
theorem readCov_append_rows {sp : Space} (v : View sig .tc sp (⟨2, ![A, B]⟩ : Shape) e) {L M : List (View.Piece (Elt Ideal) (⟨2, ![A, B]⟩ : Shape) e)}
    (hL : Agrees (arr2 g) L) (hc : ∀ y, ∃ p ∈ L, y ∈ p.1.set) {o0 s : ℕ} (inb) (a : Fin m) (b : Fin n) :
    v.readCov (L ++ M) (⟨![o0, 0], ![m, n], ![s, 1], inb⟩ : LoadRect (⟨2, ![A, B]⟩ : Shape)) (ix2 a b) = g (o0 + s * a) b := by
  refine (readCov_append hL hc _ _).trans ?_
  show g (o0 + s * _) (0 + 1 * _) = _
  rw [Nat.one_mul, Nat.zero_add]; rfl

/-- What a buffer reads after stores that cover it and agree with one matrix. -/
theorem canon_of {L : List (View.Piece (Elt Ideal) (⟨2, ![A, B]⟩ : Shape) e)}
    (hL : Agrees (arr2 g) L) (hc : ∀ y, ∃ p ∈ L, y ∈ p.1.set) (a : Fin A) (b : Fin B) :
    View.canon L (ix2 a b) = g a b := View.canon_apply_of_pieces _ L hL _ (hc _)

/-- A whole buffer's load at its contents reads the contents at the rectangle. -/
theorem readAt_unread_eq {sp : Space} {S : Shape} {e : EltTy} {m : Memref sig .tc sp S e} (h : m.IsWhole) (X : S.Idx → Elt Ideal e) (r : Rect S) :
    m.view.readAt (Elt Ideal) r.toLoadRect (h.unread X) = View.ld X r := by
  rw [View.readAt_eq_ld, h.read_unread]

end Cert.KernelIdeal.Val
-- ==== Proof.KvInput.lean ====
/-
  The dequantised input block, entry by entry.
-/
module

public import proofs.«01_k».proof.Proof.Pieces

@[expose] public section

set_option maxRecDepth 16384

noncomputable section

namespace Cert.KernelIdeal.Val

open Idealize.ShloMosaic Cert.Spec Cert.KernelIdeal Cert.KernelIdeal.Gen Cert.KernelIdeal.Body

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

/-- A token's data in the blocks of one grid step, the weights already scaled. -/
def row (r : ℕ) : Row where
  xw k := at2 x0 r k * at2 x1 r (k / 128)
  W n k := at2 x17 n k
  ng n := at2 x4 0 n
  freq j := at2 x5 j 0
  pos := FloatOps.sitofp (F := Ideal) .f32 (at3 x6 ((3 * (i 0).val + r / 128) / 5) ((3 * (i 0).val + r / 128) % 5) (r % 128))
  dc n := at2 x7 r n
  dk n := at2 x8 r n
  h k := at2 x9 r k
  ag k := at2 x10 0 k
  dr k := at2 x11 r k

theorem H18_3_agrees : Agrees (arr2 (e := .bf16) fun r k => at2 x0 r k * at2 x1 r (k / 128)) (restRun.sl.H18_3 (F := Ideal) arg1 harg1 arg2 harg2 x0 x1) := by
  unfold restRun.sl.H18_3
  refine (Agrees.cons_unit (fun a b => ?_) (Agrees.cons_unit (fun a b => ?_) (Agrees.cons_unit (fun a b => ?_) .nil))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_6_agrees : Agrees (arr2 (e := .bf16) fun r k => at2 x0 r k * at2 x1 r (k / 128)) (restRun.sl.H18_6 (F := Ideal) arg1 harg1 arg2 harg2 x0 x1) := by
  unfold restRun.sl.H18_6
  refine (Agrees.cons_unit (fun a b => ?_) (Agrees.cons_unit (fun a b => ?_) (Agrees.cons_unit (fun a b => ?_) (H18_3_agrees arg1 harg1 arg2 harg2 x0 x1)))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_10_agrees : Agrees (arr2 (e := .bf16) fun r k => at2 x0 r k * at2 x1 r (k / 128)) (restRun.sl.H18_10 (F := Ideal) arg1 harg1 arg2 harg2 x0 x1) := by
  unfold restRun.sl.H18_10
  refine (Agrees.cons_unit (fun a b => ?_) (Agrees.cons_unit (fun a b => ?_) (Agrees.cons_unit (fun a b => ?_) (Agrees.cons_unit (fun a b => ?_) (H18_6_agrees arg1 harg1 arg2 harg2 x0 x1))))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_14_agrees : Agrees (arr2 (e := .bf16) fun r k => at2 x0 r k * at2 x1 r (k / 128)) (restRun.sl.H18_14 (F := Ideal) arg1 harg1 arg2 harg2 x0 x1) := by
  unfold restRun.sl.H18_14
  refine (Agrees.cons_unit (fun a b => ?_) (Agrees.cons_unit (fun a b => ?_) (Agrees.cons_unit (fun a b => ?_) (Agrees.cons_unit (fun a b => ?_) (H18_10_agrees arg1 harg1 arg2 harg2 x0 x1))))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_18_agrees : Agrees (arr2 (e := .bf16) fun r k => at2 x0 r k * at2 x1 r (k / 128)) (restRun.sl.H18_18 (F := Ideal) arg1 harg1 arg2 harg2 x0 x1) := by
  unfold restRun.sl.H18_18
  refine (Agrees.cons_unit (fun a b => ?_) (Agrees.cons_unit (fun a b => ?_) (Agrees.cons_unit (fun a b => ?_) (Agrees.cons_unit (fun a b => ?_) (H18_14_agrees arg1 harg1 arg2 harg2 x0 x1))))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_21_agrees : Agrees (arr2 (e := .bf16) fun r k => at2 x0 r k * at2 x1 r (k / 128)) (restRun.sl.H18_21 (F := Ideal) arg1 harg1 arg2 harg2 x0 x1) := by
  unfold restRun.sl.H18_21
  refine (Agrees.cons_unit (fun a b => ?_) (Agrees.cons_unit (fun a b => ?_) (Agrees.cons_unit (fun a b => ?_) (H18_18_agrees arg1 harg1 arg2 harg2 x0 x1)))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_25_agrees : Agrees (arr2 (e := .bf16) fun r k => at2 x0 r k * at2 x1 r (k / 128)) (restRun.sl.H18_25 (F := Ideal) arg1 harg1 arg2 harg2 x0 x1) := by
  unfold restRun.sl.H18_25
  refine (Agrees.cons_unit (fun a b => ?_) (Agrees.cons_unit (fun a b => ?_) (Agrees.cons_unit (fun a b => ?_) (Agrees.cons_unit (fun a b => ?_) (H18_21_agrees arg1 harg1 arg2 harg2 x0 x1))))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_29_agrees : Agrees (arr2 (e := .bf16) fun r k => at2 x0 r k * at2 x1 r (k / 128)) (restRun.sl.H18_29 (F := Ideal) arg1 harg1 arg2 harg2 x0 x1) := by
  unfold restRun.sl.H18_29
  refine (Agrees.cons_unit (fun a b => ?_) (Agrees.cons_unit (fun a b => ?_) (Agrees.cons_unit (fun a b => ?_) (Agrees.cons_unit (fun a b => ?_) (H18_25_agrees arg1 harg1 arg2 harg2 x0 x1))))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_33_agrees : Agrees (arr2 (e := .bf16) fun r k => at2 x0 r k * at2 x1 r (k / 128)) (restRun.sl.H18_33 (F := Ideal) arg1 harg1 arg2 harg2 x0 x1) := by
  unfold restRun.sl.H18_33
  refine (Agrees.cons_unit (fun a b => ?_) (Agrees.cons_unit (fun a b => ?_) (Agrees.cons_unit (fun a b => ?_) (Agrees.cons_unit (fun a b => ?_) (H18_29_agrees arg1 harg1 arg2 harg2 x0 x1))))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_36_agrees : Agrees (arr2 (e := .bf16) fun r k => at2 x0 r k * at2 x1 r (k / 128)) (restRun.sl.H18_36 (F := Ideal) arg1 harg1 arg2 harg2 x0 x1) := by
  unfold restRun.sl.H18_36
  refine (Agrees.cons_unit (fun a b => ?_) (Agrees.cons_unit (fun a b => ?_) (Agrees.cons_unit (fun a b => ?_) (H18_33_agrees arg1 harg1 arg2 harg2 x0 x1)))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_40_agrees : Agrees (arr2 (e := .bf16) fun r k => at2 x0 r k * at2 x1 r (k / 128)) (restRun.sl.H18_40 (F := Ideal) arg1 harg1 arg2 harg2 x0 x1) := by
  unfold restRun.sl.H18_40
  refine (Agrees.cons_unit (fun a b => ?_) (Agrees.cons_unit (fun a b => ?_) (Agrees.cons_unit (fun a b => ?_) (Agrees.cons_unit (fun a b => ?_) (H18_36_agrees arg1 harg1 arg2 harg2 x0 x1))))) <;>
  · simp only [restRun.sl.r, restRun.sl.r_1, restRun.sl.r_2, restRun.sl.r_3, restRun.sl.r_4, restRun.sl.r_5, restRun.sl.r_6, restRun.sl.r_7, restRun.sl.r_8, restRun.sl.r_9, restRun.sl.r_10, restRun.sl.r_11, restRun.sl.r_12, readAt_unread_eq]
    unfold_payloads
    pointwise []
    simp only [at2_eq x0, at2_eq x1]
    have hb := b.isLt
    refine congrArg₂ (· * ·) (congrArg₂ (at2 x0) ?_ ?_) (congrArg₂ (at2 x1) ?_ ?_) <;>
      first
        | omega
        | (simp only [Fin.coe_ofNat_eq_mod]; omega)

theorem H18_40_cover (y : S384x5120.Idx) : ∃ p ∈ restRun.sl.H18_40 (F := Ideal) arg1 harg1 arg2 harg2 x0 x1, y ∈ p.1.set :=
  View.cover_of_tiledL (restRun.sl.H18_40 (F := Ideal) arg1 harg1 arg2 harg2 x0 x1) S384x128.size (by sl_kernel_rfl) y

/-- The dequantised input block. -/
theorem v445_eq (r : Fin 384) (k : Fin 5120) : restRun.sl.v445 (F := Ideal) arg1 harg1 arg2 harg2 arg19 x0 x1 (ix2 r k) = (row i x0 x1 x4 x5 x6 x7 x8 x9 x10 x11 x17 r).xw k := by
  unfold restRun.sl.v445
  refine (readCov_of_unit arg19.view (H18_40_agrees arg1 harg1 arg2 harg2 x0 x1) (H18_40_cover arg1 harg1 arg2 harg2 x0 x1) _ r k).trans ?_
  simp only [Nat.zero_add]
  rfl

end Cert.KernelIdeal.Val
-- ==== Proof.RefValue.lean ====
/-
  The reference's five results, entry by entry, as the plain functions of a token's data.
-/
module

public import proofs.«01_k».proof.Proof.Spec
public import proofs.«01_k».proof.Proof.Gen.ReferenceIdeal.Frame

@[expose] public section

set_option maxRecDepth 16384

noncomputable section

namespace Cert.ReferenceIdeal.Val

open Idealize.ShloMosaic Cert.Spec Cert.ReferenceIdeal Cert.ReferenceIdeal.Gen

variable (x0 : Vec Ideal S1920x5120 .fp8e4m3) (x1 : Vec Ideal S1920x40 .f32) (x2 : Vec Ideal S576x5120 .fp8e4m3) (x3 : Vec Ideal S5x40 .f32) (x4 : Vec Ideal S1x512 .f32) (x5 : Vec Ideal S1x32 .f32) (x6 : Vec Ideal S1920x1 .i32) (x7 : Vec Ideal S1920x512 .bf16) (x8 : Vec Ideal S1920x64 .bf16) (x9 : Vec Ideal S1920x5120 .bf16) (x10 : Vec Ideal S1x5120 .f32) (x11 : Vec Ideal S1920x5120 .bf16)

/-- A token's data in the reference's arrays. -/
def row (r : ℕ) : Row where
  xw k := at2 x0 r k * at2 x1 r (k / 128)
  W n k := at2 x2 n k * at2 x3 (n % 576 / 128) (k % 5120 / 128)
  ng n := at2 x4 0 n
  freq j := at2 x5 0 j
  pos := FloatOps.sitofp (F := Ideal) .f32 (at2 x6 r 0)
  dc n := at2 x7 r n
  dk n := at2 x8 r n
  h k := at2 x9 r k
  ag k := at2 x10 0 k
  dr k := at2 x11 r k

/-- A dequantised weight. -/
theorem row_W (r : ℕ) (n k : ℕ) (hn : n < 576) (hk : k < 5120) : (row x0 x1 x2 x3 x4 x5 x6 x7 x8 x9 x10 x11 r).W n k = at2 x2 n k * at2 x3 (n / 128) (k / 128) := by
  show at2 x2 n k * at2 x3 (n % 576 / 128) (k % 5120 / 128) = _
  rw [Nat.mod_eq_of_lt hn, Nat.mod_eq_of_lt hk]

/-- The latent. -/
theorem c_eq (r : Fin 1920) (n : Fin 512) : k0_pay31 x0 x1 x2 x3 x4 x5 x6 x7 x8 x9 x10 x11 (ix2 r n) = (row x0 x1 x2 x3 x4 x5 x6 x7 x8 x9 x10 x11 r).c n := by
  unfold k0_pay31
  pointwise [k0_pay4, k0_pay2, k0_pay1]
  simp only [at2_eq x0, at2_eq x1, at2_eq x2, at2_eq x3, at2_eq x4, at2_eq x5, at2_eq x6, at2_eq x7, at2_eq x8, at2_eq x9, at2_eq x10, at2_eq x11]
  have hW (k : Fin 5120) := row_W x0 x1 x2 x3 x4 x5 x6 x7 x8 x9 x10 x11 r n k (Nat.lt_trans n.isLt (by decide)) k.isLt
  unfold Row.c
  simp only [hW]
  rfl

/-- The latent's reciprocal root mean square. -/
theorem rstd_eq (r : Fin 1920) : k0_pay33 x0 x1 x2 x3 x4 x5 x6 x7 x8 x9 x10 x11 (ix2 r 0) = (row x0 x1 x2 x3 x4 x5 x6 x7 x8 x9 x10 x11 r).rstd := by
  unfold k0_pay33
  have h (n : Fin 512) : k0_pay4 _ _ _ _ (ix2 r n) = _ := c_eq x0 x1 x2 x3 x4 x5 x6 x7 x8 x9 x10 x11 r n
  pointwise [k0_pay6]
  simp only [h]
  rfl

/-- The gradient of the latent before its norm. -/
theorem dcl_eq (r : Fin 1920) (n : Fin 512) : k0_pay34 x0 x1 x2 x3 x4 x5 x6 x7 x8 x9 x10 x11 (ix2 r n) = (row x0 x1 x2 x3 x4 x5 x6 x7 x8 x9 x10 x11 r).dcl n := by
  unfold k0_pay34
  have h := c_eq x0 x1 x2 x3 x4 x5 x6 x7 x8 x9 x10 x11 r
  have h2 := rstd_eq x0 x1 x2 x3 x4 x5 x6 x7 x8 x9 x10 x11 r
  pointwise [k0_pay8, k0_pay32, k0_pay5]
  simp only [h, h2, at2_eq x0, at2_eq x1, at2_eq x2, at2_eq x3, at2_eq x4, at2_eq x5, at2_eq x6, at2_eq x7, at2_eq x8, at2_eq x9, at2_eq x10, at2_eq x11]
  rfl

/-- The latent gain's gradient. -/
theorem dgp_eq (b : Fin 3) (s : Fin 5) (n : Fin 512) : k0_pay7 (F := Ideal) (k0_pay31 x0 x1 x2 x3 x4 x5 x6 x7 x8 x9 x10 x11) (k0_pay32 x0 x1 x2 x3 x4 x5 x6 x7 x8 x9 x10 x11) (k0_pay33 x0 x1 x2 x3 x4 x5 x6 x7 x8 x9 x10 x11) (ix3 b s n) = ∑ i : Fin 128, (row x0 x1 x2 x3 x4 x5 x6 x7 x8 x9 x10 x11 (b * 640 + s * 128 + i)).dgp n := by
  have h := c_eq x0 x1 x2 x3 x4 x5 x6 x7 x8 x9 x10 x11
  have h2 := rstd_eq x0 x1 x2 x3 x4 x5 x6 x7 x8 x9 x10 x11
  pointwise [k0_pay7, k0_pay32, k0_pay5]
  simp only [h, h2, at2_eq x0, at2_eq x1, at2_eq x2, at2_eq x3, at2_eq x4, at2_eq x5, at2_eq x6, at2_eq x7, at2_eq x8, at2_eq x9, at2_eq x10, at2_eq x11]
  rfl

/-- The quadrants' numbers before their reduction. -/
theorem quad_eq (r : Fin 1920) (j : Fin 32) : k0_pay35 x0 x1 x2 x3 x4 x5 x6 x7 x8 x9 x10 x11 (ix2 r j) = quad (FloatOps.sitofp (F := Ideal) .f32 (at2 x6 r 0) * at2 x5 0 j) := by
  unfold k0_pay35
  pointwise [k0_pay9, k0_pay10]
  simp only [at2_eq x0, at2_eq x1, at2_eq x2, at2_eq x3, at2_eq x4, at2_eq x5, at2_eq x6, at2_eq x7, at2_eq x8, at2_eq x9, at2_eq x10, at2_eq x11]
  rfl

/-- The angles less their quarter turns. -/
theorem rem_eq (r : Fin 1920) (j : Fin 32) : k0_pay12 (k0_pay35 x0 x1 x2 x3 x4 x5 x6 x7 x8 x9 x10 x11) (k0_pay36 x0 x1 x2 x3 x4 x5 x6 x7 x8 x9 x10 x11) (Scalar.ofBits .f32 0x33A22169#32) (ix2 r j) = rem (FloatOps.sitofp (F := Ideal) .f32 (at2 x6 r 0) * at2 x5 0 j) := by
  have h := quad_eq x0 x1 x2 x3 x4 x5 x6 x7 x8 x9 x10 x11 r j
  unfold k0_pay36
  pointwise [k0_pay9, k0_pay11, k0_pay12]
  have h' : k0_pay10 (View.ld x6 r0_8) (View.ld x5 r0_9) (ix2 r j) = _ := h
  simp only [h, h', at2_eq x0, at2_eq x1, at2_eq x2, at2_eq x3, at2_eq x4, at2_eq x5, at2_eq x6, at2_eq x7, at2_eq x8, at2_eq x9, at2_eq x10, at2_eq x11]
  rfl

/-- The sines' polynomials. -/
theorem sinP_eq (r : Fin 1920) (j : Fin 32) : k0_pay37 x0 x1 x2 x3 x4 x5 x6 x7 x8 x9 x10 x11 (ix2 r j) = sinP (rem (FloatOps.sitofp (F := Ideal) .f32 (at2 x6 r 0) * at2 x5 0 j)) := by
  have h : k0_pay12 _ _ (Ideal.ofBits FTy.f32 0x33A22169#32) (ix2 r j) = _ := rem_eq x0 x1 x2 x3 x4 x5 x6 x7 x8 x9 x10 x11 r j
  unfold k0_pay37
  pointwise [k0_pay13, k0_pay14]
  simp only [h]
  rfl

/-- The cosines' polynomials. -/
theorem cosP_eq (r : Fin 1920) (j : Fin 32) : k0_pay38 x0 x1 x2 x3 x4 x5 x6 x7 x8 x9 x10 x11 (ix2 r j) = cosP (rem (FloatOps.sitofp (F := Ideal) .f32 (at2 x6 r 0) * at2 x5 0 j)) := by
  have h : k0_pay12 _ _ (Ideal.ofBits FTy.f32 0x33A22169#32) (ix2 r j) = _ := rem_eq x0 x1 x2 x3 x4 x5 x6 x7 x8 x9 x10 x11 r j
  unfold k0_pay38
  pointwise [k0_pay13, k0_pay15]
  simp only [h]
  rfl

/-- The quadrants. -/
theorem quadrant_eq (r : Fin 1920) (j : Fin 32) : k0_pay39 x0 x1 x2 x3 x4 x5 x6 x7 x8 x9 x10 x11 (ix2 r j) = quadrant (FloatOps.sitofp (F := Ideal) .f32 (at2 x6 r 0) * at2 x5 0 j) := by
  have h := quad_eq x0 x1 x2 x3 x4 x5 x6 x7 x8 x9 x10 x11 r j
  unfold k0_pay39
  pointwise [k0_pay16]
  simp only [h]
  rfl

/-- The sines. -/
theorem sin_eq (r : Fin 1920) (j : Fin 32) : k0_pay40 x0 x1 x2 x3 x4 x5 x6 x7 x8 x9 x10 x11 (ix2 r j) = sinA (FloatOps.sitofp (F := Ideal) .f32 (at2 x6 r 0) * at2 x5 0 j) := by
  have h : k0_pay14 _ _ (Ideal.ofBits FTy.f32 0x33A22169#32) (ix2 r j) = _ := sinP_eq x0 x1 x2 x3 x4 x5 x6 x7 x8 x9 x10 x11 r j
  have h2 : k0_pay15 _ _ (Ideal.ofBits FTy.f32 0x33A22169#32) (ix2 r j) = _ := cosP_eq x0 x1 x2 x3 x4 x5 x6 x7 x8 x9 x10 x11 r j
  have h3 : k0_pay16 _ (ix2 r j) = _ := quadrant_eq x0 x1 x2 x3 x4 x5 x6 x7 x8 x9 x10 x11 r j
  unfold k0_pay40
  pointwise [k0_pay17]
  simp only [h, h2, h3]
  rfl

/-- The gradient of the rotated part before its rotation. -/
theorem dkr_eq (r : Fin 1920) (n : Fin 64) : k0_pay42 x0 x1 x2 x3 x4 x5 x6 x7 x8 x9 x10 x11 (ix2 r n) = (row x0 x1 x2 x3 x4 x5 x6 x7 x8 x9 x10 x11 r).dkr n := by
  have h (j : Fin 32) := sinP_eq x0 x1 x2 x3 x4 x5 x6 x7 x8 x9 x10 x11 r j
  have h2 (j : Fin 32) := cosP_eq x0 x1 x2 x3 x4 x5 x6 x7 x8 x9 x10 x11 r j
  have h3 (j : Fin 32) := quadrant_eq x0 x1 x2 x3 x4 x5 x6 x7 x8 x9 x10 x11 r j
  have h4 (j : Fin 32) := sin_eq x0 x1 x2 x3 x4 x5 x6 x7 x8 x9 x10 x11 r j
  unfold k0_pay42 k0_pay41
  pointwise [k0_pay18, k0_pay19]
  simp only [h, h2, h3, h4, at2_eq x0, at2_eq x1, at2_eq x2, at2_eq x3, at2_eq x4, at2_eq x5, at2_eq x6, at2_eq x7, at2_eq x8, at2_eq x9, at2_eq x10, at2_eq x11]
  rfl

/-- The groups' largest magnitudes over the largest code. -/
theorem over_eq (r : Fin 1920) (g : Fin 5) : k0_pay44 x0 x1 x2 x3 x4 x5 x6 x7 x8 x9 x10 x11 (ix2 r g) = over ((row x0 x1 x2 x3 x4 x5 x6 x7 x8 x9 x10 x11 r).amax g) := by
  have h (n : Fin 512) := dcl_eq x0 x1 x2 x3 x4 x5 x6 x7 x8 x9 x10 x11 r n
  have h2 (n : Fin 64) : k0_pay19 _ _ _ _ _ _ (ix2 r n) = _ := dkr_eq x0 x1 x2 x3 x4 x5 x6 x7 x8 x9 x10 x11 r n
  unfold k0_pay44
  pointwise [k0_pay20, k0_pay21]
  simp only [h, h2]
  rfl

/-- The exponents. -/
theorem expo_eq (r : Fin 1920) (g : Fin 5) : k0_pay23 (k0_pay44 x0 x1 x2 x3 x4 x5 x6 x7 x8 x9 x10 x11) (k0_pay45 x0 x1 x2 x3 x4 x5 x6 x7 x8 x9 x10 x11) (Ideal.ofBits .f32 0x42FC0000#32) (ix2 r g) = expo (over ((row x0 x1 x2 x3 x4 x5 x6 x7 x8 x9 x10 x11 r).amax g)) := by
  have h := over_eq x0 x1 x2 x3 x4 x5 x6 x7 x8 x9 x10 x11 r g
  have h2 : k0_pay21 _ _ _ _ _ _ _ (ix2 r g) = _ := over_eq x0 x1 x2 x3 x4 x5 x6 x7 x8 x9 x10 x11 r g
  unfold k0_pay45
  have hn : (Named.named (F := Ideal) (φ := FTy.f32) κ "ln2" 0x3F317218#32 : EReal) = ((Real.log 2 : ℝ) : EReal) := by
    with_unfolding_all rfl
  pointwise [k0_pay22, k0_pay23]
  simp only [h, h2, hn]
  rfl

/-- The scales. -/
theorem scale_eq (r : Fin 1920) (g : Fin 5) : k0_pay24 (k0_pay44 x0 x1 x2 x3 x4 x5 x6 x7 x8 x9 x10 x11) (k0_pay45 x0 x1 x2 x3 x4 x5 x6 x7 x8 x9 x10 x11) (Ideal.ofBits .f32 0x42FC0000#32) (ix2 r g) = (row x0 x1 x2 x3 x4 x5 x6 x7 x8 x9 x10 x11 r).scale g := by
  have h := expo_eq x0 x1 x2 x3 x4 x5 x6 x7 x8 x9 x10 x11 r g
  pointwise [k0_pay24]
  simp only [h]
  rfl

/-- The codes. -/
theorem code_eq (r : Fin 1920) (n : Fin 576) : k0_pay25 (k0_pay42 x0 x1 x2 x3 x4 x5 x6 x7 x8 x9 x10 x11) (k0_pay43 x0 x1 x2 x3 x4 x5 x6 x7 x8 x9 x10 x11) (k0_pay44 x0 x1 x2 x3 x4 x5 x6 x7 x8 x9 x10 x11) (k0_pay45 x0 x1 x2 x3 x4 x5 x6 x7 x8 x9 x10 x11) (Ideal.ofBits .f32 0x42FC0000#32) (ix2 r n) = (row x0 x1 x2 x3 x4 x5 x6 x7 x8 x9 x10 x11 r).code n := by
  have h (g : Fin 5) := expo_eq x0 x1 x2 x3 x4 x5 x6 x7 x8 x9 x10 x11 r g
  have h2 (n : Fin 64) := dkr_eq x0 x1 x2 x3 x4 x5 x6 x7 x8 x9 x10 x11 r n
  have h3 (n : Fin 512) := dcl_eq x0 x1 x2 x3 x4 x5 x6 x7 x8 x9 x10 x11 r n
  unfold k0_pay43
  pointwise [k0_pay25, k0_pay20]
  simp only [h, h2, h3, Nat.div_add_mod']
  unfold Row.code
  rfl

/-- The dequantised weights. -/
theorem W_eq (n : Fin 576) (k : Fin 5120) (r : ℕ) : k0_pay3 (View.ld x3 r0_0) (View.ld x2 r0_1) (View.ld x2 r0_2) (ix2 n k) = (row x0 x1 x2 x3 x4 x5 x6 x7 x8 x9 x10 x11 r).W n k := by
  pointwise [k0_pay1, k0_pay2, k0_pay3]
  simp only [at2_eq x0, at2_eq x1, at2_eq x2, at2_eq x3, at2_eq x4, at2_eq x5, at2_eq x6, at2_eq x7, at2_eq x8, at2_eq x9, at2_eq x10, at2_eq x11]
  rw [row_W x0 x1 x2 x3 x4 x5 x6 x7 x8 x9 x10 x11 r n k n.isLt k.isLt]
  split
  · simp only [Nat.div_add_mod']
  · rename_i h
    have hn := n.isLt
    have h5 : (n : ℕ) / 128 = 4 := by omega
    have h6 : 512 + ((n : ℕ) - 512) = n := by omega
    simp only [h5, h6]
    rfl

/-- The gradient of the projection's input. -/
theorem dx_eq (r : Fin 1920) (k : Fin 5120) : k0_pay46 x0 x1 x2 x3 x4 x5 x6 x7 x8 x9 x10 x11 (ix2 r k) = (row x0 x1 x2 x3 x4 x5 x6 x7 x8 x9 x10 x11 r).dx k := by
  have h (n : Fin 576) := code_eq x0 x1 x2 x3 x4 x5 x6 x7 x8 x9 x10 x11 r n
  have h2 (g : Fin 5) := scale_eq x0 x1 x2 x3 x4 x5 x6 x7 x8 x9 x10 x11 r g
  have h3 (n : Fin 576) := W_eq x0 x1 x2 x3 x4 x5 x6 x7 x8 x9 x10 x11 n k r
  unfold k0_pay46
  pointwise [k0_pay26]
  simp only [h, h2, h3, Nat.div_add_mod']
  unfold Row.dx
  refine Eq.trans ?_ (Fin.sum_univ_add (a := 512) (b := 64) fun n => (row x0 x1 x2 x3 x4 x5 x6 x7 x8 x9 x10 x11 r).code n * (row x0 x1 x2 x3 x4 x5 x6 x7 x8 x9 x10 x11 r).scale (n / 128) * (row x0 x1 x2 x3 x4 x5 x6 x7 x8 x9 x10 x11 r).W n k).symm
  refine congrArg₂ _ rfl (Finset.sum_congr rfl fun x _ => ?_)
  have hx := x.isLt
  have h5 : (512 + (x : ℕ)) / 128 = 4 := by omega
  simp only [Fin.val_natAdd, h5]
  rfl

/-- The residual gain's gradient. -/
theorem dagp_eq (b : Fin 3) (s : Fin 5) (k : Fin 5120) : k0_pay29 (k0_pay46 x0 x1 x2 x3 x4 x5 x6 x7 x8 x9 x10 x11) (View.ld x9 r0_3) (ix3 b s k) = ∑ i : Fin 128, (row x0 x1 x2 x3 x4 x5 x6 x7 x8 x9 x10 x11 (b * 640 + s * 128 + i)).dagp k := by
  have h (r : Fin 1920) (k : Fin 5120) := dx_eq x0 x1 x2 x3 x4 x5 x6 x7 x8 x9 x10 x11 r k
  pointwise [k0_pay27, k0_pay28, k0_pay29]
  simp only [h, at2_eq x0, at2_eq x1, at2_eq x2, at2_eq x3, at2_eq x4, at2_eq x5, at2_eq x6, at2_eq x7, at2_eq x8, at2_eq x9, at2_eq x10, at2_eq x11]
  rfl

/-- The residual stream's gradient. -/
theorem dh_eq (r : Fin 1920) (k : Fin 5120) : k0_pay30 (k0_pay46 x0 x1 x2 x3 x4 x5 x6 x7 x8 x9 x10 x11) (View.ld x9 r0_3) (View.ld x10 r0_14) (View.ld x11 r0_3) (ix2 r k) = (row x0 x1 x2 x3 x4 x5 x6 x7 x8 x9 x10 x11 r).dh k := by
  have h (r : Fin 1920) (k : Fin 5120) := dx_eq x0 x1 x2 x3 x4 x5 x6 x7 x8 x9 x10 x11 r k
  pointwise [k0_pay27, k0_pay28, k0_pay30]
  simp only [h, at2_eq x0, at2_eq x1, at2_eq x2, at2_eq x3, at2_eq x4, at2_eq x5, at2_eq x6, at2_eq x7, at2_eq x8, at2_eq x9, at2_eq x10, at2_eq x11]
  rfl

end Cert.ReferenceIdeal.Val
-- ==== Proof.KernelIdealStart.lean ====
/-
  The scaling of the weights, run once at symbolic contents: what it leaves in the scratch.
-/
module

public import proofs.«01_k».proof.Proof.KernelIdealRest
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the scaling of the weights leaves in the scratch, with the proof that from the weights' buffer at `x2`, the
    scales' at `x3` and the scratch at anything it runs to its return, handing back the first two as they were. -/
noncomputable def startRun (c : Dev nD) (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
    (x2 : Vec F S576x5120 .fp8e4m3) (x3 : Vec F S5x40 .f32) :
    { W : Bf (F := F) c arg18 // ∀ (f17 : Bf (F := F) c arg18) (E : Set ℕ) (Q : PUnit → sProp 𝕄),
        iprop(pt c arg3 (harg3.unread x2) ∗ pt c arg4 (harg4.unread x3) ∗ pt c arg18 f17
          ∗ (iprop(pt c arg3 (harg3.unread x2) ∗ pt c arg4 (harg4.unread x3) ∗ pt c arg18 W) -∗ Q ⟨⟩))
        ⊢ wp frame (wpE (defs₀ (F := F)) Variants.none c none) E (scaleWeights i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q } := by
  refine ⟨?_, fun f17 E Q => ?run⟩
  case run =>
    iintro ⟨H2, H3, H17, Hk⟩
    unfold scaleWeights
    sl_exec_parts!
    sl_step
    iapply Hk
    isplitl [H2]; · iexact H2
    isplitl [H3]; · iexact H3
    iexact H17

end Cert.KernelIdeal.Body

end
-- ==== Proof.KernelIdealRun.lean ====
/-
  The run with its contents tracked: the scaled weights in the scratch, the results' blocks in their buffers.
-/
module

public import proofs.«01_k».proof.Proof.KernelIdealStart
public import proofs.«01_k».proof.Proof.KernelIdealFrame
public import Idealize.ShloMosaic.Lib.Pipeline.ArrRel
public import proofs.«01_k».proof.Proof.Gen.KernelIdeal.Skeleton

@[expose] public section

set_option maxRecDepth 16384

noncomputable section

namespace Cert.KernelIdeal.Track

open Cert.KernelIdeal Cert.KernelIdeal.Gen
open Cert.KernelIdeal.Body hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem owns_unread {c : Dev nD} {sp : Space} {S : Shape} {e : EltTy} {M : Memref sig .tc sp S e} (h : M.IsWhole) (X : S.Idx → Elt F e) :
    (owns (c : Thread nD τ) M fullShare X : sProp 𝕄) = M.view.loc (c : Thread nD τ) ↦{fullShare} h.unread X := by
  have hr := h.read_unread X
  obtain ⟨b, rfl, rfl, rfl, hm⟩ := h; cases hm
  rw [owns_whole]
  exact congrArg _ hr.symm

set_option maxHeartbeats 3200000 in
/-- The rest of the body, its buffers named by what they read. -/
theorem restOwns (c : Dev nD) (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
    (x0 : Vec F S384x5120 .fp8e4m3) (x1 : Vec F S384x40 .f32) (x2 : Vec F S576x5120 .fp8e4m3) (x3 : Vec F S5x40 .f32) (x4 : Vec F S1x512 .f32) (x5 : Vec F S32x1 .f32) (x6 : Vec F S3x5x128 .i32) (x7 : Vec F S384x512 .bf16) (x8 : Vec F S384x64 .bf16) (x9 : Vec F S384x5120 .bf16) (x10 : Vec F S1x5120 .f32) (x11 : Vec F S384x5120 .bf16)
    (x17 : Vec F S576x5120 .bf16) (y13 : Vec F S3x5x5120 .f32) (y14 : Vec F S3x5x512 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare y13 ∗ owns (c : Thread nD τ) arg15 fullShare y14 ∗ (∃ d, owns (c : Thread nD τ) arg16 fullShare d) ∗ (∃ d, owns (c : Thread nD τ) arg17 fullShare d) ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (arg13.view.read (Elt F) (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.1) ∗ owns (c : Thread nD τ) arg14 fullShare (arg14.view.read (Elt F) (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.2.1) ∗ owns (c : Thread nD τ) arg15 fullShare (arg15.view.read (Elt F) (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.2.2.1) ∗ owns (c : Thread nD τ) arg16 fullShare (arg16.view.read (Elt F) (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.2.2.2.1) ∗ owns (c : Thread nD τ) arg17 fullShare (arg17.view.read (Elt F) (restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.2.2.2.2) ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d)) -∗ Q ⟨⟩))
    ⊢ wp frame (wpE (defs₀ (F := F)) Variants.none c none) E (rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  simp only [owns_unread harg1, owns_unread harg2, owns_unread harg3, owns_unread harg4, owns_unread harg5, owns_unread harg6, owns_unread harg7, owns_unread harg8, owns_unread harg9, owns_unread harg10, owns_unread harg11, owns_unread harg12, owns_unread harg13, owns_unread harg14, owns_unread harg15, owns_unread harg16, owns_unread harg17, owns_unread harg18, owns_unread harg19, owns_unread harg20, owns_unread harg21]
  iintro ⟨H0, H1, H2, H3, H4, H5, H6, H7, H8, H9, H10, H11, ⟨%d12, H12⟩, H13, H14, ⟨%d15, H15⟩, ⟨%d16, H16⟩, H17, ⟨%d18, H18⟩, ⟨%d19, H19⟩, ⟨%d20, H20⟩, Hk⟩
  iapply ((restRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).2 (harg13.unread d12) (harg16.unread d15) (harg17.unread d16) (harg19.unread d18) (harg20.unread d19) (harg21.unread d20) E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H0, H1, H2, H3, H4, H5, H6, H7, H8, H9, H10, H11, H12, H13, H14, H15, H16, H17, H18, H19, H20⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · rw [harg13.unread_read]; iexact H12
  isplitl [H13]
  · rw [harg14.unread_read]; iexact H13
  isplitl [H14]
  · rw [harg15.unread_read]; iexact H14
  isplitl [H15]
  · rw [harg16.unread_read]; iexact H15
  isplitl [H16]
  · rw [harg17.unread_read]; iexact H16
  isplitl [H17]; · iexact H17
  isplitl [H18]
  · icases H18 with ⟨%f, H18⟩; iexists (arg19.view.read (Elt F) f); rw [harg19.unread_read]; iexact H18
  isplitl [H19]
  · icases H19 with ⟨%f, H19⟩; iexists (arg20.view.read (Elt F) f); rw [harg20.unread_read]; iexact H19
  icases H20 with ⟨%f, H20⟩; iexists (arg21.view.read (Elt F) f); rw [harg21.unread_read]; iexact H20

/-- The scaling of the weights, its buffers named by what they read. -/
theorem startOwns (c : Dev nD) (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
    (x2 : Vec F S576x5120 .fp8e4m3) (x3 : Vec F S5x40 .f32) (E : Set ℕ) (Q : PUnit → sProp 𝕄) :
    iprop(owns (c : Thread nD τ) arg3 fullShare x2 ∗ owns (c : Thread nD τ) arg4 fullShare x3 ∗ (∃ d, owns (c : Thread nD τ) arg18 fullShare d)
      ∗ (iprop(owns (c : Thread nD τ) arg3 fullShare x2 ∗ owns (c : Thread nD τ) arg4 fullShare x3 ∗ owns (c : Thread nD τ) arg18 fullShare (arg18.view.read (Elt F) (startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3).1)) -∗ Q ⟨⟩))
    ⊢ wp frame (wpE (defs₀ (F := F)) Variants.none c none) E (scaleWeights i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  simp only [owns_unread harg3, owns_unread harg4, owns_unread harg18]
  iintro ⟨H2, H3, ⟨%d17, H17⟩, Hk⟩
  iapply ((startRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3).2 (harg18.unread d17) E Q)
  isplitl [H2]; · iexact H2
  isplitl [H3]; · iexact H3
  isplitl [H17]; · iexact H17
  iintro ⟨H2, H3, H17⟩
  iapply Hk
  isplitl [H2]; · iexact H2
  isplitl [H3]; · iexact H3
  rw [harg18.unread_read]; iexact H17

variable (m : (ℓ : Loc nD τ sig) → Buf (Elt F) ℓ) (ρ : Dev nD → PrngReg)

/-- The run of the rest of the body at point `t`, from the scaled weights and the two whole-array results as found. -/
def restAt (c : Dev nD) (t : Fin cfg0.N) (x17 : Vec F S576x5120 .bf16) (y13 : Vec F S3x5x5120 .f32) (y14 : Vec F S3x5x512 .f32) :=
  restRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x17 y13 y14

/-- The run of the scaling at point `t`. -/
def startAt (c : Dev nD) (t : Fin cfg0.N) :=
  startRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 2 t) (iblk m c 3 t)

/-- The first point. -/
def t0 : Fin cfg0.N := ⟨0, by rw [show cfg0.N = 5 from N_0]; decide⟩

/-- The scaled weights. -/
def wsc (c : Dev nD) : Vec F S576x5120 .bf16 := sc0.view.read (Elt F) (startAt m c t0).1

/-- What the body may use beside the windows before point `t`: anything before the first, the scaled weights after it. -/
def Φv (c : Dev nD) (t : Fin (cfg0.N + 1)) : sProp 𝕄 :=
  if t.val = 0 then Pipeline.ΦA spec0 c
  else iprop(iprop(owns (c : Thread nD τ) sc0 fullShare (wsc m c) ∗ (∃ d, owns (c : Thread nD τ) sc1 fullShare d)
        ∗ (∃ d, owns (c : Thread nD τ) sc2 fullShare d) ∗ (∃ d, owns (c : Thread nD τ) sc3 fullShare d)) ∗ (∃ r, prngReg c r))

/-- The proof data with the scratch tracked. -/
def vdat (c : Dev nD) : Dat τ (Elt F) Unit ℕ (UR sig nD τ) ℕ cfg0 c := { dats m 0 c with Φ := Φv m c }

/-- What each result's buffer holds after a point. -/
def ovr (c : Dev nD) : (w : Fin cfg0.W) → Option (Fin cfg0.N → (Y X : (cfg0.win w).block.Idx → Elt F (cfg0.win w).elt) → Prop)
  | ⟨12, _⟩ => some fun t _ X => ∃ y13 y14, X = (ms12 t).view.read (Elt F) (restAt m c t (wsc m c) y13 y14).1.1
  | ⟨13, _⟩ => some fun t Y X => ∃ y14, X = (ms13 t).view.read (Elt F) (restAt m c t (wsc m c) Y y14).1.2.1
  | ⟨14, _⟩ => some fun t Y X => ∃ y13, X = (ms14 t).view.read (Elt F) (restAt m c t (wsc m c) y13 Y).1.2.2.1
  | ⟨15, _⟩ => some fun t _ X => ∃ y13 y14, X = (ms15 t).view.read (Elt F) (restAt m c t (wsc m c) y13 y14).1.2.2.2.1
  | ⟨16, _⟩ => some fun t _ X => ∃ y13 y14, X = (ms16 t).view.read (Elt F) (restAt m c t (wsc m c) y13 y14).1.2.2.2.2
  | _ => none

def rdat (c : Dev nD) : Pipeline.RDat τ (Elt F) Unit ℕ (UR sig nD τ) ℕ cfg0 c := (vdat m c).toR.override (ovr m c)

theorem vfind0 (c : Dev nD) (t : Fin cfg0.N) (Y) (h : (rdat m c).Finds 0 t Y) : Y = iblk m c 0 t := by
  obtain ⟨d, hd⟩ := (vdat m c).toR_finds 0 t Y (((vdat m c).toR.override_finds (ovr := ovr m c) (w := 0) rfl t Y).1 h)
  exact hd.trans (before0_0_of m (vdat m c) (A_eq m c 0) (after0 m c) t d)
theorem vleave0 (c : Dev nD) (t : Fin cfg0.N) (Y) : (rdat m c).after 0 t Y (iblk m c 0 t) := by
  show (vdat m c).Leaves 0 t _
  exact (Pipeline.Dat.Leaves.live_iff (vdat m c) (.inl rfl)).2 (after0 m c t).symm
theorem vfind1 (c : Dev nD) (t : Fin cfg0.N) (Y) (h : (rdat m c).Finds 1 t Y) : Y = iblk m c 1 t := by
  obtain ⟨d, hd⟩ := (vdat m c).toR_finds 1 t Y (((vdat m c).toR.override_finds (ovr := ovr m c) (w := 1) rfl t Y).1 h)
  exact hd.trans (before0_1_of m (vdat m c) (A_eq m c 1) (after1 m c) t d)
theorem vleave1 (c : Dev nD) (t : Fin cfg0.N) (Y) : (rdat m c).after 1 t Y (iblk m c 1 t) := by
  show (vdat m c).Leaves 1 t _
  exact (Pipeline.Dat.Leaves.live_iff (vdat m c) (.inl rfl)).2 (after1 m c t).symm
theorem vfind2 (c : Dev nD) (t : Fin cfg0.N) (Y) (h : (rdat m c).Finds 2 t Y) : Y = iblk m c 2 t := by
  obtain ⟨d, hd⟩ := (vdat m c).toR_finds 2 t Y (((vdat m c).toR.override_finds (ovr := ovr m c) (w := 2) rfl t Y).1 h)
  exact hd.trans (before0_2_of m (vdat m c) (A_eq m c 2) (after2 m c) t d)
theorem vleave2 (c : Dev nD) (t : Fin cfg0.N) (Y) : (rdat m c).after 2 t Y (iblk m c 2 t) := by
  show (vdat m c).Leaves 2 t _
  exact (Pipeline.Dat.Leaves.live_iff (vdat m c) (.inl rfl)).2 (after2 m c t).symm
theorem vfind3 (c : Dev nD) (t : Fin cfg0.N) (Y) (h : (rdat m c).Finds 3 t Y) : Y = iblk m c 3 t := by
  obtain ⟨d, hd⟩ := (vdat m c).toR_finds 3 t Y (((vdat m c).toR.override_finds (ovr := ovr m c) (w := 3) rfl t Y).1 h)
  exact hd.trans (before0_3_of m (vdat m c) (A_eq m c 3) (after3 m c) t d)
theorem vleave3 (c : Dev nD) (t : Fin cfg0.N) (Y) : (rdat m c).after 3 t Y (iblk m c 3 t) := by
  show (vdat m c).Leaves 3 t _
  exact (Pipeline.Dat.Leaves.live_iff (vdat m c) (.inl rfl)).2 (after3 m c t).symm
theorem vfind4 (c : Dev nD) (t : Fin cfg0.N) (Y) (h : (rdat m c).Finds 4 t Y) : Y = iblk m c 4 t := by
  obtain ⟨d, hd⟩ := (vdat m c).toR_finds 4 t Y (((vdat m c).toR.override_finds (ovr := ovr m c) (w := 4) rfl t Y).1 h)
  exact hd.trans (before0_4_of m (vdat m c) (A_eq m c 4) (after4 m c) t d)
theorem vleave4 (c : Dev nD) (t : Fin cfg0.N) (Y) : (rdat m c).after 4 t Y (iblk m c 4 t) := by
  show (vdat m c).Leaves 4 t _
  exact (Pipeline.Dat.Leaves.live_iff (vdat m c) (.inl rfl)).2 (after4 m c t).symm
theorem vfind5 (c : Dev nD) (t : Fin cfg0.N) (Y) (h : (rdat m c).Finds 5 t Y) : Y = iblk m c 5 t := by
  obtain ⟨d, hd⟩ := (vdat m c).toR_finds 5 t Y (((vdat m c).toR.override_finds (ovr := ovr m c) (w := 5) rfl t Y).1 h)
  exact hd.trans (before0_5_of m (vdat m c) (A_eq m c 5) (after5 m c) t d)
theorem vleave5 (c : Dev nD) (t : Fin cfg0.N) (Y) : (rdat m c).after 5 t Y (iblk m c 5 t) := by
  show (vdat m c).Leaves 5 t _
  exact (Pipeline.Dat.Leaves.live_iff (vdat m c) (.inl rfl)).2 (after5 m c t).symm
theorem vfind6 (c : Dev nD) (t : Fin cfg0.N) (Y) (h : (rdat m c).Finds 6 t Y) : Y = iblk m c 6 t := by
  obtain ⟨d, hd⟩ := (vdat m c).toR_finds 6 t Y (((vdat m c).toR.override_finds (ovr := ovr m c) (w := 6) rfl t Y).1 h)
  exact hd.trans (before0_6_of m (vdat m c) (A_eq m c 6) (after6 m c) t d)
theorem vleave6 (c : Dev nD) (t : Fin cfg0.N) (Y) : (rdat m c).after 6 t Y (iblk m c 6 t) := by
  show (vdat m c).Leaves 6 t _
  exact (Pipeline.Dat.Leaves.live_iff (vdat m c) (.inl rfl)).2 (after6 m c t).symm
theorem vfind7 (c : Dev nD) (t : Fin cfg0.N) (Y) (h : (rdat m c).Finds 7 t Y) : Y = iblk m c 7 t := by
  obtain ⟨d, hd⟩ := (vdat m c).toR_finds 7 t Y (((vdat m c).toR.override_finds (ovr := ovr m c) (w := 7) rfl t Y).1 h)
  exact hd.trans (before0_7_of m (vdat m c) (A_eq m c 7) (after7 m c) t d)
theorem vleave7 (c : Dev nD) (t : Fin cfg0.N) (Y) : (rdat m c).after 7 t Y (iblk m c 7 t) := by
  show (vdat m c).Leaves 7 t _
  exact (Pipeline.Dat.Leaves.live_iff (vdat m c) (.inl rfl)).2 (after7 m c t).symm
theorem vfind8 (c : Dev nD) (t : Fin cfg0.N) (Y) (h : (rdat m c).Finds 8 t Y) : Y = iblk m c 8 t := by
  obtain ⟨d, hd⟩ := (vdat m c).toR_finds 8 t Y (((vdat m c).toR.override_finds (ovr := ovr m c) (w := 8) rfl t Y).1 h)
  exact hd.trans (before0_8_of m (vdat m c) (A_eq m c 8) (after8 m c) t d)
theorem vleave8 (c : Dev nD) (t : Fin cfg0.N) (Y) : (rdat m c).after 8 t Y (iblk m c 8 t) := by
  show (vdat m c).Leaves 8 t _
  exact (Pipeline.Dat.Leaves.live_iff (vdat m c) (.inl rfl)).2 (after8 m c t).symm
theorem vfind9 (c : Dev nD) (t : Fin cfg0.N) (Y) (h : (rdat m c).Finds 9 t Y) : Y = iblk m c 9 t := by
  obtain ⟨d, hd⟩ := (vdat m c).toR_finds 9 t Y (((vdat m c).toR.override_finds (ovr := ovr m c) (w := 9) rfl t Y).1 h)
  exact hd.trans (before0_9_of m (vdat m c) (A_eq m c 9) (after9 m c) t d)
theorem vleave9 (c : Dev nD) (t : Fin cfg0.N) (Y) : (rdat m c).after 9 t Y (iblk m c 9 t) := by
  show (vdat m c).Leaves 9 t _
  exact (Pipeline.Dat.Leaves.live_iff (vdat m c) (.inl rfl)).2 (after9 m c t).symm
theorem vfind10 (c : Dev nD) (t : Fin cfg0.N) (Y) (h : (rdat m c).Finds 10 t Y) : Y = iblk m c 10 t := by
  obtain ⟨d, hd⟩ := (vdat m c).toR_finds 10 t Y (((vdat m c).toR.override_finds (ovr := ovr m c) (w := 10) rfl t Y).1 h)
  exact hd.trans (before0_10_of m (vdat m c) (A_eq m c 10) (after10 m c) t d)
theorem vleave10 (c : Dev nD) (t : Fin cfg0.N) (Y) : (rdat m c).after 10 t Y (iblk m c 10 t) := by
  show (vdat m c).Leaves 10 t _
  exact (Pipeline.Dat.Leaves.live_iff (vdat m c) (.inl rfl)).2 (after10 m c t).symm
theorem vfind11 (c : Dev nD) (t : Fin cfg0.N) (Y) (h : (rdat m c).Finds 11 t Y) : Y = iblk m c 11 t := by
  obtain ⟨d, hd⟩ := (vdat m c).toR_finds 11 t Y (((vdat m c).toR.override_finds (ovr := ovr m c) (w := 11) rfl t Y).1 h)
  exact hd.trans (before0_11_of m (vdat m c) (A_eq m c 11) (after11 m c) t d)
theorem vleave11 (c : Dev nD) (t : Fin cfg0.N) (Y) : (rdat m c).after 11 t Y (iblk m c 11 t) := by
  show (vdat m c).Leaves 11 t _
  exact (Pipeline.Dat.Leaves.live_iff (vdat m c) (.inl rfl)).2 (after11 m c t).symm

/-- What the body is called with at point `t`, and what it returns. -/
def vPre (c : Dev nD) (t : Fin cfg0.N) (Y : (w : Fin cfg0.W) → (cfg0.win w).block.Idx → Elt F (cfg0.win w).elt) : sProp 𝕄 :=
  iprop(Φv m c t.castSucc ∗ (dats m 0 c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13) ∗ owns (c : Thread nD τ) (ms14 t) fullShare (Y 14) ∗ owns (c : Thread nD τ) (ms15 t) fullShare (Y 15) ∗ owns (c : Thread nD τ) (ms16 t) fullShare (Y 16))
def vPost (c : Dev nD) (t : Fin cfg0.N) (Y : (w : Fin cfg0.W) → (cfg0.win w).block.Idx → Elt F (cfg0.win w).elt) : sProp 𝕄 :=
  iprop(Φv m c t.succ ∗ (dats m 0 c).owesAt () t.succ ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X) ∗ (∃ X, ⌜(rdat m c).after 11 t (Y 11) X⌝ ∗ owns (c : Thread nD τ) (ms11 t) fullShare X) ∗ (∃ X, ⌜(rdat m c).after 12 t (Y 12) X⌝ ∗ owns (c : Thread nD τ) (ms12 t) fullShare X) ∗ (∃ X, ⌜(rdat m c).after 13 t (Y 13) X⌝ ∗ owns (c : Thread nD τ) (ms13 t) fullShare X) ∗ (∃ X, ⌜(rdat m c).after 14 t (Y 14) X⌝ ∗ owns (c : Thread nD τ) (ms14 t) fullShare X) ∗ (∃ X, ⌜(rdat m c).after 15 t (Y 15) X⌝ ∗ owns (c : Thread nD τ) (ms15 t) fullShare X) ∗ (∃ X, ⌜(rdat m c).after 16 t (Y 16) X⌝ ∗ owns (c : Thread nD τ) (ms16 t) fullShare X))

set_option maxHeartbeats 3200000 in
/-- The body at any point, its contents tracked. -/
theorem vsound (c : Dev nD) (t : Fin cfg0.N) (Y : (w : Fin cfg0.W) → (cfg0.win w).block.Idx → Elt F (cfg0.win w).elt) (hY : ∀ w, (rdat m c).Finds w t (Y w)) :
    vPre m c t Y ⊢ wp frame (wpE (defs₀ (F := F)) Variants.none c none) Set.univ (bodyAt0 t) (fun _ => vPost m c t Y) := by
  unfold vPre vPost bodyAt0
  rw [body_eq, wp_bind]
  rw [vfind0 m c t _ (hY 0), vfind1 m c t _ (hY 1), vfind2 m c t _ (hY 2), vfind3 m c t _ (hY 3), vfind4 m c t _ (hY 4), vfind5 m c t _ (hY 5), vfind6 m c t _ (hY 6), vfind7 m c t _ (hY 7), vfind8 m c t _ (hY 8), vfind9 m c t _ (hY 9), vfind10 m c t _ (hY 10), vfind11 m c t _ (hY 11)]
  rw [show (dats m 0 c).owesAt () t.succ = (dats m 0 c).owesAt () t.castSucc from rfl]
  have hs : Φv m c t.succ = iprop(iprop(owns (c : Thread nD τ) sc0 fullShare (wsc m c) ∗ (∃ d, owns (c : Thread nD τ) sc1 fullShare d)
        ∗ (∃ d, owns (c : Thread nD τ) sc2 fullShare d) ∗ (∃ d, owns (c : Thread nD τ) sc3 fullShare d)) ∗ (∃ r, prngReg c r)) := if_neg (by simp)
  rw [hs]
  have ht5 : t.val < 5 := Nat.lt_of_lt_of_eq t.isLt N_0
  by_cases h0 : t.val = 0
  · have hp : Φv m c t.castSucc = Pipeline.ΦA spec0 c := if_pos h0
    rw [hp, rest_eq]
    obtain rfl : t = t0 := Fin.ext h0
    unfold start
    rw [if_pos ((first_iff t0).mpr (by rw [h0]))]
    iintro ⟨⟨⟨HS0, HS1, HS2, HS3⟩, Hg⟩, Ho, H0, H1, H2, H3, H4, H5, H6, H7, H8, H9, H10, H11, H12, H13, H14, H15, H16⟩
    iapply (startOwns c  (grid0.coords t0) _ _ _ _ _ _ _ _ _ _ _ _ _ _ _ _ _ _ _ _ _ _ _ _ _ _ _ _ _ _ _ _ _ _ _ _ _ _ _ _ _ _ (iblk m c 2 t0) (iblk m c 3 t0) Set.univ _)
    isplitl [H2]; · iexact H2
    isplitl [H3]; · iexact H3
    isplitl [HS0]; · iexact HS0
    iintro ⟨H2, H3, HS0⟩
    iapply (restOwns c (grid0.coords t0) _ _ _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (wsc m c) (Y 13) (Y 14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · iexists _; isplitr; swap; · iexact H0
      ipureintro; exact vleave0 m c t0 _
    isplitl [H1]
    · iexists _; isplitr; swap; · iexact H1
      ipureintro; exact vleave1 m c t0 _
    isplitl [H2]
    · iexists _; isplitr; swap; · iexact H2
      ipureintro; exact vleave2 m c t0 _
    isplitl [H3]
    · iexists _; isplitr; swap; · iexact H3
      ipureintro; exact vleave3 m c t0 _
    isplitl [H4]
    · iexists _; isplitr; swap; · iexact H4
      ipureintro; exact vleave4 m c t0 _
    isplitl [H5]
    · iexists _; isplitr; swap; · iexact H5
      ipureintro; exact vleave5 m c t0 _
    isplitl [H6]
    · iexists _; isplitr; swap; · iexact H6
      ipureintro; exact vleave6 m c t0 _
    isplitl [H7]
    · iexists _; isplitr; swap; · iexact H7
      ipureintro; exact vleave7 m c t0 _
    isplitl [H8]
    · iexists _; isplitr; swap; · iexact H8
      ipureintro; exact vleave8 m c t0 _
    isplitl [H9]
    · iexists _; isplitr; swap; · iexact H9
      ipureintro; exact vleave9 m c t0 _
    isplitl [H10]
    · iexists _; isplitr; swap; · iexact H10
      ipureintro; exact vleave10 m c t0 _
    isplitl [H11]
    · iexists _; isplitr; swap; · iexact H11
      ipureintro; exact vleave11 m c t0 _
    isplitl [H12]
    · iexists _; isplitr; swap; · iexact H12
      ipureintro; exact ⟨_, _, rfl⟩
    isplitl [H13]
    · iexists _; isplitr; swap; · iexact H13
      ipureintro; exact ⟨_, rfl⟩
    isplitl [H14]
    · iexists _; isplitr; swap; · iexact H14
      ipureintro; exact ⟨_, rfl⟩
    isplitl [H15]
    · iexists _; isplitr; swap; · iexact H15
      ipureintro; exact ⟨_, _, rfl⟩
    iexists _; isplitr; swap; · iexact H16
    ipureintro; exact ⟨_, _, rfl⟩

  · have hp : Φv m c t.castSucc = iprop(iprop(owns (c : Thread nD τ) sc0 fullShare (wsc m c) ∗ (∃ d, owns (c : Thread nD τ) sc1 fullShare d)
        ∗ (∃ d, owns (c : Thread nD τ) sc2 fullShare d) ∗ (∃ d, owns (c : Thread nD τ) sc3 fullShare d)) ∗ (∃ r, prngReg c r)) := if_neg h0
    rw [hp]
    unfold start
    rw [if_neg (fun h => h0 (by have := (first_iff t).mp h; omega))]
    rw [wp_pure]
    iintro ⟨⟨⟨HS0, HS1, HS2, HS3⟩, Hg⟩, Ho, H0, H1, H2, H3, H4, H5, H6, H7, H8, H9, H10, H11, H12, H13, H14, H15, H16⟩
    imodintro
    iapply (restOwns c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (wsc m c) (Y 13) (Y 14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · iexists _; isplitr; swap; · iexact H0
      ipureintro; exact vleave0 m c t _
    isplitl [H1]
    · iexists _; isplitr; swap; · iexact H1
      ipureintro; exact vleave1 m c t _
    isplitl [H2]
    · iexists _; isplitr; swap; · iexact H2
      ipureintro; exact vleave2 m c t _
    isplitl [H3]
    · iexists _; isplitr; swap; · iexact H3
      ipureintro; exact vleave3 m c t _
    isplitl [H4]
    · iexists _; isplitr; swap; · iexact H4
      ipureintro; exact vleave4 m c t _
    isplitl [H5]
    · iexists _; isplitr; swap; · iexact H5
      ipureintro; exact vleave5 m c t _
    isplitl [H6]
    · iexists _; isplitr; swap; · iexact H6
      ipureintro; exact vleave6 m c t _
    isplitl [H7]
    · iexists _; isplitr; swap; · iexact H7
      ipureintro; exact vleave7 m c t _
    isplitl [H8]
    · iexists _; isplitr; swap; · iexact H8
      ipureintro; exact vleave8 m c t _
    isplitl [H9]
    · iexists _; isplitr; swap; · iexact H9
      ipureintro; exact vleave9 m c t _
    isplitl [H10]
    · iexists _; isplitr; swap; · iexact H10
      ipureintro; exact vleave10 m c t _
    isplitl [H11]
    · iexists _; isplitr; swap; · iexact H11
      ipureintro; exact vleave11 m c t _
    isplitl [H12]
    · iexists _; isplitr; swap; · iexact H12
      ipureintro; exact ⟨_, _, rfl⟩
    isplitl [H13]
    · iexists _; isplitr; swap; · iexact H13
      ipureintro; exact ⟨_, rfl⟩
    isplitl [H14]
    · iexists _; isplitr; swap; · iexact H14
      ipureintro; exact ⟨_, rfl⟩
    isplitl [H15]
    · iexists _; isplitr; swap; · iexact H15
      ipureintro; exact ⟨_, _, rfl⟩
    iexists _; isplitr; swap; · iexact H16
    ipureintro; exact ⟨_, _, rfl⟩

/-- The body's obligation at every point. -/
theorem vbody (c : Dev nD) : (rdat (F := F) m c).BodyObligation (defs₀ (F := F)) Variants.none () Set.univ := fun t Y hY => by
  rw [bigSep_W0, bigSep_W0, defs₀_row]
  exact triple_restated (vsound m c t Y hY) rfl .rfl fun _ => .rfl

set_option backward.isDefEq.respectTransparency.types false in
/-- Every run ends with each result's array at blocks the points may have left. -/
theorem vrun : θ_run defs (onTc (τ := τ) (main (F := F))) (s₀ m ρ) (Pipeline.RDat.FramePost (cfgs 0) (fun c => rdat m c) (V m)) :=
  Pipeline.RDat.θ_run_frame_track (Q' := _) cfgs (0 : Fin 1) launch0 defs₀ Variants.none (fun c => rdat m c) m ρ main
    (hbody := vbody m) (hshare := fun c w => (dats m 0 c).share_full (fun _ => rfl) w)
    (howed := fun _ _ => rfl) (V := V m) (hmain := hmain m Variants.none) (hA := A_eq m)
    (hin := fun c => by rw [show (rdat m c).Φ 0 = Φv m c 0 from rfl, show Φv m c 0 = Pipeline.ΦA spec0 c from if_pos rfl])
    (hout := fun c => by
      rw [show (rdat m c).Φ (Fin.last cfg0.N) = Φv m c (Fin.last cfg0.N) from rfl]
      rw [show Φv m c (Fin.last cfg0.N) = iprop(iprop(owns (c : Thread nD τ) sc0 fullShare (wsc m c) ∗ (∃ d, owns (c : Thread nD τ) sc1 fullShare d)
        ∗ (∃ d, owns (c : Thread nD τ) sc2 fullShare d) ∗ (∃ d, owns (c : Thread nD τ) sc3 fullShare d)) ∗ (∃ r, prngReg c r)) from if_neg (by rw [Fin.val_last, show cfg0.N = 5 from N_0]; decide)]
      rw [show Pipeline.ΦA (cfgs 0).spec c = Pipeline.ΦA spec0 c from rfl, rest_eq]
      iintro ⟨⟨HS0, HS1, HS2, HS3⟩, Hg⟩
      isplitl [HS0 HS1 HS2 HS3]
      · isplitl [HS0]; · iexists _; iexact HS0
        isplitl [HS1]; · iexact HS1
        isplitl [HS2]; · iexact HS2
        iexact HS3
      iexact Hg)

end Cert.KernelIdeal.Track

end
-- ==== Proof.Blocks.lean ====
/-
  The blocks that a step of the kernel finds, in terms of the arrays at the region.
-/
module

public import proofs.«01_k».proof.Proof.HostVals
public import proofs.«01_k».proof.Proof.KvInput
public import proofs.«01_k».proof.Proof.RefValue
public import proofs.«01_k».proof.Proof.KernelIdealRun

@[expose] public section

noncomputable section

namespace Cert.KernelIdeal.Link

open Cert.KernelIdeal Cert.KernelIdeal.Gen Cert.Spec
open Idealize.ShloMosaic Idealize.ShloMosaic.TcCoe Idealize.ShloMosaic.Tactic
open Idealize.SL Idealize.SL.Sem

variable (m : (ℓ : Loc nD τ sig) → Buf (Elt Ideal) ℓ) (c : Dev nD)

theorem idx0 : ∀ t : Fin cfg0.N, win0_0.index t = ![t.val, 0] :=
  (by decide +kernel : ∀ t : Fin grid0.N, win0_0.index t = ![t.val, 0])

theorem blk0 (t : Fin cfg0.N) (r : Fin 384) (k : Fin 5120) : (iblk m c 0 t : Vec Ideal S384x5120 .fp8e4m3) (ix2 r k) = at2 (V m c main_v12 : Vec Ideal S1920x5120 .fp8e4m3) (384 * t.val + r) k := by
  have e := idx0 t
  have ht : t.val < 5 := by have := t.isLt; simpa [show cfg0.N = 5 from N_0] using this
  have hr := r.isLt
  unfold iblk at2
  blk_simp
  refine congrArg (V m c main_v12) (funext fun a => Fin.ext ?_)
  match a with
  | 0 =>
    refine (win0_0.rect_emb_val t (ix2 r k) 0).trans ?_
    rw [e]
    show t.val * 384 + r.val = (384 * t.val + r.val) % 1920
    omega
  | 1 =>
    refine (win0_0.rect_emb_val t (ix2 r k) 1).trans ?_
    rw [e]
    show 0 * 5120 + k.val = k.val % 5120
    have := k.isLt
    omega

theorem idx1 : ∀ t : Fin cfg0.N, win0_1.index t = ![t.val, 0] :=
  (by decide +kernel : ∀ t : Fin grid0.N, win0_1.index t = ![t.val, 0])

theorem blk1 (t : Fin cfg0.N) (r : Fin 384) (k : Fin 40) : (iblk m c 1 t : Vec Ideal S384x40 .f32) (ix2 r k) = at2 (V m c main_v13 : Vec Ideal S1920x40 .f32) (384 * t.val + r) k := by
  have e := idx1 t
  have ht : t.val < 5 := by have := t.isLt; simpa [show cfg0.N = 5 from N_0] using this
  have hr := r.isLt
  unfold iblk at2
  blk_simp
  refine congrArg (V m c main_v13) (funext fun a => Fin.ext ?_)
  match a with
  | 0 =>
    refine (win0_1.rect_emb_val t (ix2 r k) 0).trans ?_
    rw [e]
    show t.val * 384 + r.val = (384 * t.val + r.val) % 1920
    omega
  | 1 =>
    refine (win0_1.rect_emb_val t (ix2 r k) 1).trans ?_
    rw [e]
    show 0 * 40 + k.val = k.val % 40
    have := k.isLt
    omega

theorem idx7 : ∀ t : Fin cfg0.N, win0_7.index t = ![t.val, 0] :=
  (by decide +kernel : ∀ t : Fin grid0.N, win0_7.index t = ![t.val, 0])

theorem blk7 (t : Fin cfg0.N) (r : Fin 384) (k : Fin 512) : (iblk m c 7 t : Vec Ideal S384x512 .bf16) (ix2 r k) = at2 (V m c main_v16 : Vec Ideal S1920x512 .bf16) (384 * t.val + r) k := by
  have e := idx7 t
  have ht : t.val < 5 := by have := t.isLt; simpa [show cfg0.N = 5 from N_0] using this
  have hr := r.isLt
  unfold iblk at2
  blk_simp
  refine congrArg (V m c main_v16) (funext fun a => Fin.ext ?_)
  match a with
  | 0 =>
    refine (win0_7.rect_emb_val t (ix2 r k) 0).trans ?_
    rw [e]
    show t.val * 384 + r.val = (384 * t.val + r.val) % 1920
    omega
  | 1 =>
    refine (win0_7.rect_emb_val t (ix2 r k) 1).trans ?_
    rw [e]
    show 0 * 512 + k.val = k.val % 512
    have := k.isLt
    omega

theorem idx8 : ∀ t : Fin cfg0.N, win0_8.index t = ![t.val, 0] :=
  (by decide +kernel : ∀ t : Fin grid0.N, win0_8.index t = ![t.val, 0])

theorem blk8 (t : Fin cfg0.N) (r : Fin 384) (k : Fin 64) : (iblk m c 8 t : Vec Ideal S384x64 .bf16) (ix2 r k) = at2 (V m c main_v17 : Vec Ideal S1920x64 .bf16) (384 * t.val + r) k := by
  have e := idx8 t
  have ht : t.val < 5 := by have := t.isLt; simpa [show cfg0.N = 5 from N_0] using this
  have hr := r.isLt
  unfold iblk at2
  blk_simp
  refine congrArg (V m c main_v17) (funext fun a => Fin.ext ?_)
  match a with
  | 0 =>
    refine (win0_8.rect_emb_val t (ix2 r k) 0).trans ?_
    rw [e]
    show t.val * 384 + r.val = (384 * t.val + r.val) % 1920
    omega
  | 1 =>
    refine (win0_8.rect_emb_val t (ix2 r k) 1).trans ?_
    rw [e]
    show 0 * 64 + k.val = k.val % 64
    have := k.isLt
    omega

theorem idx9 : ∀ t : Fin cfg0.N, win0_9.index t = ![t.val, 0] :=
  (by decide +kernel : ∀ t : Fin grid0.N, win0_9.index t = ![t.val, 0])

theorem blk9 (t : Fin cfg0.N) (r : Fin 384) (k : Fin 5120) : (iblk m c 9 t : Vec Ideal S384x5120 .bf16) (ix2 r k) = at2 (V m c main_v18 : Vec Ideal S1920x5120 .bf16) (384 * t.val + r) k := by
  have e := idx9 t
  have ht : t.val < 5 := by have := t.isLt; simpa [show cfg0.N = 5 from N_0] using this
  have hr := r.isLt
  unfold iblk at2
  blk_simp
  refine congrArg (V m c main_v18) (funext fun a => Fin.ext ?_)
  match a with
  | 0 =>
    refine (win0_9.rect_emb_val t (ix2 r k) 0).trans ?_
    rw [e]
    show t.val * 384 + r.val = (384 * t.val + r.val) % 1920
    omega
  | 1 =>
    refine (win0_9.rect_emb_val t (ix2 r k) 1).trans ?_
    rw [e]
    show 0 * 5120 + k.val = k.val % 5120
    have := k.isLt
    omega

theorem idx11 : ∀ t : Fin cfg0.N, win0_11.index t = ![t.val, 0] :=
  (by decide +kernel : ∀ t : Fin grid0.N, win0_11.index t = ![t.val, 0])

theorem blk11 (t : Fin cfg0.N) (r : Fin 384) (k : Fin 5120) : (iblk m c 11 t : Vec Ideal S384x5120 .bf16) (ix2 r k) = at2 (V m c main_v20 : Vec Ideal S1920x5120 .bf16) (384 * t.val + r) k := by
  have e := idx11 t
  have ht : t.val < 5 := by have := t.isLt; simpa [show cfg0.N = 5 from N_0] using this
  have hr := r.isLt
  unfold iblk at2
  blk_simp
  refine congrArg (V m c main_v20) (funext fun a => Fin.ext ?_)
  match a with
  | 0 =>
    refine (win0_11.rect_emb_val t (ix2 r k) 0).trans ?_
    rw [e]
    show t.val * 384 + r.val = (384 * t.val + r.val) % 1920
    omega
  | 1 =>
    refine (win0_11.rect_emb_val t (ix2 r k) 1).trans ?_
    rw [e]
    show 0 * 5120 + k.val = k.val % 5120
    have := k.isLt
    omega

theorem idx2 : ∀ t : Fin cfg0.N, win0_2.index t = ![0, 0] :=
  (by decide +kernel : ∀ t : Fin grid0.N, win0_2.index t = ![0, 0])

theorem blk2 (t : Fin cfg0.N) : (iblk m c 2 t : Vec Ideal S576x5120 .fp8e4m3) = V m c main_arg2 := by
  have e := idx2 t
  funext y
  unfold iblk
  blk_simp
  refine congrArg (V m c main_arg2) (funext fun a => Fin.ext ?_)
  match a with
  | 0 => exact win0_2.rect_emb_val_of_index_zero t 0 (by rw [e]; rfl) y
  | 1 => exact win0_2.rect_emb_val_of_index_zero t 1 (by rw [e]; rfl) y

theorem idx3 : ∀ t : Fin cfg0.N, win0_3.index t = ![0, 0] :=
  (by decide +kernel : ∀ t : Fin grid0.N, win0_3.index t = ![0, 0])

theorem blk3 (t : Fin cfg0.N) : (iblk m c 3 t : Vec Ideal S5x40 .f32) = V m c main_arg3 := by
  have e := idx3 t
  funext y
  unfold iblk
  blk_simp
  refine congrArg (V m c main_arg3) (funext fun a => Fin.ext ?_)
  match a with
  | 0 => exact win0_3.rect_emb_val_of_index_zero t 0 (by rw [e]; rfl) y
  | 1 => exact win0_3.rect_emb_val_of_index_zero t 1 (by rw [e]; rfl) y

theorem idx4 : ∀ t : Fin cfg0.N, win0_4.index t = ![0, 0] :=
  (by decide +kernel : ∀ t : Fin grid0.N, win0_4.index t = ![0, 0])

theorem blk4 (t : Fin cfg0.N) : (iblk m c 4 t : Vec Ideal S1x512 .f32) = V m c main_v14 := by
  have e := idx4 t
  funext y
  unfold iblk
  blk_simp
  refine congrArg (V m c main_v14) (funext fun a => Fin.ext ?_)
  match a with
  | 0 => exact win0_4.rect_emb_val_of_index_zero t 0 (by rw [e]; rfl) y
  | 1 => exact win0_4.rect_emb_val_of_index_zero t 1 (by rw [e]; rfl) y

theorem idx5 : ∀ t : Fin cfg0.N, win0_5.index t = ![0, 0] :=
  (by decide +kernel : ∀ t : Fin grid0.N, win0_5.index t = ![0, 0])

theorem blk5 (t : Fin cfg0.N) : (iblk m c 5 t : Vec Ideal S32x1 .f32) = V m c main_v11 := by
  have e := idx5 t
  funext y
  unfold iblk
  blk_simp
  refine congrArg (V m c main_v11) (funext fun a => Fin.ext ?_)
  match a with
  | 0 => exact win0_5.rect_emb_val_of_index_zero t 0 (by rw [e]; rfl) y
  | 1 => exact win0_5.rect_emb_val_of_index_zero t 1 (by rw [e]; rfl) y

theorem idx10 : ∀ t : Fin cfg0.N, win0_10.index t = ![0, 0] :=
  (by decide +kernel : ∀ t : Fin grid0.N, win0_10.index t = ![0, 0])

theorem blk10 (t : Fin cfg0.N) : (iblk m c 10 t : Vec Ideal S1x5120 .f32) = V m c main_v19 := by
  have e := idx10 t
  funext y
  unfold iblk
  blk_simp
  refine congrArg (V m c main_v19) (funext fun a => Fin.ext ?_)
  match a with
  | 0 => exact win0_10.rect_emb_val_of_index_zero t 0 (by rw [e]; rfl) y
  | 1 => exact win0_10.rect_emb_val_of_index_zero t 1 (by rw [e]; rfl) y

theorem idx6 : ∀ t : Fin cfg0.N, win0_6.index t = ![0, 0, 0] :=
  (by decide +kernel : ∀ t : Fin grid0.N, win0_6.index t = ![0, 0, 0])

theorem blk6 (t : Fin cfg0.N) : (iblk m c 6 t : Vec Ideal S3x5x128 .i32) = V m c main_v15 := by
  have e := idx6 t
  funext y
  unfold iblk
  blk_simp
  refine congrArg (V m c main_v15) (funext fun a => Fin.ext ?_)
  match a with
  | 0 => exact win0_6.rect_emb_val_of_index_zero t 0 (by rw [e]; rfl) y
  | 1 => exact win0_6.rect_emb_val_of_index_zero t 1 (by rw [e]; rfl) y
  | 2 => exact win0_6.rect_emb_val_of_index_zero t 2 (by rw [e]; rfl) y

theorem coords_val : ∀ t : Fin cfg0.N, ((grid0.coords t) 0).val = t.val :=
  (by decide +kernel : ∀ t : Fin grid0.N, ((grid0.coords t) 0).val = t.val)

end Cert.KernelIdeal.Link
-- ==== Proof.Scaled.lean ====
/-
  The scaled weights that the kernel's first step leaves, entry by entry.
-/
module

public import proofs.«01_k».proof.Proof.KernelIdealStart
public import proofs.«01_k».proof.Proof.Pieces
public import Idealize.ShloMosaic.Lib.Pipeline.Value

@[expose] public section

set_option maxRecDepth 16384

noncomputable section

namespace Cert.KernelIdeal.Val

open Idealize.ShloMosaic.Tactic Idealize.ShloMosaic Cert.Spec Cert.KernelIdeal Cert.KernelIdeal.Gen Cert.KernelIdeal.Body

variable (arg3 : Memref sig .tc .vmem S576x5120 .fp8e4m3) (harg3 : arg3.IsWhole) (arg4 : Memref sig .tc .smem S5x40 .f32) (harg4 : arg4.IsWhole) (arg18 : Memref sig .tc .vmem S576x5120 .bf16)
variable (x2 : Vec Ideal S576x5120 .fp8e4m3) (x3 : Vec Ideal S5x40 .f32)

/-- A scalar load of the weights' scales. -/
theorem scale_load {p q : ℕ} (inb) (h) : arg4.view.readAt (Elt Ideal) (Rect.unit (s := S5x40) ![p, q] S1x1.size inb).toLoadRect (harg4.unread x3) (Shape.Idx.first h) = at2 x3 p q := by
  rw [readAt_unread_eq]
  have h0 : p + 1 ≤ 5 := inb 0
  have h1 : q + 1 ≤ 40 := inb 1
  show x3 _ = x3 _
  refine congrArg x3 (funext fun a => Fin.ext ?_)
  match a with
  | 0 => show p + 1 * 0 = p % 5; omega
  | 1 => show q + 1 * 0 = q % 40; omega

/-- A scaled weight. -/
def wscaled (n k : ℕ) : EReal := at2 x2 n k * at2 x3 (n / 128) (k / 128)

theorem H17_3_scaled : Agrees (arr2 (e := .bf16) (wscaled x2 x3)) (startRun.sl.H17_3 (F := Ideal) arg3 harg3 arg4 harg4 x2 x3) := by
  unfold startRun.sl.H17_3
  refine (Agrees.cons_unit (fun a b => ?_) (Agrees.cons_unit (fun a b => ?_) (Agrees.cons_unit (fun a b => ?_) .nil))) <;>
  · simp only [startRun.sl.r, startRun.sl.r_1, startRun.sl.r_2, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_7_scaled : Agrees (arr2 (e := .bf16) (wscaled x2 x3)) (startRun.sl.H17_7 (F := Ideal) arg3 harg3 arg4 harg4 x2 x3) := by
  unfold startRun.sl.H17_7
  refine (Agrees.cons_unit (fun a b => ?_) (Agrees.cons_unit (fun a b => ?_) (Agrees.cons_unit (fun a b => ?_) (Agrees.cons_unit (fun a b => ?_) (H17_3_scaled arg3 harg3 arg4 harg4 x2 x3))))) <;>
  · simp only [startRun.sl.r_3, startRun.sl.r_4, startRun.sl.r_5, startRun.sl.r_6, startRun.sl.r_7, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_11_scaled : Agrees (arr2 (e := .bf16) (wscaled x2 x3)) (startRun.sl.H17_11 (F := Ideal) arg3 harg3 arg4 harg4 x2 x3) := by
  unfold startRun.sl.H17_11
  refine (Agrees.cons_unit (fun a b => ?_) (Agrees.cons_unit (fun a b => ?_) (Agrees.cons_unit (fun a b => ?_) (Agrees.cons_unit (fun a b => ?_) (H17_7_scaled arg3 harg3 arg4 harg4 x2 x3))))) <;>
  · simp only [startRun.sl.r_10, startRun.sl.r_11, startRun.sl.r_12, startRun.sl.r_13, startRun.sl.r_8, startRun.sl.r_9, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_15_scaled : Agrees (arr2 (e := .bf16) (wscaled x2 x3)) (startRun.sl.H17_15 (F := Ideal) arg3 harg3 arg4 harg4 x2 x3) := by
  unfold startRun.sl.H17_15
  refine (Agrees.cons_unit (fun a b => ?_) (Agrees.cons_unit (fun a b => ?_) (Agrees.cons_unit (fun a b => ?_) (Agrees.cons_unit (fun a b => ?_) (H17_11_scaled arg3 harg3 arg4 harg4 x2 x3))))) <;>
  · simp only [startRun.sl.r_14, startRun.sl.r_15, startRun.sl.r_16, startRun.sl.r_17, startRun.sl.r_18, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_18_scaled : Agrees (arr2 (e := .bf16) (wscaled x2 x3)) (startRun.sl.H17_18 (F := Ideal) arg3 harg3 arg4 harg4 x2 x3) := by
  unfold startRun.sl.H17_18
  refine (Agrees.cons_unit (fun a b => ?_) (Agrees.cons_unit (fun a b => ?_) (Agrees.cons_unit (fun a b => ?_) (H17_15_scaled arg3 harg3 arg4 harg4 x2 x3)))) <;>
  · simp only [startRun.sl.r_19, startRun.sl.r_20, startRun.sl.r_21, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_22_scaled : Agrees (arr2 (e := .bf16) (wscaled x2 x3)) (startRun.sl.H17_22 (F := Ideal) arg3 harg3 arg4 harg4 x2 x3) := by
  unfold startRun.sl.H17_22
  refine (Agrees.cons_unit (fun a b => ?_) (Agrees.cons_unit (fun a b => ?_) (Agrees.cons_unit (fun a b => ?_) (Agrees.cons_unit (fun a b => ?_) (H17_18_scaled arg3 harg3 arg4 harg4 x2 x3))))) <;>
  · simp only [startRun.sl.r_22, startRun.sl.r_23, startRun.sl.r_24, startRun.sl.r_25, startRun.sl.r_26, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_26_scaled : Agrees (arr2 (e := .bf16) (wscaled x2 x3)) (startRun.sl.H17_26 (F := Ideal) arg3 harg3 arg4 harg4 x2 x3) := by
  unfold startRun.sl.H17_26
  refine (Agrees.cons_unit (fun a b => ?_) (Agrees.cons_unit (fun a b => ?_) (Agrees.cons_unit (fun a b => ?_) (Agrees.cons_unit (fun a b => ?_) (H17_22_scaled arg3 harg3 arg4 harg4 x2 x3))))) <;>
  · simp only [startRun.sl.r_27, startRun.sl.r_28, startRun.sl.r_29, startRun.sl.r_30, startRun.sl.r_31, startRun.sl.r_32, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_30_scaled : Agrees (arr2 (e := .bf16) (wscaled x2 x3)) (startRun.sl.H17_30 (F := Ideal) arg3 harg3 arg4 harg4 x2 x3) := by
  unfold startRun.sl.H17_30
  refine (Agrees.cons_unit (fun a b => ?_) (Agrees.cons_unit (fun a b => ?_) (Agrees.cons_unit (fun a b => ?_) (Agrees.cons_unit (fun a b => ?_) (H17_26_scaled arg3 harg3 arg4 harg4 x2 x3))))) <;>
  · simp only [startRun.sl.r_33, startRun.sl.r_34, startRun.sl.r_35, startRun.sl.r_36, startRun.sl.r_37, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_33_scaled : Agrees (arr2 (e := .bf16) (wscaled x2 x3)) (startRun.sl.H17_33 (F := Ideal) arg3 harg3 arg4 harg4 x2 x3) := by
  unfold startRun.sl.H17_33
  refine (Agrees.cons_unit (fun a b => ?_) (Agrees.cons_unit (fun a b => ?_) (Agrees.cons_unit (fun a b => ?_) (H17_30_scaled arg3 harg3 arg4 harg4 x2 x3)))) <;>
  · simp only [startRun.sl.r_38, startRun.sl.r_39, startRun.sl.r_40, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_37_scaled : Agrees (arr2 (e := .bf16) (wscaled x2 x3)) (startRun.sl.H17_37 (F := Ideal) arg3 harg3 arg4 harg4 x2 x3) := by
  unfold startRun.sl.H17_37
  refine (Agrees.cons_unit (fun a b => ?_) (Agrees.cons_unit (fun a b => ?_) (Agrees.cons_unit (fun a b => ?_) (Agrees.cons_unit (fun a b => ?_) (H17_33_scaled arg3 harg3 arg4 harg4 x2 x3))))) <;>
  · simp only [startRun.sl.r_41, startRun.sl.r_42, startRun.sl.r_43, startRun.sl.r_44, startRun.sl.r_45, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_41_scaled : Agrees (arr2 (e := .bf16) (wscaled x2 x3)) (startRun.sl.H17_41 (F := Ideal) arg3 harg3 arg4 harg4 x2 x3) := by
  unfold startRun.sl.H17_41
  refine (Agrees.cons_unit (fun a b => ?_) (Agrees.cons_unit (fun a b => ?_) (Agrees.cons_unit (fun a b => ?_) (Agrees.cons_unit (fun a b => ?_) (H17_37_scaled arg3 harg3 arg4 harg4 x2 x3))))) <;>
  · simp only [startRun.sl.r_46, startRun.sl.r_47, startRun.sl.r_48, startRun.sl.r_49, startRun.sl.r_50, startRun.sl.r_51, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_45_scaled : Agrees (arr2 (e := .bf16) (wscaled x2 x3)) (startRun.sl.H17_45 (F := Ideal) arg3 harg3 arg4 harg4 x2 x3) := by
  unfold startRun.sl.H17_45
  refine (Agrees.cons_unit (fun a b => ?_) (Agrees.cons_unit (fun a b => ?_) (Agrees.cons_unit (fun a b => ?_) (Agrees.cons_unit (fun a b => ?_) (H17_41_scaled arg3 harg3 arg4 harg4 x2 x3))))) <;>
  · simp only [startRun.sl.r_52, startRun.sl.r_53, startRun.sl.r_54, startRun.sl.r_55, startRun.sl.r_56, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_48_scaled : Agrees (arr2 (e := .bf16) (wscaled x2 x3)) (startRun.sl.H17_48 (F := Ideal) arg3 harg3 arg4 harg4 x2 x3) := by
  unfold startRun.sl.H17_48
  refine (Agrees.cons_unit (fun a b => ?_) (Agrees.cons_unit (fun a b => ?_) (Agrees.cons_unit (fun a b => ?_) (H17_45_scaled arg3 harg3 arg4 harg4 x2 x3)))) <;>
  · simp only [startRun.sl.r_57, startRun.sl.r_58, startRun.sl.r_59, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_52_scaled : Agrees (arr2 (e := .bf16) (wscaled x2 x3)) (startRun.sl.H17_52 (F := Ideal) arg3 harg3 arg4 harg4 x2 x3) := by
  unfold startRun.sl.H17_52
  refine (Agrees.cons_unit (fun a b => ?_) (Agrees.cons_unit (fun a b => ?_) (Agrees.cons_unit (fun a b => ?_) (Agrees.cons_unit (fun a b => ?_) (H17_48_scaled arg3 harg3 arg4 harg4 x2 x3))))) <;>
  · simp only [startRun.sl.r_60, startRun.sl.r_61, startRun.sl.r_62, startRun.sl.r_63, startRun.sl.r_64, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_56_scaled : Agrees (arr2 (e := .bf16) (wscaled x2 x3)) (startRun.sl.H17_56 (F := Ideal) arg3 harg3 arg4 harg4 x2 x3) := by
  unfold startRun.sl.H17_56
  refine (Agrees.cons_unit (fun a b => ?_) (Agrees.cons_unit (fun a b => ?_) (Agrees.cons_unit (fun a b => ?_) (Agrees.cons_unit (fun a b => ?_) (H17_52_scaled arg3 harg3 arg4 harg4 x2 x3))))) <;>
  · simp only [startRun.sl.r_65, startRun.sl.r_66, startRun.sl.r_67, startRun.sl.r_68, startRun.sl.r_69, startRun.sl.r_70, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_60_scaled : Agrees (arr2 (e := .bf16) (wscaled x2 x3)) (startRun.sl.H17_60 (F := Ideal) arg3 harg3 arg4 harg4 x2 x3) := by
  unfold startRun.sl.H17_60
  refine (Agrees.cons_unit (fun a b => ?_) (Agrees.cons_unit (fun a b => ?_) (Agrees.cons_unit (fun a b => ?_) (Agrees.cons_unit (fun a b => ?_) (H17_56_scaled arg3 harg3 arg4 harg4 x2 x3))))) <;>
  · simp only [startRun.sl.r_71, startRun.sl.r_72, startRun.sl.r_73, startRun.sl.r_74, startRun.sl.r_75, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_63_scaled : Agrees (arr2 (e := .bf16) (wscaled x2 x3)) (startRun.sl.H17_63 (F := Ideal) arg3 harg3 arg4 harg4 x2 x3) := by
  unfold startRun.sl.H17_63
  refine (Agrees.cons_unit (fun a b => ?_) (Agrees.cons_unit (fun a b => ?_) (Agrees.cons_unit (fun a b => ?_) (H17_60_scaled arg3 harg3 arg4 harg4 x2 x3)))) <;>
  · simp only [startRun.sl.r_76, startRun.sl.r_77, startRun.sl.r_78, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_67_scaled : Agrees (arr2 (e := .bf16) (wscaled x2 x3)) (startRun.sl.H17_67 (F := Ideal) arg3 harg3 arg4 harg4 x2 x3) := by
  unfold startRun.sl.H17_67
  refine (Agrees.cons_unit (fun a b => ?_) (Agrees.cons_unit (fun a b => ?_) (Agrees.cons_unit (fun a b => ?_) (Agrees.cons_unit (fun a b => ?_) (H17_63_scaled arg3 harg3 arg4 harg4 x2 x3))))) <;>
  · simp only [startRun.sl.r_79, startRun.sl.r_80, startRun.sl.r_81, startRun.sl.r_82, startRun.sl.r_83, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_71_scaled : Agrees (arr2 (e := .bf16) (wscaled x2 x3)) (startRun.sl.H17_71 (F := Ideal) arg3 harg3 arg4 harg4 x2 x3) := by
  unfold startRun.sl.H17_71
  refine (Agrees.cons_unit (fun a b => ?_) (Agrees.cons_unit (fun a b => ?_) (Agrees.cons_unit (fun a b => ?_) (Agrees.cons_unit (fun a b => ?_) (H17_67_scaled arg3 harg3 arg4 harg4 x2 x3))))) <;>
  · simp only [startRun.sl.r_84, startRun.sl.r_85, startRun.sl.r_86, startRun.sl.r_87, startRun.sl.r_88, startRun.sl.r_89, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_75_scaled : Agrees (arr2 (e := .bf16) (wscaled x2 x3)) (startRun.sl.H17_75 (F := Ideal) arg3 harg3 arg4 harg4 x2 x3) := by
  unfold startRun.sl.H17_75
  refine (Agrees.cons_unit (fun a b => ?_) (Agrees.cons_unit (fun a b => ?_) (Agrees.cons_unit (fun a b => ?_) (Agrees.cons_unit (fun a b => ?_) (H17_71_scaled arg3 harg3 arg4 harg4 x2 x3))))) <;>
  · simp only [startRun.sl.r_90, startRun.sl.r_91, startRun.sl.r_92, startRun.sl.r_93, startRun.sl.r_94, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_78_scaled : Agrees (arr2 (e := .bf16) (wscaled x2 x3)) (startRun.sl.H17_78 (F := Ideal) arg3 harg3 arg4 harg4 x2 x3) := by
  unfold startRun.sl.H17_78
  refine (Agrees.cons_unit (fun a b => ?_) (Agrees.cons_unit (fun a b => ?_) (Agrees.cons_unit (fun a b => ?_) (H17_75_scaled arg3 harg3 arg4 harg4 x2 x3)))) <;>
  · simp only [startRun.sl.r_95, startRun.sl.r_96, startRun.sl.r_97, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_82_scaled : Agrees (arr2 (e := .bf16) (wscaled x2 x3)) (startRun.sl.H17_82 (F := Ideal) arg3 harg3 arg4 harg4 x2 x3) := by
  unfold startRun.sl.H17_82
  refine (Agrees.cons_unit (fun a b => ?_) (Agrees.cons_unit (fun a b => ?_) (Agrees.cons_unit (fun a b => ?_) (Agrees.cons_unit (fun a b => ?_) (H17_78_scaled arg3 harg3 arg4 harg4 x2 x3))))) <;>
  · simp only [startRun.sl.r_100, startRun.sl.r_101, startRun.sl.r_102, startRun.sl.r_98, startRun.sl.r_99, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_86_scaled : Agrees (arr2 (e := .bf16) (wscaled x2 x3)) (startRun.sl.H17_86 (F := Ideal) arg3 harg3 arg4 harg4 x2 x3) := by
  unfold startRun.sl.H17_86
  refine (Agrees.cons_unit (fun a b => ?_) (Agrees.cons_unit (fun a b => ?_) (Agrees.cons_unit (fun a b => ?_) (Agrees.cons_unit (fun a b => ?_) (H17_82_scaled arg3 harg3 arg4 harg4 x2 x3))))) <;>
  · simp only [startRun.sl.r_103, startRun.sl.r_104, startRun.sl.r_105, startRun.sl.r_106, startRun.sl.r_107, startRun.sl.r_108, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_90_scaled : Agrees (arr2 (e := .bf16) (wscaled x2 x3)) (startRun.sl.H17_90 (F := Ideal) arg3 harg3 arg4 harg4 x2 x3) := by
  unfold startRun.sl.H17_90
  refine (Agrees.cons_unit (fun a b => ?_) (Agrees.cons_unit (fun a b => ?_) (Agrees.cons_unit (fun a b => ?_) (Agrees.cons_unit (fun a b => ?_) (H17_86_scaled arg3 harg3 arg4 harg4 x2 x3))))) <;>
  · simp only [startRun.sl.r_109, startRun.sl.r_110, startRun.sl.r_111, startRun.sl.r_112, startRun.sl.r_113, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_93_scaled : Agrees (arr2 (e := .bf16) (wscaled x2 x3)) (startRun.sl.H17_93 (F := Ideal) arg3 harg3 arg4 harg4 x2 x3) := by
  unfold startRun.sl.H17_93
  refine (Agrees.cons_unit (fun a b => ?_) (Agrees.cons_unit (fun a b => ?_) (Agrees.cons_unit (fun a b => ?_) (H17_90_scaled arg3 harg3 arg4 harg4 x2 x3)))) <;>
  · simp only [startRun.sl.r_114, startRun.sl.r_115, startRun.sl.r_116, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_97_scaled : Agrees (arr2 (e := .bf16) (wscaled x2 x3)) (startRun.sl.H17_97 (F := Ideal) arg3 harg3 arg4 harg4 x2 x3) := by
  unfold startRun.sl.H17_97
  refine (Agrees.cons_unit (fun a b => ?_) (Agrees.cons_unit (fun a b => ?_) (Agrees.cons_unit (fun a b => ?_) (Agrees.cons_unit (fun a b => ?_) (H17_93_scaled arg3 harg3 arg4 harg4 x2 x3))))) <;>
  · simp only [startRun.sl.r_117, startRun.sl.r_118, startRun.sl.r_119, startRun.sl.r_120, startRun.sl.r_121, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_101_scaled : Agrees (arr2 (e := .bf16) (wscaled x2 x3)) (startRun.sl.H17_101 (F := Ideal) arg3 harg3 arg4 harg4 x2 x3) := by
  unfold startRun.sl.H17_101
  refine (Agrees.cons_unit (fun a b => ?_) (Agrees.cons_unit (fun a b => ?_) (Agrees.cons_unit (fun a b => ?_) (Agrees.cons_unit (fun a b => ?_) (H17_97_scaled arg3 harg3 arg4 harg4 x2 x3))))) <;>
  · simp only [startRun.sl.r_122, startRun.sl.r_123, startRun.sl.r_124, startRun.sl.r_125, startRun.sl.r_126, startRun.sl.r_127, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_105_scaled : Agrees (arr2 (e := .bf16) (wscaled x2 x3)) (startRun.sl.H17_105 (F := Ideal) arg3 harg3 arg4 harg4 x2 x3) := by
  unfold startRun.sl.H17_105
  refine (Agrees.cons_unit (fun a b => ?_) (Agrees.cons_unit (fun a b => ?_) (Agrees.cons_unit (fun a b => ?_) (Agrees.cons_unit (fun a b => ?_) (H17_101_scaled arg3 harg3 arg4 harg4 x2 x3))))) <;>
  · simp only [startRun.sl.r_128, startRun.sl.r_129, startRun.sl.r_130, startRun.sl.r_131, startRun.sl.r_132, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_108_scaled : Agrees (arr2 (e := .bf16) (wscaled x2 x3)) (startRun.sl.H17_108 (F := Ideal) arg3 harg3 arg4 harg4 x2 x3) := by
  unfold startRun.sl.H17_108
  refine (Agrees.cons_unit (fun a b => ?_) (Agrees.cons_unit (fun a b => ?_) (Agrees.cons_unit (fun a b => ?_) (H17_105_scaled arg3 harg3 arg4 harg4 x2 x3)))) <;>
  · simp only [startRun.sl.r_133, startRun.sl.r_134, startRun.sl.r_135, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_112_scaled : Agrees (arr2 (e := .bf16) (wscaled x2 x3)) (startRun.sl.H17_112 (F := Ideal) arg3 harg3 arg4 harg4 x2 x3) := by
  unfold startRun.sl.H17_112
  refine (Agrees.cons_unit (fun a b => ?_) (Agrees.cons_unit (fun a b => ?_) (Agrees.cons_unit (fun a b => ?_) (Agrees.cons_unit (fun a b => ?_) (H17_108_scaled arg3 harg3 arg4 harg4 x2 x3))))) <;>
  · simp only [startRun.sl.r_136, startRun.sl.r_137, startRun.sl.r_138, startRun.sl.r_139, startRun.sl.r_140, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_116_scaled : Agrees (arr2 (e := .bf16) (wscaled x2 x3)) (startRun.sl.H17_116 (F := Ideal) arg3 harg3 arg4 harg4 x2 x3) := by
  unfold startRun.sl.H17_116
  refine (Agrees.cons_unit (fun a b => ?_) (Agrees.cons_unit (fun a b => ?_) (Agrees.cons_unit (fun a b => ?_) (Agrees.cons_unit (fun a b => ?_) (H17_112_scaled arg3 harg3 arg4 harg4 x2 x3))))) <;>
  · simp only [startRun.sl.r_141, startRun.sl.r_142, startRun.sl.r_143, startRun.sl.r_144, startRun.sl.r_145, startRun.sl.r_146, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_120_scaled : Agrees (arr2 (e := .bf16) (wscaled x2 x3)) (startRun.sl.H17_120 (F := Ideal) arg3 harg3 arg4 harg4 x2 x3) := by
  unfold startRun.sl.H17_120
  refine (Agrees.cons_unit (fun a b => ?_) (Agrees.cons_unit (fun a b => ?_) (Agrees.cons_unit (fun a b => ?_) (Agrees.cons_unit (fun a b => ?_) (H17_116_scaled arg3 harg3 arg4 harg4 x2 x3))))) <;>
  · simp only [startRun.sl.r_147, startRun.sl.r_148, startRun.sl.r_149, startRun.sl.r_150, startRun.sl.r_151, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_123_scaled : Agrees (arr2 (e := .bf16) (wscaled x2 x3)) (startRun.sl.H17_123 (F := Ideal) arg3 harg3 arg4 harg4 x2 x3) := by
  unfold startRun.sl.H17_123
  refine (Agrees.cons_unit (fun a b => ?_) (Agrees.cons_unit (fun a b => ?_) (Agrees.cons_unit (fun a b => ?_) (H17_120_scaled arg3 harg3 arg4 harg4 x2 x3)))) <;>
  · simp only [startRun.sl.r_152, startRun.sl.r_153, startRun.sl.r_154, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_127_scaled : Agrees (arr2 (e := .bf16) (wscaled x2 x3)) (startRun.sl.H17_127 (F := Ideal) arg3 harg3 arg4 harg4 x2 x3) := by
  unfold startRun.sl.H17_127
  refine (Agrees.cons_unit (fun a b => ?_) (Agrees.cons_unit (fun a b => ?_) (Agrees.cons_unit (fun a b => ?_) (Agrees.cons_unit (fun a b => ?_) (H17_123_scaled arg3 harg3 arg4 harg4 x2 x3))))) <;>
  · simp only [startRun.sl.r_155, startRun.sl.r_156, startRun.sl.r_157, startRun.sl.r_158, startRun.sl.r_159, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_131_scaled : Agrees (arr2 (e := .bf16) (wscaled x2 x3)) (startRun.sl.H17_131 (F := Ideal) arg3 harg3 arg4 harg4 x2 x3) := by
  unfold startRun.sl.H17_131
  refine (Agrees.cons_unit (fun a b => ?_) (Agrees.cons_unit (fun a b => ?_) (Agrees.cons_unit (fun a b => ?_) (Agrees.cons_unit (fun a b => ?_) (H17_127_scaled arg3 harg3 arg4 harg4 x2 x3))))) <;>
  · simp only [startRun.sl.r_160, startRun.sl.r_161, startRun.sl.r_162, startRun.sl.r_163, startRun.sl.r_164, startRun.sl.r_165, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_135_scaled : Agrees (arr2 (e := .bf16) (wscaled x2 x3)) (startRun.sl.H17_135 (F := Ideal) arg3 harg3 arg4 harg4 x2 x3) := by
  unfold startRun.sl.H17_135
  refine (Agrees.cons_unit (fun a b => ?_) (Agrees.cons_unit (fun a b => ?_) (Agrees.cons_unit (fun a b => ?_) (Agrees.cons_unit (fun a b => ?_) (H17_131_scaled arg3 harg3 arg4 harg4 x2 x3))))) <;>
  · simp only [startRun.sl.r_166, startRun.sl.r_167, startRun.sl.r_168, startRun.sl.r_169, startRun.sl.r_170, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_138_scaled : Agrees (arr2 (e := .bf16) (wscaled x2 x3)) (startRun.sl.H17_138 (F := Ideal) arg3 harg3 arg4 harg4 x2 x3) := by
  unfold startRun.sl.H17_138
  refine (Agrees.cons_unit (fun a b => ?_) (Agrees.cons_unit (fun a b => ?_) (Agrees.cons_unit (fun a b => ?_) (H17_135_scaled arg3 harg3 arg4 harg4 x2 x3)))) <;>
  · simp only [startRun.sl.r_171, startRun.sl.r_172, startRun.sl.r_173, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_142_scaled : Agrees (arr2 (e := .bf16) (wscaled x2 x3)) (startRun.sl.H17_142 (F := Ideal) arg3 harg3 arg4 harg4 x2 x3) := by
  unfold startRun.sl.H17_142
  refine (Agrees.cons_unit (fun a b => ?_) (Agrees.cons_unit (fun a b => ?_) (Agrees.cons_unit (fun a b => ?_) (Agrees.cons_unit (fun a b => ?_) (H17_138_scaled arg3 harg3 arg4 harg4 x2 x3))))) <;>
  · simp only [startRun.sl.r_174, startRun.sl.r_175, startRun.sl.r_176, startRun.sl.r_177, startRun.sl.r_178, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_146_scaled : Agrees (arr2 (e := .bf16) (wscaled x2 x3)) (startRun.sl.H17_146 (F := Ideal) arg3 harg3 arg4 harg4 x2 x3) := by
  unfold startRun.sl.H17_146
  refine (Agrees.cons_unit (fun a b => ?_) (Agrees.cons_unit (fun a b => ?_) (Agrees.cons_unit (fun a b => ?_) (Agrees.cons_unit (fun a b => ?_) (H17_142_scaled arg3 harg3 arg4 harg4 x2 x3))))) <;>
  · simp only [startRun.sl.r_179, startRun.sl.r_180, startRun.sl.r_181, startRun.sl.r_182, startRun.sl.r_183, startRun.sl.r_184, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_150_scaled : Agrees (arr2 (e := .bf16) (wscaled x2 x3)) (startRun.sl.H17_150 (F := Ideal) arg3 harg3 arg4 harg4 x2 x3) := by
  unfold startRun.sl.H17_150
  refine (Agrees.cons_unit (fun a b => ?_) (Agrees.cons_unit (fun a b => ?_) (Agrees.cons_unit (fun a b => ?_) (Agrees.cons_unit (fun a b => ?_) (H17_146_scaled arg3 harg3 arg4 harg4 x2 x3))))) <;>
  · simp only [startRun.sl.r_185, startRun.sl.r_186, startRun.sl.r_187, startRun.sl.r_188, startRun.sl.r_189, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_153_scaled : Agrees (arr2 (e := .bf16) (wscaled x2 x3)) (startRun.sl.H17_153 (F := Ideal) arg3 harg3 arg4 harg4 x2 x3) := by
  unfold startRun.sl.H17_153
  refine (Agrees.cons_unit (fun a b => ?_) (Agrees.cons_unit (fun a b => ?_) (Agrees.cons_unit (fun a b => ?_) (H17_150_scaled arg3 harg3 arg4 harg4 x2 x3)))) <;>
  · simp only [startRun.sl.r_190, startRun.sl.r_191, startRun.sl.r_192, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_157_scaled : Agrees (arr2 (e := .bf16) (wscaled x2 x3)) (startRun.sl.H17_157 (F := Ideal) arg3 harg3 arg4 harg4 x2 x3) := by
  unfold startRun.sl.H17_157
  refine (Agrees.cons_unit (fun a b => ?_) (Agrees.cons_unit (fun a b => ?_) (Agrees.cons_unit (fun a b => ?_) (Agrees.cons_unit (fun a b => ?_) (H17_153_scaled arg3 harg3 arg4 harg4 x2 x3))))) <;>
  · simp only [startRun.sl.r_193, startRun.sl.r_194, startRun.sl.r_195, startRun.sl.r_196, startRun.sl.r_197, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_161_scaled : Agrees (arr2 (e := .bf16) (wscaled x2 x3)) (startRun.sl.H17_161 (F := Ideal) arg3 harg3 arg4 harg4 x2 x3) := by
  unfold startRun.sl.H17_161
  refine (Agrees.cons_unit (fun a b => ?_) (Agrees.cons_unit (fun a b => ?_) (Agrees.cons_unit (fun a b => ?_) (Agrees.cons_unit (fun a b => ?_) (H17_157_scaled arg3 harg3 arg4 harg4 x2 x3))))) <;>
  · simp only [startRun.sl.r_198, startRun.sl.r_199, startRun.sl.r_200, startRun.sl.r_201, startRun.sl.r_202, startRun.sl.r_203, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_165_scaled : Agrees (arr2 (e := .bf16) (wscaled x2 x3)) (startRun.sl.H17_165 (F := Ideal) arg3 harg3 arg4 harg4 x2 x3) := by
  unfold startRun.sl.H17_165
  refine (Agrees.cons_unit (fun a b => ?_) (Agrees.cons_unit (fun a b => ?_) (Agrees.cons_unit (fun a b => ?_) (Agrees.cons_unit (fun a b => ?_) (H17_161_scaled arg3 harg3 arg4 harg4 x2 x3))))) <;>
  · simp only [startRun.sl.r_204, startRun.sl.r_205, startRun.sl.r_206, startRun.sl.r_207, startRun.sl.r_208, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_168_scaled : Agrees (arr2 (e := .bf16) (wscaled x2 x3)) (startRun.sl.H17_168 (F := Ideal) arg3 harg3 arg4 harg4 x2 x3) := by
  unfold startRun.sl.H17_168
  refine (Agrees.cons_unit (fun a b => ?_) (Agrees.cons_unit (fun a b => ?_) (Agrees.cons_unit (fun a b => ?_) (H17_165_scaled arg3 harg3 arg4 harg4 x2 x3)))) <;>
  · simp only [startRun.sl.r_209, startRun.sl.r_210, startRun.sl.r_211, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_172_scaled : Agrees (arr2 (e := .bf16) (wscaled x2 x3)) (startRun.sl.H17_172 (F := Ideal) arg3 harg3 arg4 harg4 x2 x3) := by
  unfold startRun.sl.H17_172
  refine (Agrees.cons_unit (fun a b => ?_) (Agrees.cons_unit (fun a b => ?_) (Agrees.cons_unit (fun a b => ?_) (Agrees.cons_unit (fun a b => ?_) (H17_168_scaled arg3 harg3 arg4 harg4 x2 x3))))) <;>
  · simp only [startRun.sl.r_212, startRun.sl.r_213, startRun.sl.r_214, startRun.sl.r_215, startRun.sl.r_216, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_176_scaled : Agrees (arr2 (e := .bf16) (wscaled x2 x3)) (startRun.sl.H17_176 (F := Ideal) arg3 harg3 arg4 harg4 x2 x3) := by
  unfold startRun.sl.H17_176
  refine (Agrees.cons_unit (fun a b => ?_) (Agrees.cons_unit (fun a b => ?_) (Agrees.cons_unit (fun a b => ?_) (Agrees.cons_unit (fun a b => ?_) (H17_172_scaled arg3 harg3 arg4 harg4 x2 x3))))) <;>
  · simp only [startRun.sl.r_217, startRun.sl.r_218, startRun.sl.r_219, startRun.sl.r_220, startRun.sl.r_221, startRun.sl.r_222, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_180_scaled : Agrees (arr2 (e := .bf16) (wscaled x2 x3)) (startRun.sl.H17_180 (F := Ideal) arg3 harg3 arg4 harg4 x2 x3) := by
  unfold startRun.sl.H17_180
  refine (Agrees.cons_unit (fun a b => ?_) (Agrees.cons_unit (fun a b => ?_) (Agrees.cons_unit (fun a b => ?_) (Agrees.cons_unit (fun a b => ?_) (H17_176_scaled arg3 harg3 arg4 harg4 x2 x3))))) <;>
  · simp only [startRun.sl.r_223, startRun.sl.r_224, startRun.sl.r_225, startRun.sl.r_226, startRun.sl.r_227, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_183_scaled : Agrees (arr2 (e := .bf16) (wscaled x2 x3)) (startRun.sl.H17_183 (F := Ideal) arg3 harg3 arg4 harg4 x2 x3) := by
  unfold startRun.sl.H17_183
  refine (Agrees.cons_unit (fun a b => ?_) (Agrees.cons_unit (fun a b => ?_) (Agrees.cons_unit (fun a b => ?_) (H17_180_scaled arg3 harg3 arg4 harg4 x2 x3)))) <;>
  · simp only [startRun.sl.r_228, startRun.sl.r_229, startRun.sl.r_230, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_187_scaled : Agrees (arr2 (e := .bf16) (wscaled x2 x3)) (startRun.sl.H17_187 (F := Ideal) arg3 harg3 arg4 harg4 x2 x3) := by
  unfold startRun.sl.H17_187
  refine (Agrees.cons_unit (fun a b => ?_) (Agrees.cons_unit (fun a b => ?_) (Agrees.cons_unit (fun a b => ?_) (Agrees.cons_unit (fun a b => ?_) (H17_183_scaled arg3 harg3 arg4 harg4 x2 x3))))) <;>
  · simp only [startRun.sl.r_231, startRun.sl.r_232, startRun.sl.r_233, startRun.sl.r_234, startRun.sl.r_235, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_191_scaled : Agrees (arr2 (e := .bf16) (wscaled x2 x3)) (startRun.sl.H17_191 (F := Ideal) arg3 harg3 arg4 harg4 x2 x3) := by
  unfold startRun.sl.H17_191
  refine (Agrees.cons_unit (fun a b => ?_) (Agrees.cons_unit (fun a b => ?_) (Agrees.cons_unit (fun a b => ?_) (Agrees.cons_unit (fun a b => ?_) (H17_187_scaled arg3 harg3 arg4 harg4 x2 x3))))) <;>
  · simp only [startRun.sl.r_236, startRun.sl.r_237, startRun.sl.r_238, startRun.sl.r_239, startRun.sl.r_240, startRun.sl.r_241, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_195_scaled : Agrees (arr2 (e := .bf16) (wscaled x2 x3)) (startRun.sl.H17_195 (F := Ideal) arg3 harg3 arg4 harg4 x2 x3) := by
  unfold startRun.sl.H17_195
  refine (Agrees.cons_unit (fun a b => ?_) (Agrees.cons_unit (fun a b => ?_) (Agrees.cons_unit (fun a b => ?_) (Agrees.cons_unit (fun a b => ?_) (H17_191_scaled arg3 harg3 arg4 harg4 x2 x3))))) <;>
  · simp only [startRun.sl.r_242, startRun.sl.r_243, startRun.sl.r_244, startRun.sl.r_245, startRun.sl.r_246, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_200_scaled : Agrees (arr2 (e := .bf16) (wscaled x2 x3)) (startRun.sl.H17_200 (F := Ideal) arg3 harg3 arg4 harg4 x2 x3) := by
  unfold startRun.sl.H17_200
  refine (Agrees.cons_unit (fun a b => ?_) (Agrees.cons_unit (fun a b => ?_) (Agrees.cons_unit (fun a b => ?_) (Agrees.cons_unit (fun a b => ?_) (Agrees.cons_unit (fun a b => ?_) (H17_195_scaled arg3 harg3 arg4 harg4 x2 x3)))))) <;>
  · simp only [startRun.sl.r_247, startRun.sl.r_248, startRun.sl.r_249, startRun.sl.r_250, startRun.sl.r_251, startRun.sl.r_252, scale_load]
    simp only [readAt_unread_eq]
    unfold_payloads
    pointwise []
    simp only [at2_eq x2]
    have ha := a.isLt
    have hb := b.isLt
    unfold wscaled
    refine congrArg₂ (· * ·) (congrArg₂ (at2 x2) ?_ ?_) (congrArg₂ (at2 x3) ?_ ?_) <;>
      first
        | omega
        | (simp only [Fin.coe_ofNat_eq_mod]; omega)

theorem H17_200_cover (y : S576x5120.Idx) : ∃ p ∈ (startRun.sl.H17_200 (F := Ideal) arg3 harg3 arg4 harg4 x2 x3), y ∈ p.1.set :=
  View.cover_of_tiledBy (startRun.sl.H17_200 (F := Ideal) arg3 harg3 arg4 harg4 x2 x3) S64x128.size (by sl_kernel_rfl) y

end Cert.KernelIdeal.Val
-- ==== Proof.Rows.lean ====
/-
  A token's data in terms of the programs' arguments, as the kernel's steps and the reference's arrays hold it.
-/
module

public import proofs.«01_k».proof.Proof.Blocks
public import proofs.«01_k».proof.Proof.Scaled

@[expose] public section

set_option maxRecDepth 16384

noncomputable section

namespace Cert.Tokens

open Idealize.ShloMosaic Idealize.ShloMosaic.TcCoe Idealize.ShloMosaic.Tactic Cert.Spec
open Idealize.SL Idealize.SL.Sem

section Args
open Cert.ReferenceIdeal Cert.ReferenceIdeal.Gen

/-- Token `s`'s data in the programs' arguments. -/
def token (a0 : Vec Ideal S3x640x5120 .fp8e4m3) (a1 : Vec Ideal S3x640x40 .f32) (a2 : Vec Ideal S576x5120 .fp8e4m3) (a3 : Vec Ideal S5x40 .f32)
    (a4 : Vec Ideal S512 .f32) (a5 : Vec Ideal S3x640 .i32) (a6 : Vec Ideal S3x640x512 .bf16) (a7 : Vec Ideal S3x640x64 .bf16)
    (a8 : Vec Ideal S3x640x5120 .bf16) (a9 : Vec Ideal S5120 .f32) (a10 : Vec Ideal S3x640x5120 .bf16) (s : ℕ) : Row :=
  Cert.ReferenceIdeal.Val.row (shapeCast S1920x5120 a0 shapeCasts_S3x640x5120_S1920x5120) (shapeCast S1920x40 a1 shapeCasts_S3x640x40_S1920x40) a2 a3
    (shapeCast S1x512 a4 shapeCasts_S512_S1x512) (shapeCast S1x32 Cert.Host.freqs shapeCasts_S32_S1x32) (shapeCast S1920x1 a5 shapeCasts_S3x640_S1920x1)
    (shapeCast S1920x512 a6 shapeCasts_S3x640x512_S1920x512) (shapeCast S1920x64 a7 shapeCasts_S3x640x64_S1920x64)
    (shapeCast S1920x5120 a8 shapeCasts_S3x640x5120_S1920x5120) (shapeCast S1x5120 a9 shapeCasts_S5120_S1x5120)
    (shapeCast S1920x5120 a10 shapeCasts_S3x640x5120_S1920x5120) s

variable (m : (ℓ : Loc nD τ sig) → Buf (Elt Ideal) ℓ) (c : Dev nD)

/-- Token `s`'s data in the reference's arguments. -/
def rtok (s : ℕ) : Row := token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) s

/-- The reference's region finds the arguments' tokens in its arrays. -/
theorem rrow_eq (s : ℕ) : Cert.ReferenceIdeal.Val.row (V m c main_v12) (V m c main_v13) (V m c main_arg2) (V m c main_arg3) (V m c main_v14) (V m c main_v11) (V m c main_v15) (V m c main_v16) (V m c main_v17) (V m c main_v18) (V m c main_v19) (V m c main_v20) s = rtok m c s := by
  rw [Cert.Host.r11, Cert.Host.r12, Cert.Host.r13, Cert.Host.r14, Cert.Host.r15, Cert.Host.r16, Cert.Host.r17, Cert.Host.r18, Cert.Host.r19, Cert.Host.r20, V_main_arg2, V_main_arg3]
  rfl

end Args

section Kernel
open Cert.KernelIdeal Cert.KernelIdeal.Gen Cert.KernelIdeal.Body Cert.KernelIdeal.Track Cert.KernelIdeal.Val Cert.KernelIdeal.Link

variable (m : (ℓ : Loc nD τ sig) → Buf (Elt Ideal) ℓ) (c : Dev nD)

/-- Token `s`'s data in the kernel's arguments. -/
def tok (s : ℕ) : Row := token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) s

/-- The scaled weights that the scratch holds from the first step on. -/
theorem wsc_eq (n : Fin 576) (k : Fin 5120) : wsc m c (ix2 n k) = wscaled (V m c main_arg2) (V m c main_arg3) n k := by
  have h := View.read_writes_apply_of_pieces sc0.view sc0.view.junk (arr2 (e := .bf16) (wscaled (iblk m c 2 t0) (iblk m c 3 t0))) _
    (H17_200_scaled (win0_2.stage (cfg0.slots t0 2)) (hstage0_2 ((cfg0.slots t0 2).cast nbuf0_2)) (win0_3.stage (cfg0.slots t0 3)) (hstage0_3 ((cfg0.slots t0 3).cast nbuf0_3)) (iblk m c 2 t0) (iblk m c 3 t0)) (ix2 n k)
    (H17_200_cover (win0_2.stage (cfg0.slots t0 2)) (hstage0_2 ((cfg0.slots t0 2).cast nbuf0_2)) (win0_3.stage (cfg0.slots t0 3)) (hstage0_3 ((cfg0.slots t0 3).cast nbuf0_3)) (iblk m c 2 t0) (iblk m c 3 t0) (ix2 n k))
  refine h.trans ?_
  show wscaled (iblk m c 2 t0) (iblk m c 3 t0) n k = _
  rw [blk2, blk3]

/-- A block's row is the array's row, at every column. -/
theorem at2_block {A A' B : ℕ} [NeZero A] [NeZero A'] [NeZero B] {e : EltTy} (x : Vec Ideal ⟨2, ![A, B]⟩ e) (y : Vec Ideal ⟨2, ![A', B]⟩ e) (o r : ℕ) (hr : r < A)
    (h : ∀ (a : Fin A) (b : Fin B), x (ix2 a b) = at2 y (o + a) b) (k : ℕ) : at2 x r k = at2 y (o + r) k := by
  refine (h (Fin.ofNat A r) (Fin.ofNat B k)).trans ?_
  unfold at2
  congr 2
  · exact Fin.ext (by simp [Fin.ofNat, Nat.mod_eq_of_lt hr])
  · exact Fin.ext (by simp [Fin.ofNat])

/-- A step of the kernel finds its tokens' data in its blocks. -/
theorem krow_eq (t : Fin cfg0.N) (r : ℕ) (hr : r < 384) :
    row (grid0.coords t) (iblk m c 0 t) (iblk m c 1 t) (iblk m c 4 t) (iblk m c 5 t) (iblk m c 6 t) (iblk m c 7 t) (iblk m c 8 t) (iblk m c 9 t) (iblk m c 10 t) (iblk m c 11 t) (wsc m c) r
      = tok m c (384 * t.val + r) := by
  have ht : t.val < 5 := by have := t.isLt; simpa [show cfg0.N = 5 from N_0] using this
  have h0 := at2_block (iblk m c 0 t) _ _ r hr (blk0 m c t)
  have h1 := at2_block (iblk m c 1 t) _ _ r hr (blk1 m c t)
  have h7 := at2_block (iblk m c 7 t) _ _ r hr (blk7 m c t)
  have h8 := at2_block (iblk m c 8 t) _ _ r hr (blk8 m c t)
  have h9 := at2_block (iblk m c 9 t) _ _ r hr (blk9 m c t)
  have h11 := at2_block (iblk m c 11 t) _ _ r hr (blk11 m c t)
  unfold tok token row Cert.ReferenceIdeal.Val.row
  rw [Row.mk.injEq]
  refine ⟨funext fun k => ?_, funext fun n => funext fun k => ?_, funext fun n => ?_, funext fun j => ?_, ?_, funext fun n => ?_, funext fun n => ?_, funext fun k => ?_, funext fun k => ?_, funext fun k => ?_⟩
  · rw [h0, h1, Cert.Host.k12, Cert.Host.k13]
  · refine (wsc_eq m c (Fin.ofNat 576 n) (Fin.ofNat 5120 k)).trans ?_
    unfold wscaled
    rw [V_main_arg2, V_main_arg3]
    unfold at2
    simp [Fin.ofNat]
  · rw [blk4, Cert.Host.k14]
  · rw [blk5, Cert.Host.k11]
    unfold at2
    refine (shapeCast_apply _ _ _ (ix1 (Fin.ofNat 32 j)) ?_).trans (shapeCast_apply _ _ _ (ix1 (Fin.ofNat 32 j)) ?_).symm
    · simp only [Shape.rowMajor_val_one, Shape.rowMajor_val_two]; simp [ix1, ix2, Fin.ofNat]
    · simp only [Shape.rowMajor_val_one, Shape.rowMajor_val_two]; simp [ix1, ix2, Fin.ofNat]
  · rw [blk6, Cert.Host.k15]
    refine congrArg _ ?_
    unfold at2 at3
    refine (shapeCast_apply _ _ _ (ix2 (Fin.ofNat 3 ((384 * t.val + r) / 640)) (Fin.ofNat 640 ((384 * t.val + r) % 640))) ?_).trans (shapeCast_apply _ _ _ (ix2 (Fin.ofNat 3 ((384 * t.val + r) / 640)) (Fin.ofNat 640 ((384 * t.val + r) % 640))) ?_).symm
    · simp only [Shape.rowMajor_val_three, Shape.rowMajor_val_two, coords_val]; simp [ix3, ix2, Fin.ofNat]; omega
    · simp only [Shape.rowMajor_val_one, Shape.rowMajor_val_two]; simp [ix3, ix2, Fin.ofNat]; omega
  · rw [h7, Cert.Host.k16]
  · rw [h8, Cert.Host.k17]
  · rw [h9, Cert.Host.k18]
  · rw [blk10, Cert.Host.k19]
  · rw [h11, Cert.Host.k20]

end Kernel

end Cert.Tokens
-- ==== Proof.RefArrays.lean ====
/-
  The reference's five results as arrays, in terms of its arguments' tokens.
-/
module

public import proofs.«01_k».proof.Proof.Rows
public import proofs.«01_k».proof.Proof.Gen.ReferenceIdeal.Value

@[expose] public section

set_option maxRecDepth 16384

noncomputable section

namespace Cert.Tokens

open Idealize.ShloMosaic Idealize.ShloMosaic.TcCoe Idealize.ShloMosaic.Tactic Cert.Spec
open Idealize.SL Idealize.SL.Sem

/-- The gradient of the residual stream, of all tokens. -/
def dhArr (f : ℕ → Row) : Vec Ideal ⟨2, ![1920, 5120]⟩ .bf16 := fun j => (f (j 0).val).dh (j 1).val
/-- The residual gain's gradient, summed over each group of 128 tokens. -/
def dagArr (f : ℕ → Row) : Vec Ideal ⟨3, ![3, 5, 5120]⟩ .f32 := fun j => ∑ i : Fin 128, (f ((j 0).val * 640 + (j 1).val * 128 + i)).dagp (j 2).val
/-- The latent gain's gradient, summed over each group of 128 tokens. -/
def dngArr (f : ℕ → Row) : Vec Ideal ⟨3, ![3, 5, 512]⟩ .f32 := fun j => ∑ i : Fin 128, (f ((j 0).val * 640 + (j 1).val * 128 + i)).dgp (j 2).val
/-- The codes of all tokens. -/
def codeArr (f : ℕ → Row) : Vec Ideal ⟨2, ![1920, 576]⟩ .fp8e5m2 := fun j => (f (j 0).val).code (j 1).val
/-- The scales of all tokens. -/
def scaleArr (f : ℕ → Row) : Vec Ideal ⟨2, ![1920, 5]⟩ .f32 := fun j => (f (j 0).val).scale (j 1).val

open Cert.ReferenceIdeal Cert.ReferenceIdeal.Gen

variable (m : (ℓ : Loc nD τ sig) → Buf (Elt Ideal) ℓ) (c : Dev nD)

theorem rblk0 (t : Fin cfg0.N) : (iblk m c 0 t : Vec Ideal S1920x5120 .fp8e4m3) = V m c main_v12 := by
  funext y
  unfold iblk
  blk_simp
  refine congrArg (V m c main_v12) (funext fun a => Fin.ext ?_)
  exact (cfg0.win 0).rect_emb_val_of_index_zero t a (by match a with | 0 => rfl | 1 => rfl) y

theorem rblk1 (t : Fin cfg0.N) : (iblk m c 1 t : Vec Ideal S1920x40 .f32) = V m c main_v13 := by
  funext y
  unfold iblk
  blk_simp
  refine congrArg (V m c main_v13) (funext fun a => Fin.ext ?_)
  exact (cfg0.win 1).rect_emb_val_of_index_zero t a (by match a with | 0 => rfl | 1 => rfl) y

theorem rblk2 (t : Fin cfg0.N) : (iblk m c 2 t : Vec Ideal S576x5120 .fp8e4m3) = V m c main_arg2 := by
  funext y
  unfold iblk
  blk_simp
  refine congrArg (V m c main_arg2) (funext fun a => Fin.ext ?_)
  exact (cfg0.win 2).rect_emb_val_of_index_zero t a (by match a with | 0 => rfl | 1 => rfl) y

theorem rblk3 (t : Fin cfg0.N) : (iblk m c 3 t : Vec Ideal S5x40 .f32) = V m c main_arg3 := by
  funext y
  unfold iblk
  blk_simp
  refine congrArg (V m c main_arg3) (funext fun a => Fin.ext ?_)
  exact (cfg0.win 3).rect_emb_val_of_index_zero t a (by match a with | 0 => rfl | 1 => rfl) y

theorem rblk4 (t : Fin cfg0.N) : (iblk m c 4 t : Vec Ideal S1x512 .f32) = V m c main_v14 := by
  funext y
  unfold iblk
  blk_simp
  refine congrArg (V m c main_v14) (funext fun a => Fin.ext ?_)
  exact (cfg0.win 4).rect_emb_val_of_index_zero t a (by match a with | 0 => rfl | 1 => rfl) y

theorem rblk5 (t : Fin cfg0.N) : (iblk m c 5 t : Vec Ideal S1x32 .f32) = V m c main_v11 := by
  funext y
  unfold iblk
  blk_simp
  refine congrArg (V m c main_v11) (funext fun a => Fin.ext ?_)
  exact (cfg0.win 5).rect_emb_val_of_index_zero t a (by match a with | 0 => rfl | 1 => rfl) y

theorem rblk6 (t : Fin cfg0.N) : (iblk m c 6 t : Vec Ideal S1920x1 .i32) = V m c main_v15 := by
  funext y
  unfold iblk
  blk_simp
  refine congrArg (V m c main_v15) (funext fun a => Fin.ext ?_)
  exact (cfg0.win 6).rect_emb_val_of_index_zero t a (by match a with | 0 => rfl | 1 => rfl) y

theorem rblk7 (t : Fin cfg0.N) : (iblk m c 7 t : Vec Ideal S1920x512 .bf16) = V m c main_v16 := by
  funext y
  unfold iblk
  blk_simp
  refine congrArg (V m c main_v16) (funext fun a => Fin.ext ?_)
  exact (cfg0.win 7).rect_emb_val_of_index_zero t a (by match a with | 0 => rfl | 1 => rfl) y

theorem rblk8 (t : Fin cfg0.N) : (iblk m c 8 t : Vec Ideal S1920x64 .bf16) = V m c main_v17 := by
  funext y
  unfold iblk
  blk_simp
  refine congrArg (V m c main_v17) (funext fun a => Fin.ext ?_)
  exact (cfg0.win 8).rect_emb_val_of_index_zero t a (by match a with | 0 => rfl | 1 => rfl) y

theorem rblk9 (t : Fin cfg0.N) : (iblk m c 9 t : Vec Ideal S1920x5120 .bf16) = V m c main_v18 := by
  funext y
  unfold iblk
  blk_simp
  refine congrArg (V m c main_v18) (funext fun a => Fin.ext ?_)
  exact (cfg0.win 9).rect_emb_val_of_index_zero t a (by match a with | 0 => rfl | 1 => rfl) y

theorem rblk10 (t : Fin cfg0.N) : (iblk m c 10 t : Vec Ideal S1x5120 .f32) = V m c main_v19 := by
  funext y
  unfold iblk
  blk_simp
  refine congrArg (V m c main_v19) (funext fun a => Fin.ext ?_)
  exact (cfg0.win 10).rect_emb_val_of_index_zero t a (by match a with | 0 => rfl | 1 => rfl) y

theorem rblk11 (t : Fin cfg0.N) : (iblk m c 11 t : Vec Ideal S1920x5120 .bf16) = V m c main_v20 := by
  funext y
  unfold iblk
  blk_simp
  refine congrArg (V m c main_v20) (funext fun a => Fin.ext ?_)
  exact (cfg0.win 11).rect_emb_val_of_index_zero t a (by match a with | 0 => rfl | 1 => rfl) y

/-- The one point of the reference's grid. -/
def r0 : Fin cfg0.N := ⟨0, by decide +kernel⟩

/-- Result 1 of the reference. -/
theorem ref12 : (dats m 0 c).arrAt 12 cfg0.N = dhArr (rtok m c) := by
  refine (dats m 0 c).arrAt_eq_of_after_last 12 r0 (by decide +kernel) _ fun j => ?_
  blk_simp
  rw [after0_12, rblk0, rblk1, rblk2, rblk3, rblk4, rblk5, rblk6, rblk7, rblk8, rblk9, rblk10, rblk11]
  unfold out0_12
  refine View.canon_apply_of_pieces (dhArr (rtok m c)) _ (Cert.KernelIdeal.Val.Agrees.cons (fun x => ?_) Cert.KernelIdeal.Val.Agrees.nil) j (cover0_12 _ j)
  have hx : x = ix2 (x 0) (x 1) := by funext a; match a with | 0 => rfl | 1 => rfl
  have he : (Rect.emb _ x) = x := by funext a; apply Fin.ext; match a with | 0 => exact (Nat.zero_add _).trans (Nat.one_mul _) | 1 => exact (Nat.zero_add _).trans (Nat.one_mul _)
  rw [he]
  refine (congrArg _ hx).trans ((Cert.ReferenceIdeal.Val.dh_eq (V m c main_v12) (V m c main_v13) (V m c main_arg2) (V m c main_arg3) (V m c main_v14) (V m c main_v11) (V m c main_v15) (V m c main_v16) (V m c main_v17) (V m c main_v18) (V m c main_v19) (V m c main_v20) (x 0) (x 1)).trans ?_)
  exact congrArg (fun w => Row.dh w (x 1).val) (rrow_eq m c _)

/-- Result 2 of the reference. -/
theorem ref13 : (dats m 0 c).arrAt 13 cfg0.N = dagArr (rtok m c) := by
  refine (dats m 0 c).arrAt_eq_of_after_last 13 r0 (by decide +kernel) _ fun j => ?_
  blk_simp
  rw [after0_13, rblk0, rblk1, rblk2, rblk3, rblk4, rblk5, rblk6, rblk7, rblk8, rblk9, rblk10, rblk11]
  unfold out0_13
  refine View.canon_apply_of_pieces (dagArr (rtok m c)) _ (Cert.KernelIdeal.Val.Agrees.cons (fun x => ?_) Cert.KernelIdeal.Val.Agrees.nil) j (cover0_13 _ j)
  have hx : x = ix3 (x 0) (x 1) (x 2) := by funext a; match a with | 0 => rfl | 1 => rfl | 2 => rfl
  have he : (Rect.emb _ x) = x := by funext a; apply Fin.ext; match a with | 0 => exact (Nat.zero_add _).trans (Nat.one_mul _) | 1 => exact (Nat.zero_add _).trans (Nat.one_mul _) | 2 => exact (Nat.zero_add _).trans (Nat.one_mul _)
  rw [he]
  refine (congrArg _ hx).trans ((Cert.ReferenceIdeal.Val.dagp_eq (V m c main_v12) (V m c main_v13) (V m c main_arg2) (V m c main_arg3) (V m c main_v14) (V m c main_v11) (V m c main_v15) (V m c main_v16) (V m c main_v17) (V m c main_v18) (V m c main_v19) (V m c main_v20) (x 0) (x 1) (x 2)).trans ?_)
  exact Finset.sum_congr rfl fun i _ => congrArg (fun w => Row.dagp w (x 2).val) (rrow_eq m c _)

/-- Result 3 of the reference. -/
theorem ref14 : (dats m 0 c).arrAt 14 cfg0.N = dngArr (rtok m c) := by
  refine (dats m 0 c).arrAt_eq_of_after_last 14 r0 (by decide +kernel) _ fun j => ?_
  blk_simp
  rw [after0_14, rblk0, rblk1, rblk2, rblk3, rblk4, rblk5, rblk6, rblk7, rblk8, rblk9, rblk10, rblk11]
  unfold out0_14
  refine View.canon_apply_of_pieces (dngArr (rtok m c)) _ (Cert.KernelIdeal.Val.Agrees.cons (fun x => ?_) Cert.KernelIdeal.Val.Agrees.nil) j (cover0_14 _ j)
  have hx : x = ix3 (x 0) (x 1) (x 2) := by funext a; match a with | 0 => rfl | 1 => rfl | 2 => rfl
  have he : (Rect.emb _ x) = x := by funext a; apply Fin.ext; match a with | 0 => exact (Nat.zero_add _).trans (Nat.one_mul _) | 1 => exact (Nat.zero_add _).trans (Nat.one_mul _) | 2 => exact (Nat.zero_add _).trans (Nat.one_mul _)
  rw [he]
  refine (congrArg _ hx).trans ((Cert.ReferenceIdeal.Val.dgp_eq (V m c main_v12) (V m c main_v13) (V m c main_arg2) (V m c main_arg3) (V m c main_v14) (V m c main_v11) (V m c main_v15) (V m c main_v16) (V m c main_v17) (V m c main_v18) (V m c main_v19) (V m c main_v20) (x 0) (x 1) (x 2)).trans ?_)
  exact Finset.sum_congr rfl fun i _ => congrArg (fun w => Row.dgp w (x 2).val) (rrow_eq m c _)

/-- Result 4 of the reference. -/
theorem ref15 : (dats m 0 c).arrAt 15 cfg0.N = codeArr (rtok m c) := by
  refine (dats m 0 c).arrAt_eq_of_after_last 15 r0 (by decide +kernel) _ fun j => ?_
  blk_simp
  rw [after0_15, rblk0, rblk1, rblk2, rblk3, rblk4, rblk5, rblk6, rblk7, rblk8, rblk9, rblk10, rblk11]
  unfold out0_15
  refine View.canon_apply_of_pieces (codeArr (rtok m c)) _ (Cert.KernelIdeal.Val.Agrees.cons (fun x => ?_) Cert.KernelIdeal.Val.Agrees.nil) j (cover0_15 _ j)
  have hx : x = ix2 (x 0) (x 1) := by funext a; match a with | 0 => rfl | 1 => rfl
  have he : (Rect.emb _ x) = x := by funext a; apply Fin.ext; match a with | 0 => exact (Nat.zero_add _).trans (Nat.one_mul _) | 1 => exact (Nat.zero_add _).trans (Nat.one_mul _)
  rw [he]
  refine (congrArg _ hx).trans ((Cert.ReferenceIdeal.Val.code_eq (V m c main_v12) (V m c main_v13) (V m c main_arg2) (V m c main_arg3) (V m c main_v14) (V m c main_v11) (V m c main_v15) (V m c main_v16) (V m c main_v17) (V m c main_v18) (V m c main_v19) (V m c main_v20) (x 0) (x 1)).trans ?_)
  exact congrArg (fun w => Row.code w (x 1).val) (rrow_eq m c _)

/-- Result 5 of the reference. -/
theorem ref16 : (dats m 0 c).arrAt 16 cfg0.N = scaleArr (rtok m c) := by
  refine (dats m 0 c).arrAt_eq_of_after_last 16 r0 (by decide +kernel) _ fun j => ?_
  blk_simp
  rw [after0_16, rblk0, rblk1, rblk2, rblk3, rblk4, rblk5, rblk6, rblk7, rblk8, rblk9, rblk10, rblk11]
  unfold out0_16
  refine View.canon_apply_of_pieces (scaleArr (rtok m c)) _ (Cert.KernelIdeal.Val.Agrees.cons (fun x => ?_) Cert.KernelIdeal.Val.Agrees.nil) j (cover0_16 _ j)
  have hx : x = ix2 (x 0) (x 1) := by funext a; match a with | 0 => rfl | 1 => rfl
  have he : (Rect.emb _ x) = x := by funext a; apply Fin.ext; match a with | 0 => exact (Nat.zero_add _).trans (Nat.one_mul _) | 1 => exact (Nat.zero_add _).trans (Nat.one_mul _)
  rw [he]
  refine (congrArg _ hx).trans ((Cert.ReferenceIdeal.Val.scale_eq (V m c main_v12) (V m c main_v13) (V m c main_arg2) (V m c main_arg3) (V m c main_v14) (V m c main_v11) (V m c main_v15) (V m c main_v16) (V m c main_v17) (V m c main_v18) (V m c main_v19) (V m c main_v20) (x 0) (x 1)).trans ?_)
  exact congrArg (fun w => Row.scale w (x 1).val) (rrow_eq m c _)

end Cert.Tokens
-- ==== Proof.KvLatent.lean ====
/-
  The latent, the gradient of the latent and the latent gain's, entry by entry.
-/
module

public import proofs.«01_k».proof.Proof.KvInput

@[expose] public section

set_option maxRecDepth 16384

noncomputable section

namespace Cert.KernelIdeal.Val

open Idealize.ShloMosaic Cert.Spec Cert.KernelIdeal Cert.KernelIdeal.Gen Cert.KernelIdeal.Body

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

/-- The latent. -/
theorem c_eq (r : Fin 384) (n : Fin 512) : restRun.sl.r_13 (F := Ideal) arg1 harg1 arg2 harg2 arg18 harg18 arg19 x0 x1 x17 (ix2 r n) = (row i x0 x1 x4 x5 x6 x7 x8 x9 x10 x11 x17 r).c n := by
  unfold restRun.sl.r_13
  have h (k : Fin 5120) := v445_eq i arg1 harg1 arg2 harg2 arg19 x0 x1 x4 x5 x6 x7 x8 x9 x10 x11 x17 r k
  simp only [readAt_unread_eq]
  pointwise [k0_pay296]
  simp only [h, at2_eq x0, at2_eq x1, at2_eq x4, at2_eq x5, at2_eq x7, at2_eq x8, at2_eq x9, at2_eq x10, at2_eq x11, at2_eq x17]
  rfl

/-- The gradient of the latent before its norm. -/
theorem dcl_eq (r : Fin 384) (n : Fin 512) : restRun.sl.r_15 (F := Ideal) arg1 harg1 arg2 harg2 arg5 harg5 arg8 harg8 arg18 harg18 arg19 x0 x1 x4 x7 x17 (ix2 r n) = (row i x0 x1 x4 x5 x6 x7 x8 x9 x10 x11 x17 r).dcl n := by
  unfold restRun.sl.r_15
  have h (n : Fin 512) := c_eq i arg1 harg1 arg2 harg2 arg18 harg18 arg19 x0 x1 x4 x5 x6 x7 x8 x9 x10 x11 x17 r n
  simp only [readAt_unread_eq]
  pointwise [k0_pay301, k0_pay298, k0_pay299, k0_pay297]
  simp only [h, at2_eq x0, at2_eq x1, at2_eq x4, at2_eq x5, at2_eq x7, at2_eq x8, at2_eq x9, at2_eq x10, at2_eq x11, at2_eq x17]
  rfl

/-- The token's part of the latent gain's gradient. -/
theorem dgp_eq (r : Fin 384) (n : Fin 512) : restRun.sl.r_14 (F := Ideal) arg1 harg1 arg2 harg2 arg8 harg8 arg18 harg18 arg19 x0 x1 x7 x17 (ix2 r n) = (row i x0 x1 x4 x5 x6 x7 x8 x9 x10 x11 x17 r).dgp n := by
  unfold restRun.sl.r_14
  have h (n : Fin 512) := c_eq i arg1 harg1 arg2 harg2 arg18 harg18 arg19 x0 x1 x4 x5 x6 x7 x8 x9 x10 x11 x17 r n
  simp only [readAt_unread_eq]
  pointwise [k0_pay300, k0_pay298, k0_pay299, k0_pay297]
  simp only [h, at2_eq x0, at2_eq x1, at2_eq x4, at2_eq x5, at2_eq x7, at2_eq x8, at2_eq x9, at2_eq x10, at2_eq x11, at2_eq x17]
  rfl

/-- The latent gain's gradient of the step's token group 0. -/
theorem dng0_eq (n : Fin 512) : k0_pay302 (restRun.sl.r_14 (F := Ideal) arg1 harg1 arg2 harg2 arg8 harg8 arg18 harg18 arg19 x0 x1 x7 x17) (ix3 0 0 n) = ∑ a : Fin 128, (row i x0 x1 x4 x5 x6 x7 x8 x9 x10 x11 x17 (0 + a)).dgp n := by
  have h (r : Fin 384) (n : Fin 512) := dgp_eq i arg1 harg1 arg2 harg2 arg8 harg8 arg18 harg18 arg19 x0 x1 x4 x5 x6 x7 x8 x9 x10 x11 x17 r n
  pointwise [k0_pay302]
  simp only [h, Nat.zero_add]

/-- The latent gain's gradient of the step's token group 1. -/
theorem dng1_eq (n : Fin 512) : k0_pay303 (restRun.sl.r_14 (F := Ideal) arg1 harg1 arg2 harg2 arg8 harg8 arg18 harg18 arg19 x0 x1 x7 x17) (ix3 0 0 n) = ∑ a : Fin 128, (row i x0 x1 x4 x5 x6 x7 x8 x9 x10 x11 x17 (128 + a)).dgp n := by
  have h (r : Fin 384) (n : Fin 512) := dgp_eq i arg1 harg1 arg2 harg2 arg8 harg8 arg18 harg18 arg19 x0 x1 x4 x5 x6 x7 x8 x9 x10 x11 x17 r n
  pointwise [k0_pay303]
  simp only [h, Nat.zero_add]

/-- The latent gain's gradient of the step's token group 2. -/
theorem dng2_eq (n : Fin 512) : k0_pay304 (restRun.sl.r_14 (F := Ideal) arg1 harg1 arg2 harg2 arg8 harg8 arg18 harg18 arg19 x0 x1 x7 x17) (ix3 0 0 n) = ∑ a : Fin 128, (row i x0 x1 x4 x5 x6 x7 x8 x9 x10 x11 x17 (256 + a)).dgp n := by
  have h (r : Fin 384) (n : Fin 512) := dgp_eq i arg1 harg1 arg2 harg2 arg8 harg8 arg18 harg18 arg19 x0 x1 x4 x5 x6 x7 x8 x9 x10 x11 x17 r n
  pointwise [k0_pay304]
  simp only [h, Nat.zero_add]

end Cert.KernelIdeal.Val
-- ==== Proof.Left.lean ====
/-
  What one step of the kernel leaves in its results, entry by entry.
-/
module

public import proofs.«01_k».proof.Proof.KvLatent
public import proofs.«01_k».proof.Proof.KernelIdealRest

@[expose] public section

set_option maxRecDepth 16384

noncomputable section

namespace Cert.KernelIdeal.Val

open Idealize.ShloMosaic Idealize.ShloMosaic.Tactic Cert.Spec Cert.KernelIdeal Cert.KernelIdeal.Gen Cert.KernelIdeal.Body

section Stores
variable {sp : Space} {e : EltTy} {A B C k : ℕ} (v : View sig .tc sp (⟨3, ![A, B, C]⟩ : Shape) e) (f : v.ty.Contents (Elt Ideal))

/-- The newest store of one row of a three-axis array, read inside. -/
theorem hit3 {off : Fin 3 → ℕ} {inb} (w : (⟨3, ![1, 1, k]⟩ : Shape).Idx → Elt Ideal e) (L : List (View.Piece (Elt Ideal) (⟨3, ![A, B, C]⟩ : Shape) e)) (y : (⟨3, ![A, B, C]⟩ : Shape).Idx)
    {a b o : ℕ} (hoff : off = ![a, b, o]) (h0 : (y 0).val = a) (h1 : (y 1).val = b) (q : Fin k) (h2 : (y 2).val = o + q.val) :
    v.read (Elt Ideal) (v.writes (Elt Ideal) f (⟨Rect.unit (s := (⟨3, ![A, B, C]⟩ : Shape)) off ![1, 1, k] inb, w⟩ :: L)) y = w (ix3 0 0 q) := by
  subst hoff
  refine View.read_writes_cons_hit_of_coords v f (Rect.unit (s := (⟨3, ![A, B, C]⟩ : Shape)) _ ![1, 1, k] inb) w L (ix3 0 0 q) y fun x => ?_
  match x with
  | 0 => show (y 0).val = a + 1 * 0; omega
  | 1 => show (y 1).val = b + 1 * 0; omega
  | 2 => show (y 2).val = o + 1 * q.val; omega

/-- The newest store of one row of a three-axis array, read outside. -/
theorem miss3 {off : Fin 3 → ℕ} {inb} (w : (⟨3, ![1, 1, k]⟩ : Shape).Idx → Elt Ideal e) (L : List (View.Piece (Elt Ideal) (⟨3, ![A, B, C]⟩ : Shape) e)) (y : (⟨3, ![A, B, C]⟩ : Shape).Idx)
    {a b o : ℕ} (hoff : off = ![a, b, o]) (h : (y 0).val ≠ a ∨ (y 1).val ≠ b ∨ (y 2).val < o ∨ o + k ≤ (y 2).val) :
    v.read (Elt Ideal) (v.writes (Elt Ideal) f (⟨Rect.unit (s := (⟨3, ![A, B, C]⟩ : Shape)) off ![1, 1, k] inb, w⟩ :: L)) y = v.read (Elt Ideal) (v.writes (Elt Ideal) f L) y := by
  subst hoff
  rcases h with h | h | h
  · exact View.read_writes_cons_miss_of_axis v f _ L y 0 a 1 rfl rfl rfl (by omega)
  · exact View.read_writes_cons_miss_of_axis v f _ L y 1 b 1 rfl rfl rfl (by omega)
  · exact View.read_writes_cons_miss_of_axis v f _ L y 2 o k rfl rfl rfl (by omega)
end Stores

theorem off1_eq : ∀ i : grid0.Coords, ∀ q : Fin 3, k0_off1 i (BitVec.ofNat 32 q.val) = ![(3 * (i 0).val + q.val) / 5, (3 * (i 0).val + q.val) % 5, 0] := by
  decide +kernel

variable (c : Dev nD) (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

set_option maxHeartbeats 4000000 in
/-- What a step writes into window 12. -/
theorem rest_w12 (y13 : Vec Ideal S3x5x5120 .f32) (y14 : Vec Ideal S3x5x512 .f32) :
    (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.1 = arg13.view.writes (Elt Ideal) arg13.view.junk (restRun.sl.H12_10 (F := Ideal) i arg1 harg1 arg2 harg2 arg5 harg5 arg6 harg6 arg7 harg7 arg8 harg8 arg9 harg9 arg10 harg10 arg11 harg11 arg12 harg12 arg18 harg18 arg19 arg20 arg21 x0 x1 x4 x5 x6 x7 x8 x9 x10 x11 x17) := rfl

set_option maxHeartbeats 4000000 in
/-- What a step writes into window 13. -/
theorem rest_w13 (y13 : Vec Ideal S3x5x5120 .f32) (y14 : Vec Ideal S3x5x512 .f32) :
    (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.2.1 = arg14.view.writes (Elt Ideal) (harg14.unread y13) (restRun.sl.H13_30 (F := Ideal) i arg1 harg1 arg2 harg2 arg5 harg5 arg6 harg6 arg7 harg7 arg8 harg8 arg9 harg9 arg10 harg10 arg18 harg18 arg19 arg21 x0 x1 x4 x5 x6 x7 x8 x9 x17) := rfl

set_option maxHeartbeats 4000000 in
/-- What a step writes into window 14. -/
theorem rest_w14 (y13 : Vec Ideal S3x5x5120 .f32) (y14 : Vec Ideal S3x5x512 .f32) :
    (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.2.2.1 = arg15.view.writes (Elt Ideal) (harg15.unread y14) (restRun.sl.H14_3 (F := Ideal) i arg1 harg1 arg2 harg2 arg8 harg8 arg18 harg18 arg19 x0 x1 x7 x17) := rfl

set_option maxHeartbeats 4000000 in
/-- What a step writes into window 15. -/
theorem rest_w15 (y13 : Vec Ideal S3x5x5120 .f32) (y14 : Vec Ideal S3x5x512 .f32) :
    (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.2.2.2.1 = arg16.view.writes (Elt Ideal) arg16.view.junk (restRun.sl.H15_5 (F := Ideal) i arg1 harg1 arg2 harg2 arg5 harg5 arg6 harg6 arg7 harg7 arg8 harg8 arg9 harg9 arg18 harg18 arg19 arg21 x0 x1 x4 x5 x6 x7 x8 x17) := rfl

set_option maxHeartbeats 4000000 in
/-- What a step writes into window 16. -/
theorem rest_w16 (y13 : Vec Ideal S3x5x5120 .f32) (y14 : Vec Ideal S3x5x512 .f32) :
    (restRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x17 y13 y14).1.2.2.2.2 = arg17.view.writes (Elt Ideal) arg17.view.junk (restRun.sl.H16_5 (F := Ideal) i arg1 harg1 arg2 harg2 arg5 harg5 arg6 harg6 arg7 harg7 arg8 harg8 arg9 harg9 arg18 harg18 arg19 arg21 x0 x1 x4 x5 x6 x7 x8 x17) := rfl

/-- A step's stores of the latent gain's gradient: its own three groups' sums, the others as found. -/
theorem dng_left (tk : ℕ → Row) (s : ℕ) (hs : (i 0).val = s) (hrow : ∀ r < 384, row i x0 x1 x4 x5 x6 x7 x8 x9 x10 x11 x17 r = tk (384 * s + r)) (f : arg15.view.ty.Contents (Elt Ideal)) (y : S3x5x512.Idx) :
    arg15.view.read (Elt Ideal) (arg15.view.writes (Elt Ideal) f (restRun.sl.H14_3 (F := Ideal) i arg1 harg1 arg2 harg2 arg8 harg8 arg18 harg18 arg19 x0 x1 x7 x17)) y
      = if (5 * (y 0).val + (y 1).val) / 3 = s then ∑ a : Fin 128, (tk (128 * (5 * (y 0).val + (y 1).val) + a)).dgp (y 2).val else arg15.view.read (Elt Ideal) f y := by
  have hy0 : (y 0).val < 3 := (y 0).isLt
  have hy1 : (y 1).val < 5 := (y 1).isLt
  have hy2 : (y 2).val < 512 := (y 2).isLt
  have e0 : k0_off1 i 0#32 = ![(3 * s + 0) / 5, (3 * s + 0) % 5, 0] := hs ▸ off1_eq i 0
  have e1 : k0_off1 i 1#32 = ![(3 * s + 1) / 5, (3 * s + 1) % 5, 0] := hs ▸ off1_eq i 1
  have e2 : k0_off1 i 2#32 = ![(3 * s + 2) / 5, (3 * s + 2) % 5, 0] := hs ▸ off1_eq i 2
  have gs (q : ℕ) (hq : q ≤ 256) (n : ℕ) (hn : 128 * n = 384 * s + q) : ∑ a : Fin 128, (row i x0 x1 x4 x5 x6 x7 x8 x9 x10 x11 x17 (q + a)).dgp (y 2).val = ∑ a : Fin 128, (tk (128 * n + a)).dgp (y 2).val :=
    Finset.sum_congr rfl fun a _ => by
      have ha := a.isLt
      rw [hrow (q + a) (by omega), hn, Nat.add_assoc]
  unfold restRun.sl.H14_3 restRun.sl.H14_2 restRun.sl.H14_1
  split
  · rename_i h
    obtain h | h | h : 5 * (y 0).val + (y 1).val = 3 * s + 2 ∨ 5 * (y 0).val + (y 1).val = 3 * s + 1 ∨ 5 * (y 0).val + (y 1).val = 3 * s := by omega
    · refine (hit3 _ _ _ _ y e2 (by omega) (by omega) (y 2) (by omega)).trans ((dng2_eq i arg1 harg1 arg2 harg2 arg8 harg8 arg18 harg18 arg19 x0 x1 x4 x5 x6 x7 x8 x9 x10 x11 x17 (y 2)).trans ?_)
      exact gs 256 (by omega) _ (by omega)
    · refine (miss3 _ _ _ _ y e2 (by omega)).trans ((hit3 _ _ _ _ y e1 (by omega) (by omega) (y 2) (by omega)).trans ((dng1_eq i arg1 harg1 arg2 harg2 arg8 harg8 arg18 harg18 arg19 x0 x1 x4 x5 x6 x7 x8 x9 x10 x11 x17 (y 2)).trans ?_))
      exact gs 128 (by omega) _ (by omega)
    · refine (miss3 _ _ _ _ y e2 (by omega)).trans ((miss3 _ _ _ _ y e1 (by omega)).trans ((hit3 _ _ _ _ y e0 (by omega) (by omega) (y 2) (by omega)).trans ((dng0_eq i arg1 harg1 arg2 harg2 arg8 harg8 arg18 harg18 arg19 x0 x1 x4 x5 x6 x7 x8 x9 x10 x11 x17 (y 2)).trans ?_)))
      exact gs 0 (by omega) _ (by omega)
  · rename_i h
    exact (miss3 _ _ _ _ y e2 (by omega)).trans ((miss3 _ _ _ _ y e1 (by omega)).trans (miss3 _ _ _ _ y e0 (by omega)))

end Cert.KernelIdeal.Val
-- ==== Proof.Arrays.lean ====
/-
  What the kernel's steps leave of the latent gain's gradient, and the array at the end.
-/
module

public import proofs.«01_k».proof.Proof.RefArrays
public import proofs.«01_k».proof.Proof.Left

@[expose] public section

set_option maxRecDepth 16384

noncomputable section

namespace Cert.Tokens

open Idealize.ShloMosaic Idealize.ShloMosaic.TcCoe Idealize.ShloMosaic.Tactic Cert.Spec
open Idealize.SL Idealize.SL.Sem
open Cert.KernelIdeal Cert.KernelIdeal.Gen Cert.KernelIdeal.Body Cert.KernelIdeal.Track Cert.KernelIdeal.Val Cert.KernelIdeal.Link

variable (m : (ℓ : Loc nD τ sig) → Buf (Elt Ideal) ℓ) (c : Dev nD)

/-- The latent gain's gradient by token groups. -/
theorem dngArr_eq (f : ℕ → Row) (y : S3x5x512.Idx) : dngArr f y = ∑ a : Fin 128, (f (128 * (5 * (y 0).val + (y 1).val) + a)).dgp (y 2).val :=
  Finset.sum_congr rfl fun a _ => by
    rw [show (y 0).val * 640 + (y 1).val * 128 + a.val = 128 * (5 * (y 0).val + (y 1).val) + a.val by omega]

/-- What a point writes into window 14. -/
theorem restAt_w14 (t : Fin cfg0.N) (y13 : Vec Ideal S3x5x5120 .f32) (Y : Vec Ideal S3x5x512 .f32) :
    (restAt m c t (wsc m c) y13 Y).1.2.2.1 = (win0_14.stage (cfg0.slots t 14)).view.writes (Elt Ideal) ((hstage0_14 ((cfg0.slots t 14).cast nbuf0_14)).unread Y) (restRun.sl.H14_3 (F := Ideal) (grid0.coords t) (win0_0.stage (cfg0.slots t 0)) (hstage0_0 ((cfg0.slots t 0).cast nbuf0_0)) (win0_1.stage (cfg0.slots t 1)) (hstage0_1 ((cfg0.slots t 1).cast nbuf0_1)) (win0_7.stage (cfg0.slots t 7)) (hstage0_7 ((cfg0.slots t 7).cast nbuf0_7)) (Memref.whole cc0_scratch0) (Memref.isWhole_whole _) (Memref.whole cc0_scratch1) (iblk m c 0 t) (iblk m c 1 t) (iblk m c 7 t) (wsc m c)) :=
  rest_w14 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (wsc m c) y13 Y

/-- What a point leaves of the latent gain's gradient: its own three groups, the others as found. -/
theorem dng_step (t : Fin cfg0.N) (y13 : Vec Ideal S3x5x5120 .f32) (Y : Vec Ideal S3x5x512 .f32) (y : S3x5x512.Idx) :
    (ms14 t).view.read (Elt Ideal) (restAt m c t (wsc m c) y13 Y).1.2.2.1 y
      = if (5 * (y 0).val + (y 1).val) / 3 = t.val then dngArr (tok m c) y else Y y := by
  have h := dng_left (grid0.coords t) (win0_0.stage (cfg0.slots t 0)) (hstage0_0 ((cfg0.slots t 0).cast nbuf0_0)) (win0_1.stage (cfg0.slots t 1)) (hstage0_1 ((cfg0.slots t 1).cast nbuf0_1)) (win0_7.stage (cfg0.slots t 7)) (hstage0_7 ((cfg0.slots t 7).cast nbuf0_7)) (win0_14.stage (cfg0.slots t 14)) (Memref.whole cc0_scratch0) (Memref.isWhole_whole _) (Memref.whole cc0_scratch1) (iblk m c 0 t) (iblk m c 1 t) (iblk m c 4 t) (iblk m c 5 t) (iblk m c 6 t) (iblk m c 7 t) (iblk m c 8 t) (iblk m c 9 t) (iblk m c 10 t) (iblk m c 11 t) (wsc m c) (tok m c) t.val (coords_val t) (fun r hr => krow_eq m c t r hr) ((hstage0_14 ((cfg0.slots t 14).cast nbuf0_14)).unread Y) y
  rw [show (win0_14.stage (cfg0.slots t 14)).view.read (Elt Ideal) ((hstage0_14 ((cfg0.slots t 14).cast nbuf0_14)).unread Y) y = Y y from congrFun ((hstage0_14 ((cfg0.slots t 14).cast nbuf0_14)).read_unread Y) y] at h
  refine (congrArg (fun W => (ms14 t).view.read (Elt Ideal) W y) (restAt_w14 m c t y13 Y)).trans ?_
  rw [dngArr_eq]
  unfold ms14
  exact h

/-- What the data say a point leaves in window 14. -/
theorem after14 (t : Fin cfg0.N) (Y X) (h : (rdat m c).after 14 t Y X) : ∃ y13, X = (ms14 t).view.read (Elt Ideal) (restAt m c t (wsc m c) y13 Y).1.2.2.1 := h

/-- After a point, its own and the earlier points' groups hold their sums. -/
theorem dng_leaves (n : ℕ) : ∀ (t : Fin cfg0.N), t.val = n → ∀ X, (rdat m c).Leaves 14 t X → ∀ y : S3x5x512.Idx, (5 * (y 0).val + (y 1).val) / 3 ≤ t.val →
    (X : Vec Ideal S3x5x512 .f32) y = dngArr (tok m c) y := by
  induction n with
  | zero =>
    intro t ht X ⟨Y, hY, hA⟩ y hy
    obtain ⟨y13, rfl⟩ := after14 m c t Y X hA
    refine (dng_step m c t y13 Y y).trans (if_pos (by omega))
  | succ n ih =>
    intro t ht X ⟨Y, hY, hA⟩ y hy
    obtain ⟨y13, rfl⟩ := after14 m c t Y X hA
    refine (dng_step m c t y13 Y y).trans ?_
    split
    · rfl
    · rename_i h
      have hN : t.val < 5 := by have := t.isLt; simpa [show cfg0.N = 5 from N_0] using this
      rcases ((rdat m c).finds_of_pos (w := 14) (t := t) rfl (by omega) Y).1 hY with hf | hl
      · exact absurd ((flush0_14 _).1 hf) (by show ¬ (t.val - 1) % 5 = 4; omega)
      · exact ih _ (by show t.val - 1 = n; omega) Y hl y (by show _ ≤ t.val - 1; omega)

/-- The last point. -/
def tLast : Fin cfg0.N := ⟨4, by rw [show cfg0.N = 5 from N_0]; decide⟩

/-- Result 3 of the kernel. -/
theorem ker14 (G) (h : (rdat m c).ArrAt 14 cfg0.N G) : G = dngArr (tok m c) := by
  obtain ⟨X, hX, hG⟩ := Pipeline.RDat.ArrAt.emb_eq_of_wholeAt h (t₀ := tLast) (by decide +kernel)
  funext j
  have e := hG j
  refine e.trans (dng_leaves m c 4 tLast rfl X hX j ?_)
  have hy0 : (j 0).val < 3 := (j 0).isLt
  have hy1 : (j 1).val < 5 := (j 1).isLt
  show _ ≤ 4
  omega

end Cert.Tokens
-- ==== Proof.Trig.lean ====
/-
  Picking the sine and the cosine by two bits of the quadrant, and by its value, are the same.
-/
module

public import proofs.«01_k».proof.Proof.Spec

@[expose] public section

noncomputable section

namespace Cert.Spec

open Idealize.ShloMosaic

/-- The sine from its polynomials at a quadrant, picked by bits. -/
def sinB (q : BitVec 32) (s c : EReal) : EReal :=
  Scalar.select (IntOp.cmpi .ne (IntOp.shli ArithUnit.vector (IntOp.andi q 2#32) 30#32) 0#32)
    (0 - Scalar.select (IntOp.cmpi .eq (IntOp.andi q 1#32) 1#32) c s) (Scalar.select (IntOp.cmpi .eq (IntOp.andi q 1#32) 1#32) c s)
/-- The cosine. -/
def cosB (q : BitVec 32) (s c : EReal) : EReal :=
  Scalar.select (IntOp.cmpi .ne (IntOp.shli ArithUnit.vector (IntOp.andi (IntOp.addi q 1#32) 2#32) 30#32) 0#32)
    (0 - Scalar.select (IntOp.cmpi .eq (IntOp.andi q 1#32) 1#32) s c) (Scalar.select (IntOp.cmpi .eq (IntOp.andi q 1#32) 1#32) s c)

theorem low_bits (q : BitVec 32) : ∃ k : Fin 4, IntOp.andi q 3#32 = BitVec.ofNat 32 k ∧ IntOp.andi q 2#32 = BitVec.ofNat 32 k &&& 2#32
    ∧ IntOp.andi q 1#32 = BitVec.ofNat 32 k &&& 1#32 ∧ IntOp.andi (IntOp.addi q 1#32) 2#32 = (BitVec.ofNat 32 k + 1#32) &&& 2#32 := by
  have h3 : q &&& 3#32 = BitVec.ofNat 32 (q.toNat % 4) := by
    apply BitVec.eq_of_toNat_eq
    rw [BitVec.toNat_and, BitVec.toNat_ofNat, BitVec.toNat_ofNat, show 3 % 2 ^ 32 = 2 ^ 2 - 1 from rfl, Nat.and_two_pow_sub_one_eq_mod]
    omega
  have hq : (q + 1#32) &&& 3#32 = (BitVec.ofNat 32 (q.toNat % 4) + 1#32) &&& 3#32 := by
    apply BitVec.eq_of_toNat_eq
    rw [BitVec.toNat_and, BitVec.toNat_and, BitVec.toNat_add, BitVec.toNat_add, BitVec.toNat_ofNat, BitVec.toNat_ofNat, BitVec.toNat_ofNat,
      show 3 % 2 ^ 32 = 2 ^ 2 - 1 from rfl, Nat.and_two_pow_sub_one_eq_mod, Nat.and_two_pow_sub_one_eq_mod]
    omega
  have e2 (x : BitVec 32) : x &&& 2#32 = (x &&& 3#32) &&& 2#32 := by rw [BitVec.and_assoc]; rfl
  have e1 (x : BitVec 32) : x &&& 1#32 = (x &&& 3#32) &&& 1#32 := by rw [BitVec.and_assoc]; rfl
  refine ⟨⟨q.toNat % 4, Nat.mod_lt _ (by decide)⟩, h3, ?_, ?_, ?_⟩
  · exact (e2 q).trans (by rw [h3])
  · exact (e1 q).trans (by rw [h3])
  · exact (e2 (q + 1#32)).trans (by rw [hq, ← e2])

theorem sinB_eq (q : BitVec 32) (s c : EReal) : sinB q s c =
    Scalar.select (IntOp.cmpi .eq (IntOp.andi q 3#32) 0#32) s (Scalar.select (IntOp.cmpi .eq (IntOp.andi q 3#32) 1#32) c
      (Scalar.select (IntOp.cmpi .eq (IntOp.andi q 3#32) 2#32) (0 - s) (0 - c))) := by
  obtain ⟨k, h3, h2, h1, hp⟩ := low_bits q
  unfold sinB
  rw [h3, h2, h1]
  match k with
  | 0 => rfl
  | 1 => rfl
  | 2 => rfl
  | 3 => rfl

theorem cosB_eq (q : BitVec 32) (s c : EReal) : cosB q s c =
    Scalar.select (IntOp.cmpi .eq (IntOp.andi q 3#32) 0#32) c (Scalar.select (IntOp.cmpi .eq (IntOp.andi q 3#32) 1#32) (0 - s)
      (Scalar.select (IntOp.cmpi .eq (IntOp.andi q 3#32) 2#32) (0 - c) s)) := by
  obtain ⟨k, h3, h2, h1, hp⟩ := low_bits q
  unfold cosB
  rw [h3, h1, hp]
  match k with
  | 0 => rfl
  | 1 => rfl
  | 2 => rfl
  | 3 => rfl

/-- The sine of an angle, its quadrant picked by bits. -/
theorem sinA_bits (a : EReal) : sinB (FloatOps.fptosi (F := Ideal) (φ := FTy.f32) 32 (quad a)) (sinP (rem a)) (cosP (rem a)) = sinA a := sinB_eq _ _ _
theorem cosA_bits (a : EReal) : cosB (FloatOps.fptosi (F := Ideal) (φ := FTy.f32) 32 (quad a)) (sinP (rem a)) (cosP (rem a)) = cosA a := cosB_eq _ _ _

/-- The odd part of the rotation, its two terms in the other order. -/
theorem rot_odd (a b s c : EReal) : b * c - a * s = (0 - a) * s + b * c := by
  rw [zero_sub, EReal.neg_mul, sub_eq_add_neg, add_comm]

end Cert.Spec
-- ==== Proof.KvRope.lean ====
/-
  The rotated part of the gradient, entry by entry.
-/
module

public import proofs.«01_k».proof.Proof.KvLatent
public import proofs.«01_k».proof.Proof.Trig

@[expose] public section

set_option maxRecDepth 16384

noncomputable section

namespace Cert.KernelIdeal.Val

open Idealize.ShloMosaic Cert.Spec Cert.KernelIdeal Cert.KernelIdeal.Gen Cert.KernelIdeal.Body

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

/-- Where a step's token group's positions lie. -/
theorem off2_eq : ∀ i : grid0.Coords, ∀ q : Fin 3, k0_off2 i (BitVec.ofNat 32 q.val) = ![(3 * (i 0).val + q.val) / 5, (3 * (i 0).val + q.val) % 5, 0] := by
  decide +kernel

theorem pos_eq (q : Fin 3) (b : BitVec 32) (hb : b = BitVec.ofNat 32 q.val) (n : Fin 128) (h0) (h1) (h2) :
    x6 (ix3 ⟨k0_off2 i b 0, h0⟩ ⟨k0_off2 i b 1, h1⟩ ⟨k0_off2 i b 2 + n.val, h2⟩) = at3 x6 ((3 * (i 0).val + q.val) / 5) ((3 * (i 0).val + q.val) % 5) n.val := by
  subst hb
  have e := off2_eq i q
  have e2 := congrFun e 2
  refine (at3_eq x6 _ _ _).trans ?_
  show at3 x6 (k0_off2 i _ 0) (k0_off2 i _ 1) (k0_off2 i _ 2 + n.val) = _
  rw [e]
  exact congrArg (at3 x6 _ _) (Nat.zero_add _)

/-- The sines of token group 0. -/
theorem sin0_eq (j : Fin 32) (n : Fin 128) : restRun.sl.r_20 (F := Ideal) i arg6 harg6 arg7 harg7 x5 x6 (ix2 j n) = sinA (FloatOps.sitofp (F := Ideal) .f32 (at3 x6 ((3 * (i 0).val + 0) / 5) ((3 * (i 0).val + 0) % 5) n) * at2 x5 j 0) := by
  simp only [restRun.sl.r_20, restRun.sl.r_16, restRun.sl.r_17, restRun.sl.r_18, restRun.sl.r_19, readAt_unread_eq]
  unfold_payloads
  have hp (n : Fin 128) (h0) (h1) (h2) := pos_eq i x6 0 0#32 rfl n h0 h1 h2
  have hm : at2 x5 j 0 * FloatOps.sitofp (F := Ideal) .f32 (at3 x6 ((3 * (i 0).val + 0) / 5) ((3 * (i 0).val + 0) % 5) n) = FloatOps.sitofp (F := Ideal) .f32 (at3 x6 ((3 * (i 0).val + 0) / 5) ((3 * (i 0).val + 0) % 5) n) * at2 x5 j 0 := mul_comm _ _
  pointwise []
  simp only [hp, at2_eq x5]
  simp only [Fin.val_zero, Fin.val_one, Fin.val_two, Fin.isValue, hm]
  exact sinA_bits _

/-- The cosines of token group 0. -/
theorem cos0_eq (j : Fin 32) (n : Fin 128) : restRun.sl.r_21 (F := Ideal) i arg6 harg6 arg7 harg7 x5 x6 (ix2 j n) = cosA (FloatOps.sitofp (F := Ideal) .f32 (at3 x6 ((3 * (i 0).val + 0) / 5) ((3 * (i 0).val + 0) % 5) n) * at2 x5 j 0) := by
  simp only [restRun.sl.r_21, restRun.sl.r_16, restRun.sl.r_17, restRun.sl.r_18, restRun.sl.r_19, readAt_unread_eq]
  unfold_payloads
  have hp (n : Fin 128) (h0) (h1) (h2) := pos_eq i x6 0 0#32 rfl n h0 h1 h2
  have hm : at2 x5 j 0 * FloatOps.sitofp (F := Ideal) .f32 (at3 x6 ((3 * (i 0).val + 0) / 5) ((3 * (i 0).val + 0) % 5) n) = FloatOps.sitofp (F := Ideal) .f32 (at3 x6 ((3 * (i 0).val + 0) / 5) ((3 * (i 0).val + 0) % 5) n) * at2 x5 j 0 := mul_comm _ _
  pointwise []
  simp only [hp, at2_eq x5]
  simp only [Fin.val_zero, Fin.val_one, Fin.val_two, Fin.isValue, hm]
  exact cosA_bits _

/-- The gradient's rotated part of token group 0, its features along the rows. -/
theorem H20_1_agrees : Agrees (arr2 (e := .f32) (fun a b => at2 x8 (0 + b) a)) [(⟨Rect.unit (s := S64x128) ![0, 0] S64x128.size inb_S64x128_S64x128_0_0, k0_pay317 (restRun.sl.r_22 (F := Ideal) arg9 harg9 x8)⟩ : View.Piece (Elt Ideal) S64x128 .f32)] := by
  refine Agrees.cons_unit (fun a b => ?_) .nil
  simp only [restRun.sl.r_22, readAt_unread_eq]
  unfold_payloads
  pointwise []
  simp only [at2_eq x8]
  refine congrArg₂ (at2 x8) ?_ ?_ <;> first | omega | (simp only [Fin.coe_ofNat_eq_mod]; omega)

theorem H20_1_cover (y : S64x128.Idx) (w) : ∃ p ∈ [(⟨Rect.unit (s := S64x128) ![0, 0] S64x128.size inb_S64x128_S64x128_0_0, w⟩ : View.Piece (Elt Ideal) S64x128 .f32)], y ∈ p.1.set :=
  View.cover_of_tiledL [(⟨Rect.unit (s := S64x128) ![0, 0] S64x128.size inb_S64x128_S64x128_0_0, w⟩ : View.Piece (Elt Ideal) S64x128 .f32)] S64x128.size (by sl_kernel_rfl) y

theorem v704_eq (a : Fin 32) (b : Fin 128) : restRun.sl.v704 (F := Ideal) arg9 harg9 arg21 x8 (ix2 a b) = at2 x8 (0 + b) (0 + 2 * a) := by
  unfold restRun.sl.v704 restRun.sl.H20_1
  exact readCov_append_rows (e := .f32) (g := (fun a b => at2 x8 (0 + b) a)) (M := []) arg21.view (H20_1_agrees arg9 harg9 x8) (fun y => H20_1_cover y _) _ a b

theorem v705_eq (a : Fin 32) (b : Fin 128) : restRun.sl.v705 (F := Ideal) arg9 harg9 arg21 x8 (ix2 a b) = at2 x8 (0 + b) (1 + 2 * a) := by
  unfold restRun.sl.v705 restRun.sl.H20_1
  exact readCov_append_rows (e := .f32) (g := (fun a b => at2 x8 (0 + b) a)) (M := []) arg21.view (H20_1_agrees arg9 harg9 x8) (fun y => H20_1_cover y _) _ a b

/-- The rotated gradient of token group 0, its features along the rows. -/
theorem H20_3_agrees : Agrees (arr2 (e := .f32) (fun n b => (row i x0 x1 x4 x5 x6 x7 x8 x9 x10 x11 x17 (0 + b)).dkr n)) [(⟨{ off := ![1, 0], size := S32x128.size, stride := ![2, 1], inb := inb_S64x128_S32x128_1_0_s_2_1, stride_pos := spos_2_1 }, k0_pay319 (restRun.sl.r_20 (F := Ideal) i arg6 harg6 arg7 harg7 x5 x6) (restRun.sl.r_21 (F := Ideal) i arg6 harg6 arg7 harg7 x5 x6) (restRun.sl.v704 (F := Ideal) arg9 harg9 arg21 x8) (restRun.sl.v705 (F := Ideal) arg9 harg9 arg21 x8)⟩ : View.Piece (Elt Ideal) S64x128 .f32), ⟨{ off := ![0, 0], size := S32x128.size, stride := ![2, 1], inb := inb_S64x128_S32x128_0_0_s_2_1, stride_pos := spos_2_1 }, k0_pay318 (restRun.sl.r_20 (F := Ideal) i arg6 harg6 arg7 harg7 x5 x6) (restRun.sl.r_21 (F := Ideal) i arg6 harg6 arg7 harg7 x5 x6) (restRun.sl.v704 (F := Ideal) arg9 harg9 arg21 x8) (restRun.sl.v705 (F := Ideal) arg9 harg9 arg21 x8)⟩] := by
  have hs (j : Fin 32) (n : Fin 128) := sin0_eq i arg6 harg6 arg7 harg7 x5 x6 j n
  have hc (j : Fin 32) (n : Fin 128) := cos0_eq i arg6 harg6 arg7 harg7 x5 x6 j n
  have he (a : Fin 32) (b : Fin 128) := v704_eq arg9 harg9 arg21 x8 a b
  have ho (a : Fin 32) (b : Fin 128) := v705_eq arg9 harg9 arg21 x8 a b
  refine Agrees.cons_rows (fun a b => ?_) (Agrees.cons_rows (fun a b => ?_) .nil)
  · pointwise [k0_pay319]
    simp only [hs, hc, he, ho]
    have e : (1 + 2 * a.val) / 2 = a.val := by omega
    have e2 : (1 + 2 * a.val) % 2 = 1 := by omega
    show _ = Row.dkr _ (1 + 2 * a.val)
    unfold Row.dkr
    rw [e, e2, if_neg (by decide), ← rot_odd]
    have hd : (0 + b.val) / 128 = 0 := by have := b.isLt; omega
    have hr : (0 + b.val) % 128 = b.val := by have := b.isLt; omega
    have hd' : b.val / 128 = 0 := by have := b.isLt; omega
    have hr' : b.val % 128 = b.val := by have := b.isLt; omega
    simp only [row, hd, hr]
    simp only [hd', hr', Nat.zero_add, Nat.mul_comm a.val 2, Nat.add_comm 1 (2 * a.val)]
  · pointwise [k0_pay318]
    simp only [hs, hc, he, ho]
    have e : (2 * a.val) / 2 = a.val := by omega
    have e2 : (2 * a.val) % 2 = 0 := by omega
    show _ = Row.dkr _ (2 * a.val)
    unfold Row.dkr
    rw [e, e2, if_pos (by decide)]
    have hd : (0 + b.val) / 128 = 0 := by have := b.isLt; omega
    have hr : (0 + b.val) % 128 = b.val := by have := b.isLt; omega
    have hd' : b.val / 128 = 0 := by have := b.isLt; omega
    have hr' : b.val % 128 = b.val := by have := b.isLt; omega
    simp only [row, hd, hr]
    simp only [hd', hr', Nat.zero_add, Nat.mul_comm a.val 2, Nat.add_comm 1 (2 * a.val)]

theorem H20_3_cover (y : S64x128.Idx) (u w) : ∃ p ∈ [(⟨{ off := ![1, 0], size := S32x128.size, stride := ![2, 1], inb := inb_S64x128_S32x128_1_0_s_2_1, stride_pos := spos_2_1 }, u⟩ : View.Piece (Elt Ideal) S64x128 .f32), ⟨{ off := ![0, 0], size := S32x128.size, stride := ![2, 1], inb := inb_S64x128_S32x128_0_0_s_2_1, stride_pos := spos_2_1 }, w⟩], y ∈ p.1.set := by
  have h0 : (y 0).val < 64 := (y 0).isLt
  have h1 : (y 1).val < 128 := (y 1).isLt
  by_cases hp : (y 0).val % 2 = 1
  · refine ⟨_, List.mem_cons_self .., (LoadRect.mem_set _).2 fun a => ?_⟩
    match a with
    | 0 => exact ⟨(y 0).val / 2, by show _ < 32; omega, by show (y 0).val = 1 + 2 * ((y 0).val / 2); omega⟩
    | 1 => exact ⟨(y 1).val, h1, by show (y 1).val = 0 + 1 * (y 1).val; omega⟩
  · refine ⟨_, List.mem_cons_of_mem _ (List.mem_cons_self ..), (LoadRect.mem_set _).2 fun a => ?_⟩
    match a with
    | 0 => exact ⟨(y 0).val / 2, by show _ < 32; omega, by show (y 0).val = 0 + 2 * ((y 0).val / 2); omega⟩
    | 1 => exact ⟨(y 1).val, h1, by show (y 1).val = 0 + 1 * (y 1).val; omega⟩

theorem v718_eq (a : Fin 64) (b : Fin 128) : restRun.sl.v718 (F := Ideal) i arg6 harg6 arg7 harg7 arg9 harg9 arg21 x5 x6 x8 (ix2 a b) = (row i x0 x1 x4 x5 x6 x7 x8 x9 x10 x11 x17 (0 + b)).dkr a := by
  unfold restRun.sl.v718 restRun.sl.H20_3
  refine (readCov_append_unit (e := .f32) (g := (fun n b => (row i x0 x1 x4 x5 x6 x7 x8 x9 x10 x11 x17 (0 + b)).dkr n)) (M := restRun.sl.H20_1 (F := Ideal) arg9 harg9 x8) arg21.view (H20_3_agrees i arg6 harg6 arg7 harg7 arg9 harg9 arg21 x0 x1 x4 x5 x6 x7 x8 x9 x10 x11 x17) (fun y => H20_3_cover y _ _) _ a b).trans ?_
  simp only [Nat.zero_add]

/-- The sines of token group 1. -/
theorem sin1_eq (j : Fin 32) (n : Fin 128) : restRun.sl.r_29 (F := Ideal) i arg6 harg6 arg7 harg7 x5 x6 (ix2 j n) = sinA (FloatOps.sitofp (F := Ideal) .f32 (at3 x6 ((3 * (i 0).val + 1) / 5) ((3 * (i 0).val + 1) % 5) n) * at2 x5 j 0) := by
  simp only [restRun.sl.r_29, restRun.sl.r_24, restRun.sl.r_25, restRun.sl.r_26, restRun.sl.r_27, restRun.sl.r_28, restRun.sl.cst_262, readAt_unread_eq]
  unfold_payloads
  have hp (n : Fin 128) (h0) (h1) (h2) := pos_eq i x6 1 1#32 rfl n h0 h1 h2
  have hm : at2 x5 j 0 * FloatOps.sitofp (F := Ideal) .f32 (at3 x6 ((3 * (i 0).val + 1) / 5) ((3 * (i 0).val + 1) % 5) n) = FloatOps.sitofp (F := Ideal) .f32 (at3 x6 ((3 * (i 0).val + 1) / 5) ((3 * (i 0).val + 1) % 5) n) * at2 x5 j 0 := mul_comm _ _
  pointwise []
  simp only [hp, at2_eq x5]
  simp only [Fin.val_zero, Fin.val_one, Fin.val_two, Fin.isValue, hm]
  exact sinA_bits _

/-- The cosines of token group 1. -/
theorem cos1_eq (j : Fin 32) (n : Fin 128) : restRun.sl.r_30 (F := Ideal) i arg6 harg6 arg7 harg7 x5 x6 (ix2 j n) = cosA (FloatOps.sitofp (F := Ideal) .f32 (at3 x6 ((3 * (i 0).val + 1) / 5) ((3 * (i 0).val + 1) % 5) n) * at2 x5 j 0) := by
  simp only [restRun.sl.r_30, restRun.sl.r_24, restRun.sl.r_25, restRun.sl.r_26, restRun.sl.r_27, restRun.sl.r_28, restRun.sl.cst_262, readAt_unread_eq]
  unfold_payloads
  have hp (n : Fin 128) (h0) (h1) (h2) := pos_eq i x6 1 1#32 rfl n h0 h1 h2
  have hm : at2 x5 j 0 * FloatOps.sitofp (F := Ideal) .f32 (at3 x6 ((3 * (i 0).val + 1) / 5) ((3 * (i 0).val + 1) % 5) n) = FloatOps.sitofp (F := Ideal) .f32 (at3 x6 ((3 * (i 0).val + 1) / 5) ((3 * (i 0).val + 1) % 5) n) * at2 x5 j 0 := mul_comm _ _
  pointwise []
  simp only [hp, at2_eq x5]
  simp only [Fin.val_zero, Fin.val_one, Fin.val_two, Fin.isValue, hm]
  exact cosA_bits _

/-- The gradient's rotated part of token group 1, its features along the rows. -/
theorem H20_4_agrees : Agrees (arr2 (e := .f32) (fun a b => at2 x8 (128 + b) a)) [(⟨Rect.unit (s := S64x128) ![0, 0] S64x128.size inb_S64x128_S64x128_0_0, k0_pay333 (View.readAt (Elt Ideal) arg9.view (Rect.unit (s := S384x64) ![128, 0] S128x64.size inb_S384x64_S128x64_128_0).toLoadRect (harg9.unread x8))⟩ : View.Piece (Elt Ideal) S64x128 .f32)] := by
  refine Agrees.cons_unit (fun a b => ?_) .nil
  simp only [readAt_unread_eq]
  unfold_payloads
  pointwise []
  simp only [at2_eq x8]
  refine congrArg₂ (at2 x8) ?_ ?_ <;> first | omega | (simp only [Fin.coe_ofNat_eq_mod]; omega)

theorem H20_4_cover (y : S64x128.Idx) (w) : ∃ p ∈ [(⟨Rect.unit (s := S64x128) ![0, 0] S64x128.size inb_S64x128_S64x128_0_0, w⟩ : View.Piece (Elt Ideal) S64x128 .f32)], y ∈ p.1.set :=
  View.cover_of_tiledL [(⟨Rect.unit (s := S64x128) ![0, 0] S64x128.size inb_S64x128_S64x128_0_0, w⟩ : View.Piece (Elt Ideal) S64x128 .f32)] S64x128.size (by sl_kernel_rfl) y

theorem v832_eq (a : Fin 32) (b : Fin 128) : restRun.sl.v832 (F := Ideal) i arg6 harg6 arg7 harg7 arg9 harg9 arg21 x5 x6 x8 (ix2 a b) = at2 x8 (128 + b) (0 + 2 * a) := by
  unfold restRun.sl.v832 restRun.sl.H20_4
  exact readCov_append_rows (e := .f32) (g := (fun a b => at2 x8 (128 + b) a)) (M := restRun.sl.H20_3 (F := Ideal) i arg6 harg6 arg7 harg7 arg9 harg9 arg21 x5 x6 x8) arg21.view (H20_4_agrees arg9 harg9 x8) (fun y => H20_4_cover y _) _ a b

theorem v833_eq (a : Fin 32) (b : Fin 128) : restRun.sl.v833 (F := Ideal) i arg6 harg6 arg7 harg7 arg9 harg9 arg21 x5 x6 x8 (ix2 a b) = at2 x8 (128 + b) (1 + 2 * a) := by
  unfold restRun.sl.v833 restRun.sl.H20_4
  exact readCov_append_rows (e := .f32) (g := (fun a b => at2 x8 (128 + b) a)) (M := restRun.sl.H20_3 (F := Ideal) i arg6 harg6 arg7 harg7 arg9 harg9 arg21 x5 x6 x8) arg21.view (H20_4_agrees arg9 harg9 x8) (fun y => H20_4_cover y _) _ a b

/-- The rotated gradient of token group 1, its features along the rows. -/
theorem H20_6_agrees : Agrees (arr2 (e := .f32) (fun n b => (row i x0 x1 x4 x5 x6 x7 x8 x9 x10 x11 x17 (128 + b)).dkr n)) [(⟨{ off := ![1, 0], size := S32x128.size, stride := ![2, 1], inb := inb_S64x128_S32x128_1_0_s_2_1, stride_pos := spos_2_1 }, k0_pay335 (restRun.sl.r_29 (F := Ideal) i arg6 harg6 arg7 harg7 x5 x6) (restRun.sl.r_30 (F := Ideal) i arg6 harg6 arg7 harg7 x5 x6) (restRun.sl.v832 (F := Ideal) i arg6 harg6 arg7 harg7 arg9 harg9 arg21 x5 x6 x8) (restRun.sl.v833 (F := Ideal) i arg6 harg6 arg7 harg7 arg9 harg9 arg21 x5 x6 x8)⟩ : View.Piece (Elt Ideal) S64x128 .f32), ⟨{ off := ![0, 0], size := S32x128.size, stride := ![2, 1], inb := inb_S64x128_S32x128_0_0_s_2_1, stride_pos := spos_2_1 }, k0_pay334 (restRun.sl.r_29 (F := Ideal) i arg6 harg6 arg7 harg7 x5 x6) (restRun.sl.r_30 (F := Ideal) i arg6 harg6 arg7 harg7 x5 x6) (restRun.sl.v832 (F := Ideal) i arg6 harg6 arg7 harg7 arg9 harg9 arg21 x5 x6 x8) (restRun.sl.v833 (F := Ideal) i arg6 harg6 arg7 harg7 arg9 harg9 arg21 x5 x6 x8)⟩] := by
  have hs (j : Fin 32) (n : Fin 128) := sin1_eq i arg6 harg6 arg7 harg7 x5 x6 j n
  have hc (j : Fin 32) (n : Fin 128) := cos1_eq i arg6 harg6 arg7 harg7 x5 x6 j n
  have he (a : Fin 32) (b : Fin 128) := v832_eq i arg6 harg6 arg7 harg7 arg9 harg9 arg21 x5 x6 x8 a b
  have ho (a : Fin 32) (b : Fin 128) := v833_eq i arg6 harg6 arg7 harg7 arg9 harg9 arg21 x5 x6 x8 a b
  refine Agrees.cons_rows (fun a b => ?_) (Agrees.cons_rows (fun a b => ?_) .nil)
  · pointwise [k0_pay335]
    simp only [hs, hc, he, ho]
    have e : (1 + 2 * a.val) / 2 = a.val := by omega
    have e2 : (1 + 2 * a.val) % 2 = 1 := by omega
    show _ = Row.dkr _ (1 + 2 * a.val)
    unfold Row.dkr
    rw [e, e2, if_neg (by decide), ← rot_odd]
    have hd : (128 + b.val) / 128 = 1 := by have := b.isLt; omega
    have hr : (128 + b.val) % 128 = b.val := by have := b.isLt; omega
    have hd' : b.val / 128 = 0 := by have := b.isLt; omega
    have hr' : b.val % 128 = b.val := by have := b.isLt; omega
    simp only [row, hd, hr]
    simp only [hd', hr', Nat.zero_add, Nat.mul_comm a.val 2, Nat.add_comm 1 (2 * a.val)]
  · pointwise [k0_pay334]
    simp only [hs, hc, he, ho]
    have e : (2 * a.val) / 2 = a.val := by omega
    have e2 : (2 * a.val) % 2 = 0 := by omega
    show _ = Row.dkr _ (2 * a.val)
    unfold Row.dkr
    rw [e, e2, if_pos (by decide)]
    have hd : (128 + b.val) / 128 = 1 := by have := b.isLt; omega
    have hr : (128 + b.val) % 128 = b.val := by have := b.isLt; omega
    have hd' : b.val / 128 = 0 := by have := b.isLt; omega
    have hr' : b.val % 128 = b.val := by have := b.isLt; omega
    simp only [row, hd, hr]
    simp only [hd', hr', Nat.zero_add, Nat.mul_comm a.val 2, Nat.add_comm 1 (2 * a.val)]

theorem H20_6_cover (y : S64x128.Idx) (u w) : ∃ p ∈ [(⟨{ off := ![1, 0], size := S32x128.size, stride := ![2, 1], inb := inb_S64x128_S32x128_1_0_s_2_1, stride_pos := spos_2_1 }, u⟩ : View.Piece (Elt Ideal) S64x128 .f32), ⟨{ off := ![0, 0], size := S32x128.size, stride := ![2, 1], inb := inb_S64x128_S32x128_0_0_s_2_1, stride_pos := spos_2_1 }, w⟩], y ∈ p.1.set := by
  have h0 : (y 0).val < 64 := (y 0).isLt
  have h1 : (y 1).val < 128 := (y 1).isLt
  by_cases hp : (y 0).val % 2 = 1
  · refine ⟨_, List.mem_cons_self .., (LoadRect.mem_set _).2 fun a => ?_⟩
    match a with
    | 0 => exact ⟨(y 0).val / 2, by show _ < 32; omega, by show (y 0).val = 1 + 2 * ((y 0).val / 2); omega⟩
    | 1 => exact ⟨(y 1).val, h1, by show (y 1).val = 0 + 1 * (y 1).val; omega⟩
  · refine ⟨_, List.mem_cons_of_mem _ (List.mem_cons_self ..), (LoadRect.mem_set _).2 fun a => ?_⟩
    match a with
    | 0 => exact ⟨(y 0).val / 2, by show _ < 32; omega, by show (y 0).val = 0 + 2 * ((y 0).val / 2); omega⟩
    | 1 => exact ⟨(y 1).val, h1, by show (y 1).val = 0 + 1 * (y 1).val; omega⟩

theorem v846_eq (a : Fin 64) (b : Fin 128) : restRun.sl.v846 (F := Ideal) i arg6 harg6 arg7 harg7 arg9 harg9 arg21 x5 x6 x8 (ix2 a b) = (row i x0 x1 x4 x5 x6 x7 x8 x9 x10 x11 x17 (128 + b)).dkr a := by
  unfold restRun.sl.v846 restRun.sl.H20_6
  refine (readCov_append_unit (e := .f32) (g := (fun n b => (row i x0 x1 x4 x5 x6 x7 x8 x9 x10 x11 x17 (128 + b)).dkr n)) (M := restRun.sl.H20_4 (F := Ideal) i arg6 harg6 arg7 harg7 arg9 harg9 arg21 x5 x6 x8) arg21.view (H20_6_agrees i arg6 harg6 arg7 harg7 arg9 harg9 arg21 x0 x1 x4 x5 x6 x7 x8 x9 x10 x11 x17) (fun y => H20_6_cover y _ _) _ a b).trans ?_
  simp only [Nat.zero_add]

/-- The sines of token group 2, and its cosines. -/
theorem sin2_eq (j : Fin 32) (n : Fin 128) : restRun.sl.r_38 (F := Ideal) i arg6 harg6 arg7 harg7 x5 x6 (ix2 j n) = sinA (FloatOps.sitofp (F := Ideal) .f32 (at3 x6 ((3 * (i 0).val + 2) / 5) ((3 * (i 0).val + 2) % 5) n) * at2 x5 j 0) := by
  simp only [restRun.sl.r_32, restRun.sl.r_33, restRun.sl.r_34, restRun.sl.r_35, restRun.sl.r_36, restRun.sl.r_37, restRun.sl.r_38, restRun.sl.cst_316, readAt_unread_eq]
  unfold_payloads
  have hp (n : Fin 128) (h0) (h1) (h2) := pos_eq i x6 2 2#32 rfl n h0 h1 h2
  have hm : at2 x5 j 0 * FloatOps.sitofp (F := Ideal) .f32 (at3 x6 ((3 * (i 0).val + 2) / 5) ((3 * (i 0).val + 2) % 5) n) = FloatOps.sitofp (F := Ideal) .f32 (at3 x6 ((3 * (i 0).val + 2) / 5) ((3 * (i 0).val + 2) % 5) n) * at2 x5 j 0 := mul_comm _ _
  pointwise []
  simp only [hp, at2_eq x5]
  simp only [Fin.val_zero, Fin.val_one, Fin.val_two, Fin.isValue, hm]
  exact sinA_bits _

theorem cos2_eq (j : Fin 32) (n : Fin 128) : k0_pay349 (restRun.sl.r_36 (F := Ideal) i arg6 harg6 arg7 harg7 x5 x6) (restRun.sl.r_37 (F := Ideal) i arg6 harg6 arg7 harg7 x5 x6) (ix2 j n) = cosA (FloatOps.sitofp (F := Ideal) .f32 (at3 x6 ((3 * (i 0).val + 2) / 5) ((3 * (i 0).val + 2) % 5) n) * at2 x5 j 0) := by
  simp only [restRun.sl.r_32, restRun.sl.r_33, restRun.sl.r_34, restRun.sl.r_35, restRun.sl.r_36, restRun.sl.r_37, restRun.sl.r_38, restRun.sl.cst_316, readAt_unread_eq]
  unfold_payloads
  have hp (n : Fin 128) (h0) (h1) (h2) := pos_eq i x6 2 2#32 rfl n h0 h1 h2
  have hm : at2 x5 j 0 * FloatOps.sitofp (F := Ideal) .f32 (at3 x6 ((3 * (i 0).val + 2) / 5) ((3 * (i 0).val + 2) % 5) n) = FloatOps.sitofp (F := Ideal) .f32 (at3 x6 ((3 * (i 0).val + 2) / 5) ((3 * (i 0).val + 2) % 5) n) * at2 x5 j 0 := mul_comm _ _
  pointwise []
  simp only [hp, at2_eq x5]
  simp only [Fin.val_zero, Fin.val_one, Fin.val_two, Fin.isValue, hm]
  exact cosA_bits _

/-- The gradient's rotated part of token group 2, its features along the rows. -/
theorem H20_7_agrees : Agrees (arr2 (e := .f32) (fun a b => at2 x8 (256 + b) a)) [(⟨Rect.unit (s := S64x128) ![0, 0] S64x128.size inb_S64x128_S64x128_0_0, k0_pay350 (View.readAt (Elt Ideal) arg9.view (Rect.unit (s := S384x64) ![256, 0] S128x64.size inb_S384x64_S128x64_256_0).toLoadRect (harg9.unread x8))⟩ : View.Piece (Elt Ideal) S64x128 .f32)] := by
  refine Agrees.cons_unit (fun a b => ?_) .nil
  simp only [readAt_unread_eq]
  unfold_payloads
  pointwise []
  simp only [at2_eq x8]
  refine congrArg₂ (at2 x8) ?_ ?_ <;> first | omega | (simp only [Fin.coe_ofNat_eq_mod]; omega)

theorem H20_7_cover (y : S64x128.Idx) (w) : ∃ p ∈ [(⟨Rect.unit (s := S64x128) ![0, 0] S64x128.size inb_S64x128_S64x128_0_0, w⟩ : View.Piece (Elt Ideal) S64x128 .f32)], y ∈ p.1.set :=
  View.cover_of_tiledL [(⟨Rect.unit (s := S64x128) ![0, 0] S64x128.size inb_S64x128_S64x128_0_0, w⟩ : View.Piece (Elt Ideal) S64x128 .f32)] S64x128.size (by sl_kernel_rfl) y

theorem v960_eq (a : Fin 32) (b : Fin 128) : restRun.sl.v960 (F := Ideal) i arg6 harg6 arg7 harg7 arg9 harg9 arg21 x5 x6 x8 (ix2 a b) = at2 x8 (256 + b) (0 + 2 * a) := by
  unfold restRun.sl.v960 restRun.sl.H20_7
  exact readCov_append_rows (e := .f32) (g := (fun a b => at2 x8 (256 + b) a)) (M := restRun.sl.H20_6 (F := Ideal) i arg6 harg6 arg7 harg7 arg9 harg9 arg21 x5 x6 x8) arg21.view (H20_7_agrees arg9 harg9 x8) (fun y => H20_7_cover y _) _ a b

theorem v961_eq (a : Fin 32) (b : Fin 128) : restRun.sl.v961 (F := Ideal) i arg6 harg6 arg7 harg7 arg9 harg9 arg21 x5 x6 x8 (ix2 a b) = at2 x8 (256 + b) (1 + 2 * a) := by
  unfold restRun.sl.v961 restRun.sl.H20_7
  exact readCov_append_rows (e := .f32) (g := (fun a b => at2 x8 (256 + b) a)) (M := restRun.sl.H20_6 (F := Ideal) i arg6 harg6 arg7 harg7 arg9 harg9 arg21 x5 x6 x8) arg21.view (H20_7_agrees arg9 harg9 x8) (fun y => H20_7_cover y _) _ a b

/-- The rotated gradient of token group 2, its features along the rows. -/
theorem H20_9_agrees : Agrees (arr2 (e := .f32) (fun n b => (row i x0 x1 x4 x5 x6 x7 x8 x9 x10 x11 x17 (256 + b)).dkr n)) [(⟨{ off := ![1, 0], size := S32x128.size, stride := ![2, 1], inb := inb_S64x128_S32x128_1_0_s_2_1, stride_pos := spos_2_1 }, k0_pay352 (restRun.sl.r_36 (F := Ideal) i arg6 harg6 arg7 harg7 x5 x6) (restRun.sl.r_37 (F := Ideal) i arg6 harg6 arg7 harg7 x5 x6) (restRun.sl.r_38 (F := Ideal) i arg6 harg6 arg7 harg7 x5 x6) (restRun.sl.v960 (F := Ideal) i arg6 harg6 arg7 harg7 arg9 harg9 arg21 x5 x6 x8) (restRun.sl.v961 (F := Ideal) i arg6 harg6 arg7 harg7 arg9 harg9 arg21 x5 x6 x8)⟩ : View.Piece (Elt Ideal) S64x128 .f32), ⟨{ off := ![0, 0], size := S32x128.size, stride := ![2, 1], inb := inb_S64x128_S32x128_0_0_s_2_1, stride_pos := spos_2_1 }, k0_pay351 (restRun.sl.r_36 (F := Ideal) i arg6 harg6 arg7 harg7 x5 x6) (restRun.sl.r_37 (F := Ideal) i arg6 harg6 arg7 harg7 x5 x6) (restRun.sl.r_38 (F := Ideal) i arg6 harg6 arg7 harg7 x5 x6) (restRun.sl.v960 (F := Ideal) i arg6 harg6 arg7 harg7 arg9 harg9 arg21 x5 x6 x8) (restRun.sl.v961 (F := Ideal) i arg6 harg6 arg7 harg7 arg9 harg9 arg21 x5 x6 x8)⟩] := by
  have hs (j : Fin 32) (n : Fin 128) := sin2_eq i arg6 harg6 arg7 harg7 x5 x6 j n
  have hc (j : Fin 32) (n : Fin 128) := cos2_eq i arg6 harg6 arg7 harg7 x5 x6 j n
  have he (a : Fin 32) (b : Fin 128) := v960_eq i arg6 harg6 arg7 harg7 arg9 harg9 arg21 x5 x6 x8 a b
  have ho (a : Fin 32) (b : Fin 128) := v961_eq i arg6 harg6 arg7 harg7 arg9 harg9 arg21 x5 x6 x8 a b
  refine Agrees.cons_rows (fun a b => ?_) (Agrees.cons_rows (fun a b => ?_) .nil)
  · pointwise [k0_pay352]
    simp only [hs, hc, he, ho]
    have e : (1 + 2 * a.val) / 2 = a.val := by omega
    have e2 : (1 + 2 * a.val) % 2 = 1 := by omega
    show _ = Row.dkr _ (1 + 2 * a.val)
    unfold Row.dkr
    rw [e, e2, if_neg (by decide), ← rot_odd]
    have hd : (256 + b.val) / 128 = 2 := by have := b.isLt; omega
    have hr : (256 + b.val) % 128 = b.val := by have := b.isLt; omega
    have hd' : b.val / 128 = 0 := by have := b.isLt; omega
    have hr' : b.val % 128 = b.val := by have := b.isLt; omega
    simp only [row, hd, hr]
    simp only [hd', hr', Nat.zero_add, Nat.mul_comm a.val 2, Nat.add_comm 1 (2 * a.val)]
  · pointwise [k0_pay351]
    simp only [hs, hc, he, ho]
    have e : (2 * a.val) / 2 = a.val := by omega
    have e2 : (2 * a.val) % 2 = 0 := by omega
    show _ = Row.dkr _ (2 * a.val)
    unfold Row.dkr
    rw [e, e2, if_pos (by decide)]
    have hd : (256 + b.val) / 128 = 2 := by have := b.isLt; omega
    have hr : (256 + b.val) % 128 = b.val := by have := b.isLt; omega
    have hd' : b.val / 128 = 0 := by have := b.isLt; omega
    have hr' : b.val % 128 = b.val := by have := b.isLt; omega
    simp only [row, hd, hr]
    simp only [hd', hr', Nat.zero_add, Nat.mul_comm a.val 2, Nat.add_comm 1 (2 * a.val)]

theorem H20_9_cover (y : S64x128.Idx) (u w) : ∃ p ∈ [(⟨{ off := ![1, 0], size := S32x128.size, stride := ![2, 1], inb := inb_S64x128_S32x128_1_0_s_2_1, stride_pos := spos_2_1 }, u⟩ : View.Piece (Elt Ideal) S64x128 .f32), ⟨{ off := ![0, 0], size := S32x128.size, stride := ![2, 1], inb := inb_S64x128_S32x128_0_0_s_2_1, stride_pos := spos_2_1 }, w⟩], y ∈ p.1.set := by
  have h0 : (y 0).val < 64 := (y 0).isLt
  have h1 : (y 1).val < 128 := (y 1).isLt
  by_cases hp : (y 0).val % 2 = 1
  · refine ⟨_, List.mem_cons_self .., (LoadRect.mem_set _).2 fun a => ?_⟩
    match a with
    | 0 => exact ⟨(y 0).val / 2, by show _ < 32; omega, by show (y 0).val = 1 + 2 * ((y 0).val / 2); omega⟩
    | 1 => exact ⟨(y 1).val, h1, by show (y 1).val = 0 + 1 * (y 1).val; omega⟩
  · refine ⟨_, List.mem_cons_of_mem _ (List.mem_cons_self ..), (LoadRect.mem_set _).2 fun a => ?_⟩
    match a with
    | 0 => exact ⟨(y 0).val / 2, by show _ < 32; omega, by show (y 0).val = 0 + 2 * ((y 0).val / 2); omega⟩
    | 1 => exact ⟨(y 1).val, h1, by show (y 1).val = 0 + 1 * (y 1).val; omega⟩

theorem v974_eq (a : Fin 64) (b : Fin 128) : restRun.sl.v974 (F := Ideal) i arg6 harg6 arg7 harg7 arg9 harg9 arg21 x5 x6 x8 (ix2 a b) = (row i x0 x1 x4 x5 x6 x7 x8 x9 x10 x11 x17 (256 + b)).dkr a := by
  unfold restRun.sl.v974 restRun.sl.H20_9
  refine (readCov_append_unit (e := .f32) (g := (fun n b => (row i x0 x1 x4 x5 x6 x7 x8 x9 x10 x11 x17 (256 + b)).dkr n)) (M := restRun.sl.H20_7 (F := Ideal) i arg6 harg6 arg7 harg7 arg9 harg9 arg21 x5 x6 x8) arg21.view (H20_9_agrees i arg6 harg6 arg7 harg7 arg9 harg9 arg21 x0 x1 x4 x5 x6 x7 x8 x9 x10 x11 x17) (fun y => H20_9_cover y _ _) _ a b).trans ?_
  simp only [Nat.zero_add]

end Cert.KernelIdeal.Val
-- ==== Proof.Expo.lean ====
/-
  Counting the powers of two at or below a number gives the number's exponent: the integer way to a group's scale and to
  the scale's reciprocal, and the logarithm's way, agree.
-/
module

public import proofs.«01_k».proof.Proof.Spec

@[expose] public section

noncomputable section

namespace Cert.Spec

open Idealize.ShloMosaic

/-- The words `n·2²³`, read as their fields. -/
theorem fields : ∀ n : Fin 255, (((BitVec.ofNat 32 n.val <<< 23).extractLsb' 31 1 == 1#1) = false)
    ∧ ((BitVec.ofNat 32 n.val <<< 23).extractLsb' 23 8).toNat = n.val ∧ ((BitVec.ofNat 32 n.val <<< 23).extractLsb' 0 23).toNat = 0 := by
  decide +kernel

/-- The float whose word is `n·2²³` is `2^(n - 127)`. -/
theorem pow_word (n : ℕ) (h1 : 1 ≤ n) (h2 : n ≤ 254) : (Ideal.ofBits FTy.f32 (BitVec.ofNat 32 n <<< 23) : EReal) = (((2 : ℝ) ^ ((n : ℤ) - 127) : ℝ) : EReal) := by
  obtain ⟨hs, he, hf⟩ := fields ⟨n, by omega⟩
  show Ideal.ieee 8 23 (BitVec.ofNat 32 n <<< 23) = _
  unfold Ideal.ieee
  simp only at hs he hf
  have hs' : ((BitVec.ofNat 32 n <<< 23).extractLsb' (8 + 23) 1 == 1#1) = false := hs
  simp only [hs', he, hf]
  rw [if_neg (by norm_num; omega), if_neg (by omega)]
  refine congrArg _ ?_
  have h : (2 : ℝ) ^ ((n : ℤ) - (2 ^ (8 - 1) - 1) - ((23 : ℕ) : ℤ)) = (2 : ℝ) ^ ((n : ℤ) - 127) * ((2 : ℝ) ^ (23 : ℕ))⁻¹ := by
    rw [zpow_sub₀ (by norm_num)]; norm_num
    exact div_eq_mul_one_div _ _
  rw [h]
  norm_num
  ring

/-- How many of the powers of two from `2⁻¹²⁶` to `2¹²⁵` are at most `x`. -/
def count (x : EReal) : EReal :=
  ∑ n : Fin 256, Scalar.select (IntOp.andi (IntOp.andi (IntOp.cmpi .sge (BitVec.ofNat 32 n.val) 1#32) (IntOp.cmpi .sle (BitVec.ofNat 32 n.val) 252#32))
    (BitVec.ofBool (decide (Ideal.ofBits FTy.f32 (IntOp.shli .vector (BitVec.ofNat 32 n.val) 23#32) ≤ x)))) (1 : EReal) 0

/-- The word holding the count in a float's exponent field. -/
def bits (x : EReal) : BitVec 32 := if x * 0 = 0 then IntOp.shli .vector (Ideal.fptosi 32 (count x)) 23#32 else 2139095040#32

theorem shli_word (b : BitVec 32) : IntOp.shli .vector b 23#32 = b <<< 23 := by
  rfl

theorem in_range : ∀ n : Fin 256, IntOp.andi (IntOp.cmpi .sge (BitVec.ofNat 32 n.val) 1#32) (IntOp.cmpi .sle (BitVec.ofNat 32 n.val) 252#32)
    = BitVec.ofBool (decide (1 ≤ n.val ∧ n.val ≤ 252)) := by
  decide +kernel

theorem card_le : ∀ c : Fin 253, (Finset.univ.filter fun n : Fin 256 => 1 ≤ n.val ∧ n.val ≤ c.val).card = c.val := by
  decide +kernel

theorem select_ofBool (p : Prop) [Decidable p] (a b : EReal) : Scalar.select (BitVec.ofBool (decide p)) a b = if p then a else b := by
  by_cases h : p <;> simp [h, Scalar.select]

/-- Where exactly the first `c` powers are at most `x`, the count is `c`. -/
theorem count_eq (x : EReal) (c : ℕ) (hc : c ≤ 252)
    (h : ∀ n : ℕ, 1 ≤ n → n ≤ 252 → ((((2 : ℝ) ^ ((n : ℤ) - 127) : ℝ) : EReal) ≤ x ↔ n ≤ c)) : count x = ((c : ℝ) : EReal) := by
  have e (n : Fin 256) : Scalar.select (IntOp.andi (IntOp.andi (IntOp.cmpi .sge (BitVec.ofNat 32 n.val) 1#32) (IntOp.cmpi .sle (BitVec.ofNat 32 n.val) 252#32))
    (BitVec.ofBool (decide (Ideal.ofBits FTy.f32 (IntOp.shli .vector (BitVec.ofNat 32 n.val) 23#32) ≤ x)))) (1 : EReal) 0
      = if 1 ≤ n.val ∧ n.val ≤ c then 1 else 0 := by
    rw [in_range]
    by_cases hr : 1 ≤ n.val ∧ n.val ≤ 252
    · have hp : decide (1 ≤ n.val ∧ n.val ≤ 252) = true := decide_eq_true hr
      have ha : ∀ b : Bool, IntOp.andi (BitVec.ofBool true) (BitVec.ofBool b) = BitVec.ofBool b := by decide
      rw [hp, ha, select_ofBool, shli_word, pow_word n.val hr.1 (by omega)]
      refine if_congr ?_ rfl rfl
      rw [h n.val hr.1 hr.2]
      exact ⟨fun h => ⟨hr.1, h⟩, fun h => h.2⟩
    · have hp : decide (1 ≤ n.val ∧ n.val ≤ 252) = false := decide_eq_false hr
      have ha : ∀ b : Bool, IntOp.andi (BitVec.ofBool false) (BitVec.ofBool b) = BitVec.ofBool false := by decide
      rw [hp, ha, if_neg (by omega)]
      rfl
  unfold count
  rw [Finset.sum_congr rfl fun n _ => e n, Finset.sum_boole, card_le ⟨c, by omega⟩]
  rfl

theorem fptosi_nat (c : ℕ) (hc : c ≤ 252) : Ideal.fptosi 32 ((c : ℝ) : EReal) = BitVec.ofNat 32 c := by
  show BitVec.ofInt 32 (max _ (min _ (if (0 : ℝ) ≤ (c : ℝ) then ⌊(c : ℝ)⌋ else ⌈(c : ℝ)⌉))) = _
  rw [if_pos (by positivity), Int.floor_natCast]
  have : max (-(((2 ^ (32 - 1) : ℕ)) : ℤ)) (min (((2 ^ (32 - 1) : ℕ) : ℤ) - 1) (c : ℤ)) = (c : ℤ) := by norm_num; omega
  rw [this]
  exact BitVec.ofInt_natCast 32 c

theorem words : ∀ c : Fin 253, IntOp.addi (BitVec.ofNat 32 c.val <<< 23) 8388608#32 = BitVec.ofNat 32 (c.val + 1) <<< 23
    ∧ IntOp.subi 2122317824#32 (BitVec.ofNat 32 c.val <<< 23) = BitVec.ofNat 32 (253 - c.val) <<< 23
    ∧ IntOp.cmpi .eq (BitVec.ofNat 32 c.val <<< 23) 0#32 = BitVec.ofBool (decide (c.val = 0)) := by
  decide +kernel

/-- Every number has such a count, and it is the exponent plus 126, or 0 with the exponent 0. -/
theorem exists_count (x : EReal) : ∃ c : ℕ, c ≤ 252 ∧ (∀ n : ℕ, 1 ≤ n → n ≤ 252 → ((((2 : ℝ) ^ ((n : ℤ) - 127) : ℝ) : EReal) ≤ x ↔ n ≤ c))
    ∧ expo x = if c = 0 then 0 else (((c : ℝ) - 126 : ℝ) : EReal) := by
  have hlow : (Ideal.ofBits FTy.f32 0x00800000#32 : EReal) = (((2 : ℝ) ^ ((1 : ℤ) - 127) : ℝ) : EReal) := pow_word 1 (by norm_num) (by norm_num)
  have hcap : (Ideal.ofBits FTy.f32 0x42FC0000#32 : EReal) = ((126 : ℝ) : EReal) := by
    simp [Ideal.ofBits, Ideal.ieee, -EReal.coe_mul]; norm_num
  have hl2 : 0 < Real.log 2 := Real.log_pos (by norm_num)
  unfold expo
  rw [hlow, hcap]
  induction x with
  | bot =>
    refine ⟨0, by omega, fun n h1 h2 => ⟨fun h => absurd h (by simp), fun h => by omega⟩, ?_⟩
    rw [if_pos (EReal.bot_lt_coe _)]; rfl
  | top =>
    refine ⟨252, le_refl _, fun n h1 h2 => ⟨fun _ => h2, fun _ => le_top⟩, ?_⟩
    rw [if_neg (by simp), if_neg (by norm_num)]
    have : Ideal.div (Ideal.log ⊤) ((Real.log 2 : ℝ) : EReal) = ⊤ := by
      unfold Ideal.div
      rw [if_neg (by simpa using hl2.ne'), Ideal.log_top, ← EReal.coe_inv]
      exact EReal.top_mul_coe_of_pos (inv_pos.2 hl2)
    rw [this, Ideal.liftRound_top]
    have h1 : (⊤ : EReal) + 1 = ⊤ := rfl
    rw [h1, min_eq_right le_top]
    norm_num
  | coe r =>
    by_cases hr : r < (2 : ℝ) ^ ((1 : ℤ) - 127)
    · refine ⟨0, by omega, fun n h1 h2 => ⟨fun h => ?_, fun h => by omega⟩, ?_⟩
      · exfalso
        have h' := EReal.coe_le_coe_iff.1 h
        have : (2 : ℝ) ^ ((1 : ℤ) - 127) ≤ (2 : ℝ) ^ ((n : ℤ) - 127) := zpow_le_zpow_right₀ (by norm_num) (by omega)
        linarith
      · rw [if_pos (EReal.coe_lt_coe_iff.2 hr)]; rfl
    · have hr' := not_lt.1 hr
      have hr0 : 0 < r := lt_of_lt_of_le (zpow_pos (by norm_num) _) hr'
      have key (z : ℤ) : (2 : ℝ) ^ z ≤ r ↔ z ≤ ⌊Real.log r * (Real.log 2)⁻¹⌋ := by
        rw [Int.le_floor, ← div_eq_mul_inv, le_div_iff₀ hl2, ← Real.log_zpow, Real.log_le_log_iff (zpow_pos (by norm_num) _) hr0]
      generalize hk : ⌊Real.log r * (Real.log 2)⁻¹⌋ = k at key
      have hk1 : (1 : ℤ) - 127 ≤ k := (key _).1 hr'
      refine ⟨(min (k + 127) 252).toNat, by omega, fun n h1 h2 => ?_, ?_⟩
      · rw [EReal.coe_le_coe_iff, key]; omega
      · rw [if_neg (fun h => hr (EReal.coe_lt_coe_iff.1 h)), if_neg (by omega)]
        have : Ideal.div (Ideal.log (r : EReal)) ((Real.log 2 : ℝ) : EReal) = ((Real.log r * (Real.log 2)⁻¹ : ℝ) : EReal) := by
          unfold Ideal.div
          rw [if_neg (by simpa using hl2.ne'), Ideal.log_coe, if_neg (not_le.2 hr0), ← EReal.coe_inv, ← EReal.coe_mul]
        rw [this, Ideal.liftRound_coe, hk]
        have e1 : (((k : ℤ) : ℝ) : EReal) + 1 = (((k : ℝ) + 1 : ℝ) : EReal) := by rw [EReal.coe_add]; rfl
        rw [e1, ← EReal.coe_strictMono.monotone.map_min]
        refine congrArg _ ?_
        have h3 : (((min (k + 127) 252).toNat : ℕ) : ℝ) = ((min (k + 127) 252 : ℤ) : ℝ) := by
          have : (((min (k + 127) 252).toNat : ℕ) : ℤ) = min (k + 127) 252 := Int.toNat_of_nonneg (by omega)
          exact_mod_cast this
        rw [h3]
        push_cast
        rcases le_total ((k : ℝ) + 1) 126 with h | h
        · rw [min_eq_left h, min_eq_left (by linarith)]; ring
        · rw [min_eq_right h, min_eq_right (by linarith)]; norm_num

theorem mul_zero_eq (x : EReal) : x * 0 = 0 := by simp

/-- The scale by its word. -/
theorem scale_word (x : EReal) : Scalar.select (IntOp.cmpi .eq (bits x) 0#32) (1 : EReal) (Ideal.ofBits FTy.f32 (IntOp.addi (bits x) 8388608#32))
    = FloatOps.exp2 (F := Ideal) (φ := FTy.f32) (expo x) := by
  obtain ⟨c, hc, h, he⟩ := exists_count x
  have hb : bits x = BitVec.ofNat 32 c <<< 23 := by
    unfold bits
    rw [if_pos (mul_zero_eq x), count_eq x c hc h, fptosi_nat c hc, shli_word]
  obtain ⟨w1, w2, w3⟩ := words ⟨c, by omega⟩
  simp only at w1 w2 w3
  rw [hb, w1, w3, select_ofBool, he]
  split
  · show (1 : EReal) = Ideal.exp2 ((0 : ℝ) : EReal)
    rw [Ideal.exp2_coe]
    show (1 : EReal) = (((2 : ℝ) ^ (0 : ℝ) : ℝ) : EReal)
    rw [Real.rpow_zero]; rfl
  · rw [pow_word (c + 1) (by omega) (by omega)]
    show _ = Ideal.exp2 (((c : ℝ) - 126 : ℝ) : EReal)
    rw [Ideal.exp2_coe]
    refine congrArg _ ?_
    show _ = (2 : ℝ) ^ ((c : ℝ) - 126)
    rw [← Real.rpow_intCast]
    refine congrArg _ ?_
    push_cast; ring

/-- The scale's reciprocal by its word. -/
theorem inv_word (x : EReal) : Scalar.select (IntOp.cmpi .eq (bits x) 0#32) (1 : EReal) (Ideal.ofBits FTy.f32 (IntOp.subi 2122317824#32 (bits x)))
    = FloatOps.exp2 (F := Ideal) (φ := FTy.f32) (0 - expo x) := by
  obtain ⟨c, hc, h, he⟩ := exists_count x
  have hb : bits x = BitVec.ofNat 32 c <<< 23 := by
    unfold bits
    rw [if_pos (mul_zero_eq x), count_eq x c hc h, fptosi_nat c hc, shli_word]
  obtain ⟨w1, w2, w3⟩ := words ⟨c, by omega⟩
  simp only at w1 w2 w3
  rw [hb, w2, w3, select_ofBool, he]
  split
  · rw [sub_zero]
    show (1 : EReal) = Ideal.exp2 ((0 : ℝ) : EReal)
    rw [Ideal.exp2_coe]
    show (1 : EReal) = (((2 : ℝ) ^ (0 : ℝ) : ℝ) : EReal)
    rw [Real.rpow_zero]; rfl
  · rw [pow_word (253 - c) (by omega) (by omega)]
    have e0 : (0 : EReal) - (((c : ℝ) - 126 : ℝ) : EReal) = ((126 - (c : ℝ) : ℝ) : EReal) := by
      rw [zero_sub, ← EReal.coe_neg, neg_sub]
    rw [e0]
    show _ = Ideal.exp2 ((126 - (c : ℝ) : ℝ) : EReal)
    rw [Ideal.exp2_coe]
    refine congrArg _ ?_
    show _ = (2 : ℝ) ^ (126 - (c : ℝ))
    rw [← Real.rpow_intCast]
    refine congrArg _ ?_
    rw [Nat.cast_sub (by omega)]
    push_cast; ring

end Cert.Spec
-- ==== Proof.KvQuant.lean ====
/-
  The quantiser of the kernel, entry by entry.
-/
module

public import proofs.«01_k».proof.Proof.KvRope
public import proofs.«01_k».proof.Proof.Expo

@[expose] public section

set_option maxRecDepth 16384

noncomputable section

namespace Cert.KernelIdeal.Val

open Idealize.ShloMosaic Idealize.ShloMosaic.Tactic Cert.Spec Cert.KernelIdeal Cert.KernelIdeal.Gen Cert.KernelIdeal.Body

/-- The largest magnitude of a latent group. -/
theorem amax_lat (w : Row) (g : ℕ) (hg : g < 4) : w.amax g = Finset.univ.fold max (Ideal.ofBits FTy.f32 4286578688#32) fun x : Fin 128 =>
    FloatOps.absf (F := Ideal) (φ := FTy.f32) (w.dcl (g * 128 + x)) := if_pos hg

/-- The largest magnitude of the first latent group. -/
theorem amax_lat0 (w : Row) : w.amax 0 = Finset.univ.fold max (Ideal.ofBits FTy.f32 4286578688#32) fun x : Fin 128 =>
    FloatOps.absf (F := Ideal) (φ := FTy.f32) (w.dcl x) :=
  (amax_lat w 0 (by decide)).trans (by simp only [Nat.zero_mul, Nat.zero_add])

/-- The largest magnitude of the rotated part. -/
theorem amax_rope (w : Row) : w.amax 4 = Finset.univ.fold max (Ideal.ofBits FTy.f32 4286578688#32) fun x : Fin 64 =>
    FloatOps.absf (F := Ideal) (φ := FTy.f32) (w.dkr x) := if_neg (by decide)

/-- A latent code. -/
theorem code_lat (w : Row) (k g : ℕ) (hk : k < 512) (hg : k / 128 = g) : w.code k = clip (w.dcl k * ginv (w.amax g)) := by
  subst hg
  exact if_pos hk

/-- A rotated code. -/
theorem code_rope (w : Row) (k : ℕ) : w.code (512 + k) = clip (w.dkr k * ginv (w.amax 4)) := by
  unfold Row.code
  rw [if_neg (by omega), Nat.add_sub_cancel_left]

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

/-- The rotated part of all of a step's tokens. -/
theorem dkr_eq (r : Fin 384) (n : Fin 64) : restRun.sl.r_39 (F := Ideal) i arg6 harg6 arg7 harg7 arg9 harg9 arg21 x5 x6 x8 (ix2 r n) = (row i x0 x1 x4 x5 x6 x7 x8 x9 x10 x11 x17 r).dkr n := by
  have e0 (a : Fin 64) (b : Fin 128) := v718_eq i arg6 harg6 arg7 harg7 arg9 harg9 arg21 x0 x1 x4 x5 x6 x7 x8 x9 x10 x11 x17 a b
  have e1 (a : Fin 64) (b : Fin 128) := v846_eq i arg6 harg6 arg7 harg7 arg9 harg9 arg21 x0 x1 x4 x5 x6 x7 x8 x9 x10 x11 x17 a b
  have e2 (a : Fin 64) (b : Fin 128) := v974_eq i arg6 harg6 arg7 harg7 arg9 harg9 arg21 x0 x1 x4 x5 x6 x7 x8 x9 x10 x11 x17 a b
  unfold restRun.sl.r_39 restRun.sl.r_31 restRun.sl.r_23
  unfold_payloads
  pointwise []
  simp only [e0, e1, e2]
  have e (a b : ℕ) (h : a = b) : ((row i x0 x1 x4 x5 x6 x7 x8 x9 x10 x11 x17 a)).dkr n.val = ((row i x0 x1 x4 x5 x6 x7 x8 x9 x10 x11 x17 b)).dkr n.val := by rw [h]
  split
  · exact e _ _ (by omega)
  · split
    · exact e _ _ (by omega)
    · exact e _ _ (by omega)

/-- The scales of group 0. -/
theorem sc0_eq (r : Fin 384) : (restRun.sl.r_42 (F := Ideal) arg1 harg1 arg2 harg2 arg5 harg5 arg8 harg8 arg18 harg18 arg19 x0 x1 x4 x7 x17) (ix2 r 0) = (row i x0 x1 x4 x5 x6 x7 x8 x9 x10 x11 x17 r).scale 0 := by
  have h (r : Fin 384) (n : Fin 512) := dcl_eq i arg1 harg1 arg2 harg2 arg5 harg5 arg8 harg8 arg18 harg18 arg19 x0 x1 x4 x5 x6 x7 x8 x9 x10 x11 x17 r n
  simp only [restRun.sl.r_40, restRun.sl.r_41, restRun.sl.v983, restRun.sl.r_42, restRun.sl.r_43]
  unfold_payloads
  pointwise []
  simp only [h]
  have ha := amax_lat0 (row i x0 x1 x4 x5 x6 x7 x8 x9 x10 x11 x17 r)
  simp only [Fin.isValue, ← ha]
  exact scale_word (over (((row i x0 x1 x4 x5 x6 x7 x8 x9 x10 x11 x17 r)).amax 0))

/-- The codes of group 0. -/
theorem co0_eq (r : Fin 384) (n : Fin 128) : (restRun.sl.r_43 (F := Ideal) arg1 harg1 arg2 harg2 arg5 harg5 arg8 harg8 arg18 harg18 arg19 x0 x1 x4 x7 x17) (ix2 r n) = (row i x0 x1 x4 x5 x6 x7 x8 x9 x10 x11 x17 r).code (n) := by
  have h (r : Fin 384) (n : Fin 512) := dcl_eq i arg1 harg1 arg2 harg2 arg5 harg5 arg8 harg8 arg18 harg18 arg19 x0 x1 x4 x5 x6 x7 x8 x9 x10 x11 x17 r n
  simp only [restRun.sl.r_40, restRun.sl.r_41, restRun.sl.v983, restRun.sl.r_42, restRun.sl.r_43]
  unfold_payloads
  pointwise []
  simp only [h]
  have ha := amax_lat0 (row i x0 x1 x4 x5 x6 x7 x8 x9 x10 x11 x17 r)
  simp only [Fin.isValue, ← ha]
  exact (congrArg (fun s => clip (((row i x0 x1 x4 x5 x6 x7 x8 x9 x10 x11 x17 r)).dcl (n) * s)) (inv_word (over (((row i x0 x1 x4 x5 x6 x7 x8 x9 x10 x11 x17 r)).amax 0)))).trans (code_lat _ _ 0 (by omega) (by omega)).symm

/-- The scales of group 1. -/
theorem sc1_eq (r : Fin 384) : (Gen.k0_pay366 (F := Ideal) (restRun.sl.r_46 (F := Ideal) arg1 harg1 arg2 harg2 arg5 harg5 arg8 harg8 arg18 harg18 arg19 x0 x1 x4 x7 x17) (restRun.sl.r_47 (F := Ideal) arg1 harg1 arg2 harg2 arg5 harg5 arg8 harg8 arg18 harg18 arg19 x0 x1 x4 x7 x17) Gen.k0_pay365) (ix2 r 0) = (row i x0 x1 x4 x5 x6 x7 x8 x9 x10 x11 x17 r).scale 1 := by
  have h (r : Fin 384) (n : Fin 512) := dcl_eq i arg1 harg1 arg2 harg2 arg5 harg5 arg8 harg8 arg18 harg18 arg19 x0 x1 x4 x5 x6 x7 x8 x9 x10 x11 x17 r n
  simp only [restRun.sl.r_45, restRun.sl.r_46, restRun.sl.r_47]
  unfold_payloads
  pointwise []
  simp only [h]
  have ha := amax_lat (row i x0 x1 x4 x5 x6 x7 x8 x9 x10 x11 x17 r) 1 (by decide)
  simp only [Fin.isValue, ← ha]
  exact scale_word (over (((row i x0 x1 x4 x5 x6 x7 x8 x9 x10 x11 x17 r)).amax 1))

/-- The codes of group 1. -/
theorem co1_eq (r : Fin 384) (n : Fin 128) : (Gen.k0_pay367 (restRun.sl.r_45 (F := Ideal) arg1 harg1 arg2 harg2 arg5 harg5 arg8 harg8 arg18 harg18 arg19 x0 x1 x4 x7 x17) (restRun.sl.r_46 (F := Ideal) arg1 harg1 arg2 harg2 arg5 harg5 arg8 harg8 arg18 harg18 arg19 x0 x1 x4 x7 x17) (restRun.sl.r_47 (F := Ideal) arg1 harg1 arg2 harg2 arg5 harg5 arg8 harg8 arg18 harg18 arg19 x0 x1 x4 x7 x17)) (ix2 r n) = (row i x0 x1 x4 x5 x6 x7 x8 x9 x10 x11 x17 r).code (128 + n) := by
  have h (r : Fin 384) (n : Fin 512) := dcl_eq i arg1 harg1 arg2 harg2 arg5 harg5 arg8 harg8 arg18 harg18 arg19 x0 x1 x4 x5 x6 x7 x8 x9 x10 x11 x17 r n
  simp only [restRun.sl.r_45, restRun.sl.r_46, restRun.sl.r_47]
  unfold_payloads
  pointwise []
  simp only [h]
  have ha := amax_lat (row i x0 x1 x4 x5 x6 x7 x8 x9 x10 x11 x17 r) 1 (by decide)
  simp only [Fin.isValue, ← ha]
  exact (congrArg (fun s => clip (((row i x0 x1 x4 x5 x6 x7 x8 x9 x10 x11 x17 r)).dcl (128 + n) * s)) (inv_word (over (((row i x0 x1 x4 x5 x6 x7 x8 x9 x10 x11 x17 r)).amax 1)))).trans (code_lat _ _ 1 (by omega) (by omega)).symm

/-- The scales of group 2. -/
theorem sc2_eq (r : Fin 384) : (Gen.k0_pay375 (restRun.sl.r_50 (F := Ideal) arg1 harg1 arg2 harg2 arg5 harg5 arg8 harg8 arg18 harg18 arg19 x0 x1 x4 x7 x17) (restRun.sl.r_51 (F := Ideal) arg1 harg1 arg2 harg2 arg5 harg5 arg8 harg8 arg18 harg18 arg19 x0 x1 x4 x7 x17) (restRun.sl.cst_396 (F := Ideal) ) Gen.k0_pay372) (ix2 r 0) = (row i x0 x1 x4 x5 x6 x7 x8 x9 x10 x11 x17 r).scale 2 := by
  have h (r : Fin 384) (n : Fin 512) := dcl_eq i arg1 harg1 arg2 harg2 arg5 harg5 arg8 harg8 arg18 harg18 arg19 x0 x1 x4 x5 x6 x7 x8 x9 x10 x11 x17 r n
  simp only [restRun.sl.r_49, restRun.sl.r_50, restRun.sl.r_51, restRun.sl.cst_396]
  unfold_payloads
  pointwise []
  simp only [h]
  have ha := amax_lat (row i x0 x1 x4 x5 x6 x7 x8 x9 x10 x11 x17 r) 2 (by decide)
  simp only [Fin.isValue, ← ha]
  exact scale_word (over (((row i x0 x1 x4 x5 x6 x7 x8 x9 x10 x11 x17 r)).amax 2))

/-- The codes of group 2. -/
theorem co2_eq (r : Fin 384) (n : Fin 128) : (Gen.k0_pay376 (restRun.sl.r_49 (F := Ideal) arg1 harg1 arg2 harg2 arg5 harg5 arg8 harg8 arg18 harg18 arg19 x0 x1 x4 x7 x17) (restRun.sl.r_50 (F := Ideal) arg1 harg1 arg2 harg2 arg5 harg5 arg8 harg8 arg18 harg18 arg19 x0 x1 x4 x7 x17) (restRun.sl.r_51 (F := Ideal) arg1 harg1 arg2 harg2 arg5 harg5 arg8 harg8 arg18 harg18 arg19 x0 x1 x4 x7 x17) (restRun.sl.cst_396 (F := Ideal) ) Gen.k0_pay372) (ix2 r n) = (row i x0 x1 x4 x5 x6 x7 x8 x9 x10 x11 x17 r).code (256 + n) := by
  have h (r : Fin 384) (n : Fin 512) := dcl_eq i arg1 harg1 arg2 harg2 arg5 harg5 arg8 harg8 arg18 harg18 arg19 x0 x1 x4 x5 x6 x7 x8 x9 x10 x11 x17 r n
  simp only [restRun.sl.r_49, restRun.sl.r_50, restRun.sl.r_51, restRun.sl.cst_396]
  unfold_payloads
  pointwise []
  simp only [h]
  have ha := amax_lat (row i x0 x1 x4 x5 x6 x7 x8 x9 x10 x11 x17 r) 2 (by decide)
  simp only [Fin.isValue, ← ha]
  exact (congrArg (fun s => clip (((row i x0 x1 x4 x5 x6 x7 x8 x9 x10 x11 x17 r)).dcl (256 + n) * s)) (inv_word (over (((row i x0 x1 x4 x5 x6 x7 x8 x9 x10 x11 x17 r)).amax 2)))).trans (code_lat _ _ 2 (by omega) (by omega)).symm

/-- The scales of group 3. -/
theorem sc3_eq (r : Fin 384) : (restRun.sl.r_55 (F := Ideal) arg1 harg1 arg2 harg2 arg5 harg5 arg8 harg8 arg18 harg18 arg19 x0 x1 x4 x7 x17) (ix2 r 0) = (row i x0 x1 x4 x5 x6 x7 x8 x9 x10 x11 x17 r).scale 3 := by
  have h (r : Fin 384) (n : Fin 512) := dcl_eq i arg1 harg1 arg2 harg2 arg5 harg5 arg8 harg8 arg18 harg18 arg19 x0 x1 x4 x5 x6 x7 x8 x9 x10 x11 x17 r n
  simp only [restRun.sl.r_53, restRun.sl.r_54, restRun.sl.r_55, restRun.sl.r_56]
  unfold_payloads
  pointwise []
  simp only [h]
  have ha := amax_lat (row i x0 x1 x4 x5 x6 x7 x8 x9 x10 x11 x17 r) 3 (by decide)
  simp only [Fin.isValue, ← ha]
  exact scale_word (over (((row i x0 x1 x4 x5 x6 x7 x8 x9 x10 x11 x17 r)).amax 3))

/-- The codes of group 3. -/
theorem co3_eq (r : Fin 384) (n : Fin 128) : (Gen.k0_pay384 (restRun.sl.r_56 (F := Ideal) arg1 harg1 arg2 harg2 arg5 harg5 arg8 harg8 arg18 harg18 arg19 x0 x1 x4 x7 x17)) (ix2 r n) = (row i x0 x1 x4 x5 x6 x7 x8 x9 x10 x11 x17 r).code (384 + n) := by
  have h (r : Fin 384) (n : Fin 512) := dcl_eq i arg1 harg1 arg2 harg2 arg5 harg5 arg8 harg8 arg18 harg18 arg19 x0 x1 x4 x5 x6 x7 x8 x9 x10 x11 x17 r n
  simp only [restRun.sl.r_53, restRun.sl.r_54, restRun.sl.r_55, restRun.sl.r_56]
  unfold_payloads
  pointwise []
  simp only [h]
  have ha := amax_lat (row i x0 x1 x4 x5 x6 x7 x8 x9 x10 x11 x17 r) 3 (by decide)
  simp only [Fin.isValue, ← ha]
  exact (congrArg (fun s => clip (((row i x0 x1 x4 x5 x6 x7 x8 x9 x10 x11 x17 r)).dcl (384 + n) * s)) (inv_word (over (((row i x0 x1 x4 x5 x6 x7 x8 x9 x10 x11 x17 r)).amax 3)))).trans (code_lat _ _ 3 (by omega) (by omega)).symm

/-- The scales of the rotated part. -/
theorem sc4_eq (r : Fin 384) : Gen.k0_pay391 (F := Ideal) (restRun.sl.r_58 (F := Ideal) i arg6 harg6 arg7 harg7 arg9 harg9 arg21 x5 x6 x8) (restRun.sl.r_59 (F := Ideal) i arg6 harg6 arg7 harg7 arg9 harg9 arg21 x5 x6 x8) (ix2 r 0) = (row i x0 x1 x4 x5 x6 x7 x8 x9 x10 x11 x17 r).scale 4 := by
  have h (r : Fin 384) (n : Fin 64) := dkr_eq i arg6 harg6 arg7 harg7 arg9 harg9 arg21 x0 x1 x4 x5 x6 x7 x8 x9 x10 x11 x17 r n
  simp only [restRun.sl.r_58, restRun.sl.r_59]
  unfold_payloads
  pointwise []
  simp only [h]
  have ha := amax_rope (row i x0 x1 x4 x5 x6 x7 x8 x9 x10 x11 x17 r)
  simp only [Fin.isValue, ← ha]
  exact scale_word (over (((row i x0 x1 x4 x5 x6 x7 x8 x9 x10 x11 x17 r)).amax 4))

/-- The codes of the rotated part. -/
theorem co4_eq (r : Fin 384) (n : Fin 64) : Gen.k0_pay392 (F := Ideal) (restRun.sl.r_39 (F := Ideal) i arg6 harg6 arg7 harg7 arg9 harg9 arg21 x5 x6 x8) (restRun.sl.r_58 (F := Ideal) i arg6 harg6 arg7 harg7 arg9 harg9 arg21 x5 x6 x8) (restRun.sl.r_59 (F := Ideal) i arg6 harg6 arg7 harg7 arg9 harg9 arg21 x5 x6 x8) (ix2 r n) = (row i x0 x1 x4 x5 x6 x7 x8 x9 x10 x11 x17 r).code (512 + n) := by
  have h (r : Fin 384) (n : Fin 64) := dkr_eq i arg6 harg6 arg7 harg7 arg9 harg9 arg21 x0 x1 x4 x5 x6 x7 x8 x9 x10 x11 x17 r n
  simp only [restRun.sl.r_58, restRun.sl.r_59]
  unfold_payloads
  pointwise []
  simp only [h]
  have ha := amax_rope (row i x0 x1 x4 x5 x6 x7 x8 x9 x10 x11 x17 r)
  simp only [Fin.isValue, ← ha]
  exact (congrArg (fun s => clip (((row i x0 x1 x4 x5 x6 x7 x8 x9 x10 x11 x17 r)).dkr n * s)) (inv_word (over (((row i x0 x1 x4 x5 x6 x7 x8 x9 x10 x11 x17 r)).amax 4)))).trans (code_rope _ _).symm

end Cert.KernelIdeal.Val
-- ==== Proof.LeftQuant.lean ====
/-
  What one step of the kernel leaves of the codes and scales.
-/
module

public import proofs.«01_k».proof.Proof.KvQuant

@[expose] public section

set_option maxRecDepth 16384

noncomputable section

namespace Cert.KernelIdeal.Val

open Idealize.ShloMosaic Idealize.ShloMosaic.Tactic Cert.Spec Cert.KernelIdeal Cert.KernelIdeal.Gen Cert.KernelIdeal.Body

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

theorem code_agrees : Agrees (arr2 (e := .fp8e5m2) fun r n => ((row i x0 x1 x4 x5 x6 x7 x8 x9 x10 x11 x17 r)).code n) (restRun.sl.H15_5 (F := Ideal) i arg1 harg1 arg2 harg2 arg5 harg5 arg6 harg6 arg7 harg7 arg8 harg8 arg9 harg9 arg18 harg18 arg19 arg21 x0 x1 x4 x5 x6 x7 x8 x17) := by
  unfold restRun.sl.H15_5 restRun.sl.H15_4 restRun.sl.H15_3 restRun.sl.H15_2 restRun.sl.H15_1
  exact Agrees.cons_unit (fun a b => (co4_eq i arg6 harg6 arg7 harg7 arg9 harg9 arg21 x0 x1 x4 x5 x6 x7 x8 x9 x10 x11 x17 a b).trans (by simp only [Nat.zero_add, Fin.val_zero, Nat.add_zero])) <| Agrees.cons_unit (fun a b => (co3_eq i arg1 harg1 arg2 harg2 arg5 harg5 arg8 harg8 arg18 harg18 arg19 x0 x1 x4 x5 x6 x7 x8 x9 x10 x11 x17 a b).trans (by simp only [Nat.zero_add, Fin.val_zero, Nat.add_zero])) <| Agrees.cons_unit (fun a b => (co2_eq i arg1 harg1 arg2 harg2 arg5 harg5 arg8 harg8 arg18 harg18 arg19 x0 x1 x4 x5 x6 x7 x8 x9 x10 x11 x17 a b).trans (by simp only [Nat.zero_add, Fin.val_zero, Nat.add_zero])) <| Agrees.cons_unit (fun a b => (co1_eq i arg1 harg1 arg2 harg2 arg5 harg5 arg8 harg8 arg18 harg18 arg19 x0 x1 x4 x5 x6 x7 x8 x9 x10 x11 x17 a b).trans (by simp only [Nat.zero_add, Fin.val_zero, Nat.add_zero])) <| Agrees.cons_unit (fun a b => (co0_eq i arg1 harg1 arg2 harg2 arg5 harg5 arg8 harg8 arg18 harg18 arg19 x0 x1 x4 x5 x6 x7 x8 x9 x10 x11 x17 a b).trans (by simp only [Nat.zero_add, Fin.val_zero, Nat.add_zero])) <| Agrees.nil

theorem code_cover (y : S384x576.Idx) : ∃ p ∈ restRun.sl.H15_5 (F := Ideal) i arg1 harg1 arg2 harg2 arg5 harg5 arg6 harg6 arg7 harg7 arg8 harg8 arg9 harg9 arg18 harg18 arg19 arg21 x0 x1 x4 x5 x6 x7 x8 x17, y ∈ p.1.set :=
  View.cover_of_tiledBy (restRun.sl.H15_5 (F := Ideal) i arg1 harg1 arg2 harg2 arg5 harg5 arg6 harg6 arg7 harg7 arg8 harg8 arg9 harg9 arg18 harg18 arg19 arg21 x0 x1 x4 x5 x6 x7 x8 x17) S384x64.size (by sl_kernel_rfl) y

/-- A step's stores of the codes are its tokens'. -/
theorem code_left (f : arg16.view.ty.Contents (Elt Ideal)) (y : S384x576.Idx) :
    arg16.view.read (Elt Ideal) (arg16.view.writes (Elt Ideal) f (restRun.sl.H15_5 (F := Ideal) i arg1 harg1 arg2 harg2 arg5 harg5 arg6 harg6 arg7 harg7 arg8 harg8 arg9 harg9 arg18 harg18 arg19 arg21 x0 x1 x4 x5 x6 x7 x8 x17)) y = ((row i x0 x1 x4 x5 x6 x7 x8 x9 x10 x11 x17 (y 0))).code (y 1).val :=
  View.read_writes_apply_of_pieces arg16.view f (arr2 (e := .fp8e5m2) fun r n => ((row i x0 x1 x4 x5 x6 x7 x8 x9 x10 x11 x17 r)).code n) _ (code_agrees i arg1 harg1 arg2 harg2 arg5 harg5 arg6 harg6 arg7 harg7 arg8 harg8 arg9 harg9 arg18 harg18 arg19 arg21 x0 x1 x4 x5 x6 x7 x8 x9 x10 x11 x17) y (code_cover i arg1 harg1 arg2 harg2 arg5 harg5 arg6 harg6 arg7 harg7 arg8 harg8 arg9 harg9 arg18 harg18 arg19 arg21 x0 x1 x4 x5 x6 x7 x8 x17 y)

theorem scale_agrees : Agrees (arr2 (e := .f32) fun r n => ((row i x0 x1 x4 x5 x6 x7 x8 x9 x10 x11 x17 r)).scale n) (restRun.sl.H16_5 (F := Ideal) i arg1 harg1 arg2 harg2 arg5 harg5 arg6 harg6 arg7 harg7 arg8 harg8 arg9 harg9 arg18 harg18 arg19 arg21 x0 x1 x4 x5 x6 x7 x8 x17) := by
  unfold restRun.sl.H16_5 restRun.sl.H16_4 restRun.sl.H16_3 restRun.sl.H16_2 restRun.sl.H16_1
  exact Agrees.cons_unit (fun a b => (by obtain rfl : b = 0 := Subsingleton.elim _ _; exact (sc4_eq i arg6 harg6 arg7 harg7 arg9 harg9 arg21 x0 x1 x4 x5 x6 x7 x8 x9 x10 x11 x17 a).trans (by simp only [Nat.zero_add, Fin.val_zero, Nat.add_zero]))) <| Agrees.cons_unit (fun a b => (by obtain rfl : b = 0 := Subsingleton.elim _ _; exact (sc3_eq i arg1 harg1 arg2 harg2 arg5 harg5 arg8 harg8 arg18 harg18 arg19 x0 x1 x4 x5 x6 x7 x8 x9 x10 x11 x17 a).trans (by simp only [Nat.zero_add, Fin.val_zero, Nat.add_zero]))) <| Agrees.cons_unit (fun a b => (by obtain rfl : b = 0 := Subsingleton.elim _ _; exact (sc2_eq i arg1 harg1 arg2 harg2 arg5 harg5 arg8 harg8 arg18 harg18 arg19 x0 x1 x4 x5 x6 x7 x8 x9 x10 x11 x17 a).trans (by simp only [Nat.zero_add, Fin.val_zero, Nat.add_zero]))) <| Agrees.cons_unit (fun a b => (by obtain rfl : b = 0 := Subsingleton.elim _ _; exact (sc1_eq i arg1 harg1 arg2 harg2 arg5 harg5 arg8 harg8 arg18 harg18 arg19 x0 x1 x4 x5 x6 x7 x8 x9 x10 x11 x17 a).trans (by simp only [Nat.zero_add, Fin.val_zero, Nat.add_zero]))) <| Agrees.cons_unit (fun a b => (by obtain rfl : b = 0 := Subsingleton.elim _ _; exact (sc0_eq i arg1 harg1 arg2 harg2 arg5 harg5 arg8 harg8 arg18 harg18 arg19 x0 x1 x4 x5 x6 x7 x8 x9 x10 x11 x17 a).trans (by simp only [Nat.zero_add, Fin.val_zero, Nat.add_zero]))) <| Agrees.nil

theorem scale_cover (y : S384x5.Idx) : ∃ p ∈ restRun.sl.H16_5 (F := Ideal) i arg1 harg1 arg2 harg2 arg5 harg5 arg6 harg6 arg7 harg7 arg8 harg8 arg9 harg9 arg18 harg18 arg19 arg21 x0 x1 x4 x5 x6 x7 x8 x17, y ∈ p.1.set :=
  View.cover_of_tiledBy (restRun.sl.H16_5 (F := Ideal) i arg1 harg1 arg2 harg2 arg5 harg5 arg6 harg6 arg7 harg7 arg8 harg8 arg9 harg9 arg18 harg18 arg19 arg21 x0 x1 x4 x5 x6 x7 x8 x17) S384x1.size (by sl_kernel_rfl) y

/-- A step's stores of the scales are its tokens'. -/
theorem scale_left (f : arg17.view.ty.Contents (Elt Ideal)) (y : S384x5.Idx) :
    arg17.view.read (Elt Ideal) (arg17.view.writes (Elt Ideal) f (restRun.sl.H16_5 (F := Ideal) i arg1 harg1 arg2 harg2 arg5 harg5 arg6 harg6 arg7 harg7 arg8 harg8 arg9 harg9 arg18 harg18 arg19 arg21 x0 x1 x4 x5 x6 x7 x8 x17)) y = ((row i x0 x1 x4 x5 x6 x7 x8 x9 x10 x11 x17 (y 0))).scale (y 1).val :=
  View.read_writes_apply_of_pieces arg17.view f (arr2 (e := .f32) fun r n => ((row i x0 x1 x4 x5 x6 x7 x8 x9 x10 x11 x17 r)).scale n) _ (scale_agrees i arg1 harg1 arg2 harg2 arg5 harg5 arg6 harg6 arg7 harg7 arg8 harg8 arg9 harg9 arg18 harg18 arg19 arg21 x0 x1 x4 x5 x6 x7 x8 x9 x10 x11 x17) y (scale_cover i arg1 harg1 arg2 harg2 arg5 harg5 arg6 harg6 arg7 harg7 arg8 harg8 arg9 harg9 arg18 harg18 arg19 arg21 x0 x1 x4 x5 x6 x7 x8 x17 y)

end Cert.KernelIdeal.Val
-- ==== Proof.ArraysQuant.lean ====
/-
  What the kernel's steps leave of the codes and scales, and the arrays at the end.
-/
module

public import proofs.«01_k».proof.Proof.Arrays
public import proofs.«01_k».proof.Proof.LeftQuant

@[expose] public section

set_option maxRecDepth 16384

noncomputable section

namespace Cert.Tokens

open Idealize.ShloMosaic Idealize.ShloMosaic.TcCoe Idealize.ShloMosaic.Tactic Cert.Spec
open Idealize.SL Idealize.SL.Sem
open Cert.KernelIdeal Cert.KernelIdeal.Gen Cert.KernelIdeal.Body Cert.KernelIdeal.Track Cert.KernelIdeal.Val Cert.KernelIdeal.Link

variable (m : (ℓ : Loc nD τ sig) → Buf (Elt Ideal) ℓ) (c : Dev nD)

/-- What a point writes into window 15. -/
theorem restAt_w15 (t : Fin cfg0.N) (y13 : Vec Ideal S3x5x5120 .f32) (y14 : Vec Ideal S3x5x512 .f32) :
    (restAt m c t (wsc m c) y13 y14).1.2.2.2.1 = (win0_15.stage (cfg0.slots t 15)).view.writes (Elt Ideal) (win0_15.stage (cfg0.slots t 15)).view.junk (restRun.sl.H15_5 (F := Ideal) (grid0.coords t) (win0_0.stage (cfg0.slots t 0)) (hstage0_0 ((cfg0.slots t 0).cast nbuf0_0)) (win0_1.stage (cfg0.slots t 1)) (hstage0_1 ((cfg0.slots t 1).cast nbuf0_1)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.whole cc0_scratch3) (iblk m c 0 t) (iblk m c 1 t) (iblk m c 4 t) (iblk m c 5 t) (iblk m c 6 t) (iblk m c 7 t) (iblk m c 8 t) (wsc m c)) :=
  rest_w15 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (wsc m c) y13 y14

/-- What a point leaves of the codes: its tokens'. -/
theorem code_step (t : Fin cfg0.N) (y13 : Vec Ideal S3x5x5120 .f32) (y14 : Vec Ideal S3x5x512 .f32) (y : S384x576.Idx) :
    (ms15 t).view.read (Elt Ideal) (restAt m c t (wsc m c) y13 y14).1.2.2.2.1 y = (tok m c (384 * t.val + (y 0).val)).code (y 1).val := by
  have hy : (y 0).val < 384 := (y 0).isLt
  have h := code_left (grid0.coords t) (win0_0.stage (cfg0.slots t 0)) (hstage0_0 ((cfg0.slots t 0).cast nbuf0_0)) (win0_1.stage (cfg0.slots t 1)) (hstage0_1 ((cfg0.slots t 1).cast nbuf0_1)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_15.stage (cfg0.slots t 15)) (Memref.whole cc0_scratch0) (Memref.isWhole_whole _) (Memref.whole cc0_scratch1) (Memref.whole cc0_scratch3) (iblk m c 0 t) (iblk m c 1 t) (iblk m c 4 t) (iblk m c 5 t) (iblk m c 6 t) (iblk m c 7 t) (iblk m c 8 t) (iblk m c 9 t) (iblk m c 10 t) (iblk m c 11 t) (wsc m c) (win0_15.stage (cfg0.slots t 15)).view.junk y
  rw [krow_eq m c t (y 0).val hy] at h
  refine (congrArg (fun W => (ms15 t).view.read (Elt Ideal) W y) (restAt_w15 m c t y13 y14)).trans ?_
  unfold ms15
  exact h

/-- What the data say a point leaves in window 15. -/
theorem after15 (t : Fin cfg0.N) (Y X) (h : (rdat m c).after 15 t Y X) : ∃ y13 y14, X = (ms15 t).view.read (Elt Ideal) (restAt m c t (wsc m c) y13 y14).1.2.2.2.1 := h

theorem code_leaves (t : Fin cfg0.N) (X) (h : (rdat m c).Leaves 15 t X) (y : S384x576.Idx) :
    (X : Vec Ideal S384x576 _) y = (tok m c (384 * t.val + (y 0).val)).code (y 1).val := by
  obtain ⟨Y, hY, hA⟩ := h
  obtain ⟨y13, y14, rfl⟩ := after15 m c t Y X hA
  exact code_step m c t y13 y14 y

theorem idx15 : ∀ t : Fin cfg0.N, win0_15.index t = ![t.val, 0] :=
  (by decide +kernel : ∀ t : Fin grid0.N, win0_15.index t = ![t.val, 0])

/-- Result 4 of the kernel. -/
theorem ker15 (G) (h : (rdat m c).ArrAt 15 cfg0.N G) : G = codeArr (tok m c) := by
  obtain ⟨X, hX, hA⟩ := Pipeline.RDat.ArrAt.exists_exact h
  have e := hA (Function.update (fun _ _ _ => Classical.arbitrary _) 15 X) fun u _ _ => by rw [Function.update_self]
  rw [e]
  refine Pipeline.Dat.arrAt_eq_of_covers _ 15 _ (by decide +kernel) fun t hf y => ?_
  have hl := code_leaves m c t (X t) (hX t t.isLt hf)
  have ei := idx15 t
  blk_simp
  rw [Pipeline.RDat.withAfter_after, Function.update_self]
  refine (hl _).trans ?_
  unfold codeArr
  have h0 := (win0_15.rect_emb_val t y 0)
  have h1 := (win0_15.rect_emb_val t y 1)
  rw [ei] at h0 h1
  have a0 : 384 * t.val + (y 0).val = t.val * 384 + (y 0).val := by omega
  have a1 : (y 1).val = 0 * 576 + (y 1).val := by omega
  exact congr (congrArg (fun n => (tok m c n).code) (a0.trans h0.symm)) (a1.trans h1.symm)

/-- What a point writes into window 16. -/
theorem restAt_w16 (t : Fin cfg0.N) (y13 : Vec Ideal S3x5x5120 .f32) (y14 : Vec Ideal S3x5x512 .f32) :
    (restAt m c t (wsc m c) y13 y14).1.2.2.2.2 = (win0_16.stage (cfg0.slots t 16)).view.writes (Elt Ideal) (win0_16.stage (cfg0.slots t 16)).view.junk (restRun.sl.H16_5 (F := Ideal) (grid0.coords t) (win0_0.stage (cfg0.slots t 0)) (hstage0_0 ((cfg0.slots t 0).cast nbuf0_0)) (win0_1.stage (cfg0.slots t 1)) (hstage0_1 ((cfg0.slots t 1).cast nbuf0_1)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.whole cc0_scratch3) (iblk m c 0 t) (iblk m c 1 t) (iblk m c 4 t) (iblk m c 5 t) (iblk m c 6 t) (iblk m c 7 t) (iblk m c 8 t) (wsc m c)) :=
  rest_w16 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (wsc m c) y13 y14

/-- What a point leaves of the scales: its tokens'. -/
theorem scale_step (t : Fin cfg0.N) (y13 : Vec Ideal S3x5x5120 .f32) (y14 : Vec Ideal S3x5x512 .f32) (y : S384x5.Idx) :
    (ms16 t).view.read (Elt Ideal) (restAt m c t (wsc m c) y13 y14).1.2.2.2.2 y = (tok m c (384 * t.val + (y 0).val)).scale (y 1).val := by
  have hy : (y 0).val < 384 := (y 0).isLt
  have h := scale_left (grid0.coords t) (win0_0.stage (cfg0.slots t 0)) (hstage0_0 ((cfg0.slots t 0).cast nbuf0_0)) (win0_1.stage (cfg0.slots t 1)) (hstage0_1 ((cfg0.slots t 1).cast nbuf0_1)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_16.stage (cfg0.slots t 16)) (Memref.whole cc0_scratch0) (Memref.isWhole_whole _) (Memref.whole cc0_scratch1) (Memref.whole cc0_scratch3) (iblk m c 0 t) (iblk m c 1 t) (iblk m c 4 t) (iblk m c 5 t) (iblk m c 6 t) (iblk m c 7 t) (iblk m c 8 t) (iblk m c 9 t) (iblk m c 10 t) (iblk m c 11 t) (wsc m c) (win0_16.stage (cfg0.slots t 16)).view.junk y
  rw [krow_eq m c t (y 0).val hy] at h
  refine (congrArg (fun W => (ms16 t).view.read (Elt Ideal) W y) (restAt_w16 m c t y13 y14)).trans ?_
  unfold ms16
  exact h

/-- What the data say a point leaves in window 16. -/
theorem after16 (t : Fin cfg0.N) (Y X) (h : (rdat m c).after 16 t Y X) : ∃ y13 y14, X = (ms16 t).view.read (Elt Ideal) (restAt m c t (wsc m c) y13 y14).1.2.2.2.2 := h

theorem scale_leaves (t : Fin cfg0.N) (X) (h : (rdat m c).Leaves 16 t X) (y : S384x5.Idx) :
    (X : Vec Ideal S384x5 _) y = (tok m c (384 * t.val + (y 0).val)).scale (y 1).val := by
  obtain ⟨Y, hY, hA⟩ := h
  obtain ⟨y13, y14, rfl⟩ := after16 m c t Y X hA
  exact scale_step m c t y13 y14 y

theorem idx16 : ∀ t : Fin cfg0.N, win0_16.index t = ![t.val, 0] :=
  (by decide +kernel : ∀ t : Fin grid0.N, win0_16.index t = ![t.val, 0])

/-- Result 5 of the kernel. -/
theorem ker16 (G) (h : (rdat m c).ArrAt 16 cfg0.N G) : G = scaleArr (tok m c) := by
  obtain ⟨X, hX, hA⟩ := Pipeline.RDat.ArrAt.exists_exact h
  have e := hA (Function.update (fun _ _ _ => Classical.arbitrary _) 16 X) fun u _ _ => by rw [Function.update_self]
  rw [e]
  refine Pipeline.Dat.arrAt_eq_of_covers _ 16 _ (by decide +kernel) fun t hf y => ?_
  have hl := scale_leaves m c t (X t) (hX t t.isLt hf)
  have ei := idx16 t
  blk_simp
  rw [Pipeline.RDat.withAfter_after, Function.update_self]
  refine (hl _).trans ?_
  unfold scaleArr
  have h0 := (win0_16.rect_emb_val t y 0)
  have h1 := (win0_16.rect_emb_val t y 1)
  rw [ei] at h0 h1
  have a0 : 384 * t.val + (y 0).val = t.val * 384 + (y 0).val := by omega
  have a1 : (y 1).val = 0 * 5 + (y 1).val := by omega
  exact congr (congrArg (fun n => (tok m c n).scale) (a0.trans h0.symm)) (a1.trans h1.symm)

end Cert.Tokens
-- ==== Proof.KvGrad.lean ====
/-
  The dequantised gradient and the input norm of the kernel, entry by entry.
-/
module

public import proofs.«01_k».proof.Proof.KvQuant

@[expose] public section

set_option maxRecDepth 16384

noncomputable section

namespace Cert.KernelIdeal.Val

open Idealize.ShloMosaic Idealize.ShloMosaic.Tactic Cert.Spec Cert.KernelIdeal Cert.KernelIdeal.Gen Cert.KernelIdeal.Body

/-- Lanes of 128 columns, summed over the lanes, are all the columns. -/
theorem lanes (f : ℕ → EReal) : ∑ a : Fin 128, ∑ q ∈ Finset.range 40, f (128 * q + a.val) = ∑ k : Fin 5120, f k := by
  rw [Finset.sum_comm, ← Fin.sum_univ_eq_sum_range (fun q => ∑ a : Fin 128, f (128 * q + a.val)) 40, ← Finset.sum_product', Finset.univ_product_univ]
  refine Fintype.sum_equiv (finProdFinEquiv (m := 40) (n := 128)) _ _ fun x => ?_
  refine congrArg f ?_
  show 128 * x.1.val + x.2.val = x.2.val + 128 * x.1.val
  omega

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

/-- The dequantised gradient. -/
theorem gm_eq (r : Fin 384) (n : Fin 576) : restRun.sl.r_60 (F := Ideal) i arg1 harg1 arg2 harg2 arg5 harg5 arg6 harg6 arg7 harg7 arg8 harg8 arg9 harg9 arg18 harg18 arg19 arg21 x0 x1 x4 x5 x6 x7 x8 x17 (ix2 r n) = ((row i x0 x1 x4 x5 x6 x7 x8 x9 x10 x11 x17 r)).code n * ((row i x0 x1 x4 x5 x6 x7 x8 x9 x10 x11 x17 r)).scale (n / 128) := by
  have c0 (r : Fin 384) (n : Fin 128) := co0_eq i arg1 harg1 arg2 harg2 arg5 harg5 arg8 harg8 arg18 harg18 arg19 x0 x1 x4 x5 x6 x7 x8 x9 x10 x11 x17 r n
  have s0 (r : Fin 384) := sc0_eq i arg1 harg1 arg2 harg2 arg5 harg5 arg8 harg8 arg18 harg18 arg19 x0 x1 x4 x5 x6 x7 x8 x9 x10 x11 x17 r
  have c1 (r : Fin 384) (n : Fin 128) := co1_eq i arg1 harg1 arg2 harg2 arg5 harg5 arg8 harg8 arg18 harg18 arg19 x0 x1 x4 x5 x6 x7 x8 x9 x10 x11 x17 r n
  have s1 (r : Fin 384) := sc1_eq i arg1 harg1 arg2 harg2 arg5 harg5 arg8 harg8 arg18 harg18 arg19 x0 x1 x4 x5 x6 x7 x8 x9 x10 x11 x17 r
  have c2 (r : Fin 384) (n : Fin 128) := co2_eq i arg1 harg1 arg2 harg2 arg5 harg5 arg8 harg8 arg18 harg18 arg19 x0 x1 x4 x5 x6 x7 x8 x9 x10 x11 x17 r n
  have s2 (r : Fin 384) := sc2_eq i arg1 harg1 arg2 harg2 arg5 harg5 arg8 harg8 arg18 harg18 arg19 x0 x1 x4 x5 x6 x7 x8 x9 x10 x11 x17 r
  have c3 (r : Fin 384) (n : Fin 128) := co3_eq i arg1 harg1 arg2 harg2 arg5 harg5 arg8 harg8 arg18 harg18 arg19 x0 x1 x4 x5 x6 x7 x8 x9 x10 x11 x17 r n
  have s3 (r : Fin 384) := sc3_eq i arg1 harg1 arg2 harg2 arg5 harg5 arg8 harg8 arg18 harg18 arg19 x0 x1 x4 x5 x6 x7 x8 x9 x10 x11 x17 r
  have c4 (r : Fin 384) (n : Fin 64) := co4_eq i arg6 harg6 arg7 harg7 arg9 harg9 arg21 x0 x1 x4 x5 x6 x7 x8 x9 x10 x11 x17 r n
  have s4 (r : Fin 384) := sc4_eq i arg6 harg6 arg7 harg7 arg9 harg9 arg21 x0 x1 x4 x5 x6 x7 x8 x9 x10 x11 x17 r
  unfold restRun.sl.r_60 restRun.sl.r_44 restRun.sl.r_48 restRun.sl.r_52 restRun.sl.r_57
  pointwise [k0_pay393, k0_pay361, k0_pay368, k0_pay377, k0_pay385]
  simp only [c0, c1, c2, c3, c4, s0, s1, s2, s3, s4]
  have e (a g : ℕ) (ha : a = n.val) (hg : g = n.val / 128) : ((row i x0 x1 x4 x5 x6 x7 x8 x9 x10 x11 x17 r)).code a * ((row i x0 x1 x4 x5 x6 x7 x8 x9 x10 x11 x17 r)).scale g = ((row i x0 x1 x4 x5 x6 x7 x8 x9 x10 x11 x17 r)).code n * ((row i x0 x1 x4 x5 x6 x7 x8 x9 x10 x11 x17 r)).scale (n / 128) := by rw [ha, hg]
  have hn := n.isLt
  repeat' split
  all_goals exact e _ _ (by omega) (by omega)

/-- Partial sums of the squared input over the column blocks, lane by lane. -/
theorem hr_61_eq (r : Fin 384) (a : Fin 128) : restRun.sl.r_61 (F := Ideal) arg10 harg10 x9 (ix2 r a) = ∑ q ∈ Finset.range 2, ((row i x0 x1 x4 x5 x6 x7 x8 x9 x10 x11 x17 r)).h (128 * q + a) * ((row i x0 x1 x4 x5 x6 x7 x8 x9 x10 x11 x17 r)).h (128 * q + a) := by
  unfold restRun.sl.r_61
  simp only [readAt_unread_eq]
  unfold_payloads
  pointwise []
  simp only [at2_eq x0, at2_eq x1, at2_eq x4, at2_eq x5, at2_eq x7, at2_eq x8, at2_eq x9, at2_eq x10, at2_eq x11, at2_eq x17]
  simp only [Finset.sum_range_succ, Finset.sum_range_zero, Nat.reduceMul, Nat.zero_add, zero_add]
  rfl

/-- Partial sums of the squared input over the column blocks, lane by lane. -/
theorem hr_62_eq (r : Fin 384) (a : Fin 128) : restRun.sl.r_62 (F := Ideal) arg10 harg10 x9 (ix2 r a) = ∑ q ∈ Finset.range 10, ((row i x0 x1 x4 x5 x6 x7 x8 x9 x10 x11 x17 r)).h (128 * q + a) * ((row i x0 x1 x4 x5 x6 x7 x8 x9 x10 x11 x17 r)).h (128 * q + a) := by
  have hp (r : Fin 384) (a : Fin 128) := hr_61_eq i arg10 harg10 x0 x1 x4 x5 x6 x7 x8 x9 x10 x11 x17 r a
  unfold restRun.sl.r_62
  simp only [readAt_unread_eq]
  unfold_payloads
  pointwise []
  simp only [hp, at2_eq x0, at2_eq x1, at2_eq x4, at2_eq x5, at2_eq x7, at2_eq x8, at2_eq x9, at2_eq x10, at2_eq x11, at2_eq x17]
  simp only [Finset.sum_range_succ, Finset.sum_range_zero, Nat.reduceMul, Nat.zero_add, zero_add]
  rfl

/-- Partial sums of the squared input over the column blocks, lane by lane. -/
theorem hr_64_eq (r : Fin 384) (a : Fin 128) : restRun.sl.r_64 (F := Ideal) arg10 harg10 x9 (ix2 r a) = ∑ q ∈ Finset.range 19, ((row i x0 x1 x4 x5 x6 x7 x8 x9 x10 x11 x17 r)).h (128 * q + a) * ((row i x0 x1 x4 x5 x6 x7 x8 x9 x10 x11 x17 r)).h (128 * q + a) := by
  have hp (r : Fin 384) (a : Fin 128) := hr_62_eq i arg10 harg10 x0 x1 x4 x5 x6 x7 x8 x9 x10 x11 x17 r a
  unfold restRun.sl.r_64 restRun.sl.r_63
  simp only [readAt_unread_eq]
  unfold_payloads
  pointwise []
  simp only [hp, at2_eq x0, at2_eq x1, at2_eq x4, at2_eq x5, at2_eq x7, at2_eq x8, at2_eq x9, at2_eq x10, at2_eq x11, at2_eq x17]
  simp only [Finset.sum_range_succ, Finset.sum_range_zero, Nat.reduceMul, Nat.zero_add, zero_add]
  rfl

/-- Partial sums of the squared input over the column blocks, lane by lane. -/
theorem hr_65_eq (r : Fin 384) (a : Fin 128) : restRun.sl.r_65 (F := Ideal) arg10 harg10 x9 (ix2 r a) = ∑ q ∈ Finset.range 27, ((row i x0 x1 x4 x5 x6 x7 x8 x9 x10 x11 x17 r)).h (128 * q + a) * ((row i x0 x1 x4 x5 x6 x7 x8 x9 x10 x11 x17 r)).h (128 * q + a) := by
  have hp (r : Fin 384) (a : Fin 128) := hr_64_eq i arg10 harg10 x0 x1 x4 x5 x6 x7 x8 x9 x10 x11 x17 r a
  unfold restRun.sl.r_65
  simp only [readAt_unread_eq]
  unfold_payloads
  pointwise []
  simp only [hp, at2_eq x0, at2_eq x1, at2_eq x4, at2_eq x5, at2_eq x7, at2_eq x8, at2_eq x9, at2_eq x10, at2_eq x11, at2_eq x17]
  simp only [Finset.sum_range_succ, Finset.sum_range_zero, Nat.reduceMul, Nat.zero_add, zero_add]
  rfl

/-- Partial sums of the squared input over the column blocks, lane by lane. -/
theorem hr_67_eq (r : Fin 384) (a : Fin 128) : restRun.sl.r_67 (F := Ideal) arg10 harg10 x9 (ix2 r a) = ∑ q ∈ Finset.range 36, ((row i x0 x1 x4 x5 x6 x7 x8 x9 x10 x11 x17 r)).h (128 * q + a) * ((row i x0 x1 x4 x5 x6 x7 x8 x9 x10 x11 x17 r)).h (128 * q + a) := by
  have hp (r : Fin 384) (a : Fin 128) := hr_65_eq i arg10 harg10 x0 x1 x4 x5 x6 x7 x8 x9 x10 x11 x17 r a
  unfold restRun.sl.r_67 restRun.sl.r_66
  simp only [readAt_unread_eq]
  unfold_payloads
  pointwise []
  simp only [hp, at2_eq x0, at2_eq x1, at2_eq x4, at2_eq x5, at2_eq x7, at2_eq x8, at2_eq x9, at2_eq x10, at2_eq x11, at2_eq x17]
  simp only [Finset.sum_range_succ, Finset.sum_range_zero, Nat.reduceMul, Nat.zero_add, zero_add]
  rfl

/-- The input's reciprocal root mean square. -/
theorem rstdH_eq (r : Fin 384) : restRun.sl.r_69 (F := Ideal) arg10 harg10 x9 (ix2 r 0) = ((row i x0 x1 x4 x5 x6 x7 x8 x9 x10 x11 x17 r)).rstdH := by
  have hp (r : Fin 384) (a : Fin 128) := hr_67_eq i arg10 harg10 x0 x1 x4 x5 x6 x7 x8 x9 x10 x11 x17 r a
  unfold restRun.sl.r_69 restRun.sl.r_68
  simp only [readAt_unread_eq]
  unfold_payloads
  pointwise []
  simp only [hp, at2_eq x0, at2_eq x1, at2_eq x4, at2_eq x5, at2_eq x7, at2_eq x8, at2_eq x9, at2_eq x10, at2_eq x11, at2_eq x17]
  unfold Row.rstdH
  rw [← lanes fun k => ((row i x0 x1 x4 x5 x6 x7 x8 x9 x10 x11 x17 r)).h k * ((row i x0 x1 x4 x5 x6 x7 x8 x9 x10 x11 x17 r)).h k]
  simp only [Finset.sum_range_succ, Finset.sum_range_zero, Nat.reduceMul, Nat.zero_add, zero_add]
  rfl

/-- A chunk of the input times the projection's gradient. -/
theorem p0_eq (r : Fin 384) (b : Fin 512) : restRun.sl.r_70 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (b) * ((row i x0 x1 x4 x5 x6 x7 x8 x9 x10 x11 x17 r)).h (b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_70
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

/-- A chunk of the input times the projection's gradient. -/
theorem p1_eq (r : Fin 384) (b : Fin 512) : restRun.sl.r_75 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (512 + b) * ((row i x0 x1 x4 x5 x6 x7 x8 x9 x10 x11 x17 r)).h (512 + b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_75
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

/-- A chunk of the input times the projection's gradient. -/
theorem p2_eq (r : Fin 384) (b : Fin 512) : restRun.sl.r_78 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (1024 + b) * ((row i x0 x1 x4 x5 x6 x7 x8 x9 x10 x11 x17 r)).h (1024 + b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_78
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

/-- A chunk of the input times the projection's gradient. -/
theorem p3_eq (r : Fin 384) (b : Fin 512) : restRun.sl.r_82 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (1536 + b) * ((row i x0 x1 x4 x5 x6 x7 x8 x9 x10 x11 x17 r)).h (1536 + b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_82
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

/-- A chunk of the input times the projection's gradient. -/
theorem p4_eq (r : Fin 384) (b : Fin 512) : restRun.sl.r_87 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (2048 + b) * ((row i x0 x1 x4 x5 x6 x7 x8 x9 x10 x11 x17 r)).h (2048 + b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_87
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

/-- A chunk of the input times the projection's gradient. -/
theorem p5_eq (r : Fin 384) (b : Fin 512) : restRun.sl.r_90 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (2560 + b) * ((row i x0 x1 x4 x5 x6 x7 x8 x9 x10 x11 x17 r)).h (2560 + b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_90
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

/-- A chunk of the input times the projection's gradient. -/
theorem p6_eq (r : Fin 384) (b : Fin 512) : restRun.sl.r_95 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (3072 + b) * ((row i x0 x1 x4 x5 x6 x7 x8 x9 x10 x11 x17 r)).h (3072 + b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_95
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

/-- A chunk of the input times the projection's gradient. -/
theorem p7_eq (r : Fin 384) (b : Fin 512) : restRun.sl.r_98 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (3584 + b) * ((row i x0 x1 x4 x5 x6 x7 x8 x9 x10 x11 x17 r)).h (3584 + b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_98
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

/-- A chunk of the input times the projection's gradient. -/
theorem p8_eq (r : Fin 384) (b : Fin 512) : restRun.sl.r_102 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (4096 + b) * ((row i x0 x1 x4 x5 x6 x7 x8 x9 x10 x11 x17 r)).h (4096 + b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_102
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

/-- A chunk of the input times the projection's gradient. -/
theorem p9_eq (r : Fin 384) (b : Fin 512) : restRun.sl.r_107 (F := Ideal) i arg1 harg1 arg2 harg2 arg5 harg5 arg6 harg6 arg7 harg7 arg8 harg8 arg9 harg9 arg10 harg10 arg18 harg18 arg19 arg21 x0 x1 x4 x5 x6 x7 x8 x9 x17 (ix2 r b) = ((row i x0 x1 x4 x5 x6 x7 x8 x9 x10 x11 x17 r)).dx (4608 + b) * ((row i x0 x1 x4 x5 x6 x7 x8 x9 x10 x11 x17 r)).h (4608 + b) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.r_107
  simp only [readAt_unread_eq]
  unfold_payloads
  pointwise []
  simp only [hg, at2_eq x0, at2_eq x1, at2_eq x4, at2_eq x5, at2_eq x7, at2_eq x8, at2_eq x9, at2_eq x10, at2_eq x11, at2_eq x17]
  rfl

end Cert.KernelIdeal.Val
-- ==== Proof.KvDag.lean ====
/-
  The stored gradient of the residual gain, entry by entry.
-/
module

public import proofs.«01_k».proof.Proof.KvGrad

@[expose] public section

set_option maxRecDepth 16384

noncomputable section

namespace Cert.KernelIdeal.Val

open Idealize.ShloMosaic Idealize.ShloMosaic.Tactic Cert.Spec Cert.KernelIdeal Cert.KernelIdeal.Gen Cert.KernelIdeal.Body

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

/-- Columns 4608–5119 of the residual gain's gradient of the step's token group 2. -/
theorem dag9_2_eq (n : Fin 512) : k0_pay491 (restRun.sl.r_108 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (4608 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_108, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 4608–5119 of the residual gain's gradient of the step's token group 1. -/
theorem dag9_1_eq (n : Fin 512) : k0_pay490 (restRun.sl.r_108 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (4608 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_108, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 4608–5119 of the residual gain's gradient of the step's token group 0. -/
theorem dag9_0_eq (n : Fin 512) : k0_pay489 (restRun.sl.r_108 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (4608 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_108, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 4096–4607 of the residual gain's gradient of the step's token group 2. -/
theorem dag8_2_eq (n : Fin 512) : k0_pay483 (restRun.sl.r_103 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (4096 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_103, restRun.sl.r_102, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 4096–4607 of the residual gain's gradient of the step's token group 1. -/
theorem dag8_1_eq (n : Fin 512) : k0_pay482 (restRun.sl.r_105 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (4096 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_105, restRun.sl.r_103, restRun.sl.r_102, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 4096–4607 of the residual gain's gradient of the step's token group 0. -/
theorem dag8_0_eq (n : Fin 512) : k0_pay480 (restRun.sl.r_104 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (4096 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_104, restRun.sl.r_102, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 3584–4095 of the residual gain's gradient of the step's token group 2. -/
theorem dag7_2_eq (n : Fin 512) : k0_pay473 (restRun.sl.r_99 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (3584 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_99, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 3584–4095 of the residual gain's gradient of the step's token group 1. -/
theorem dag7_1_eq (n : Fin 512) : k0_pay472 (restRun.sl.r_99 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (3584 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_99, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 3584–4095 of the residual gain's gradient of the step's token group 0. -/
theorem dag7_0_eq (n : Fin 512) : k0_pay471 (restRun.sl.r_99 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (3584 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_99, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 3072–3583 of the residual gain's gradient of the step's token group 2. -/
theorem dag6_2_eq (n : Fin 512) : k0_pay465 (restRun.sl.r_96 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (3072 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_96, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 3072–3583 of the residual gain's gradient of the step's token group 1. -/
theorem dag6_1_eq (n : Fin 512) : k0_pay464 (restRun.sl.r_96 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (3072 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_96, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 3072–3583 of the residual gain's gradient of the step's token group 0. -/
theorem dag6_0_eq (n : Fin 512) : k0_pay463 (restRun.sl.r_96 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (3072 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_96, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 2560–3071 of the residual gain's gradient of the step's token group 2. -/
theorem dag5_2_eq (n : Fin 512) : k0_pay454 (restRun.sl.r_91 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (2560 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_91, restRun.sl.r_90, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 2560–3071 of the residual gain's gradient of the step's token group 1. -/
theorem dag5_1_eq (n : Fin 512) : k0_pay453 (restRun.sl.r_91 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (2560 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_91, restRun.sl.r_90, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 2560–3071 of the residual gain's gradient of the step's token group 0. -/
theorem dag5_0_eq (n : Fin 512) : k0_pay452 (restRun.sl.r_69 (F := Ideal) arg10 harg10 x9) (restRun.sl.r_90 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (2560 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_90, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 2048–2559 of the residual gain's gradient of the step's token group 2. -/
theorem dag4_2_eq (n : Fin 512) : k0_pay446 (restRun.sl.r_88 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (2048 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_88, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 2048–2559 of the residual gain's gradient of the step's token group 1. -/
theorem dag4_1_eq (n : Fin 512) : k0_pay445 (restRun.sl.r_88 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (2048 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_88, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 2048–2559 of the residual gain's gradient of the step's token group 0. -/
theorem dag4_0_eq (n : Fin 512) : k0_pay444 (restRun.sl.r_88 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (2048 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_88, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 1536–2047 of the residual gain's gradient of the step's token group 2. -/
theorem dag3_2_eq (n : Fin 512) : k0_pay438 (restRun.sl.r_83 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (1536 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_83, restRun.sl.r_82, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 1536–2047 of the residual gain's gradient of the step's token group 1. -/
theorem dag3_1_eq (n : Fin 512) : k0_pay437 (restRun.sl.r_85 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (1536 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_85, restRun.sl.r_83, restRun.sl.r_82, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 1536–2047 of the residual gain's gradient of the step's token group 0. -/
theorem dag3_0_eq (n : Fin 512) : k0_pay435 (restRun.sl.r_84 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (1536 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_84, restRun.sl.r_82, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 1024–1535 of the residual gain's gradient of the step's token group 2. -/
theorem dag2_2_eq (n : Fin 512) : k0_pay428 (restRun.sl.r_79 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (1024 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_79, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 1024–1535 of the residual gain's gradient of the step's token group 1. -/
theorem dag2_1_eq (n : Fin 512) : k0_pay427 (restRun.sl.r_79 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (1024 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_79, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 1024–1535 of the residual gain's gradient of the step's token group 0. -/
theorem dag2_0_eq (n : Fin 512) : k0_pay426 (restRun.sl.r_79 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (1024 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_79, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 512–1023 of the residual gain's gradient of the step's token group 2. -/
theorem dag1_2_eq (n : Fin 512) : k0_pay420 (restRun.sl.r_76 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (512 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_76, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 512–1023 of the residual gain's gradient of the step's token group 1. -/
theorem dag1_1_eq (n : Fin 512) : k0_pay419 (restRun.sl.r_76 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (512 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_76, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 512–1023 of the residual gain's gradient of the step's token group 0. -/
theorem dag1_0_eq (n : Fin 512) : k0_pay418 (restRun.sl.r_76 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (512 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_76, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 0–511 of the residual gain's gradient of the step's token group 2. -/
theorem dag0_2_eq (n : Fin 512) : k0_pay409 (restRun.sl.r_71 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (256 + a))).dagp (0 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_71, restRun.sl.r_70, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 0–511 of the residual gain's gradient of the step's token group 1. -/
theorem dag0_1_eq (n : Fin 512) : k0_pay408 (restRun.sl.r_71 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (128 + a))).dagp (0 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_71, restRun.sl.r_70, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

/-- Columns 0–511 of the residual gain's gradient of the step's token group 0. -/
theorem dag0_0_eq (n : Fin 512) : k0_pay407 (restRun.sl.r_69 (F := Ideal) arg10 harg10 x9) (restRun.sl.r_70 (F := Ideal) i arg1 harg1 arg2 harg2 arg5 harg5 arg6 harg6 arg7 harg7 arg8 harg8 arg9 harg9 arg10 harg10 arg18 harg18 arg19 arg21 x0 x1 x4 x5 x6 x7 x8 x9 x17) (ix3 0 0 n) = ∑ a : Fin 128, ((row i x0 x1 x4 x5 x6 x7 x8 x9 x10 x11 x17 (0 + a))).dagp (0 + n) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  have hn (r : Fin 384) := rstdH_eq i arg10 harg10 x0 x1 x4 x5 x6 x7 x8 x9 x10 x11 x17 r
  simp only [restRun.sl.r_70, readAt_unread_eq]
  unfold_payloads
  pointwise []
  simp only [hg, hn, at2_eq x0, at2_eq x1, at2_eq x4, at2_eq x5, at2_eq x7, at2_eq x8, at2_eq x9, at2_eq x10, at2_eq x11, at2_eq x17]
  try simp only [Nat.zero_add]
  rfl

end Cert.KernelIdeal.Val
-- ==== Proof.LeftDag.lean ====
/-
  What one step of the kernel leaves of the gradient of the residual gain.
-/
module

public import proofs.«01_k».proof.Proof.KvDag
public import proofs.«01_k».proof.Proof.Left

@[expose] public section

set_option maxRecDepth 16384

noncomputable section

namespace Cert.KernelIdeal.Val

open Idealize.ShloMosaic Idealize.ShloMosaic.Tactic Cert.Spec Cert.KernelIdeal Cert.KernelIdeal.Gen Cert.KernelIdeal.Body

/-- Stores of pieces of rows, each listed with its row (from the step's first) and its first column, and holding the part of `G` there: an entry of a listed piece is `G`'s, any other is as found. -/
def Own (s : ℕ) (G : ℕ → ℕ → EReal) (L : List (View.Piece (Elt Ideal) S3x5x5120 .f32)) (P : List (ℕ × ℕ)) : Prop :=
  ∀ (sp : Space) (v : View sig .tc sp S3x5x5120 .f32) (f : v.ty.Contents (Elt Ideal)) (y : S3x5x5120.Idx),
    ((∃ p ∈ P, 5 * (y 0).val + (y 1).val = 3 * s + p.1 ∧ p.2 ≤ (y 2).val ∧ (y 2).val < p.2 + 512) →
      v.read (Elt Ideal) (v.writes (Elt Ideal) f L) y = G (5 * (y 0).val + (y 1).val) (y 2).val) ∧
    ((¬ ∃ p ∈ P, 5 * (y 0).val + (y 1).val = 3 * s + p.1 ∧ p.2 ≤ (y 2).val ∧ (y 2).val < p.2 + 512) →
      v.read (Elt Ideal) (v.writes (Elt Ideal) f L) y = v.read (Elt Ideal) f y)

/-- No stores. -/
theorem Own.nil {s : ℕ} {G : ℕ → ℕ → EReal} : Own s G [] [] := fun _ v f y =>
  ⟨fun ⟨_, h, _⟩ => absurd h List.not_mem_nil, fun _ => rfl⟩

/-- One store more. -/
theorem Own.cons {s j o : ℕ} {G : ℕ → ℕ → EReal} {off : Fin 3 → ℕ} {inb} {w : (⟨3, ![1, 1, 512]⟩ : Shape).Idx → Elt Ideal .f32}
    {L : List (View.Piece (Elt Ideal) S3x5x5120 .f32)} {P : List (ℕ × ℕ)} (hoff : off = ![(3 * s + j) / 5, (3 * s + j) % 5, o])
    (hw : ∀ n : Fin 512, w (ix3 0 0 n) = G (3 * s + j) (o + n)) (h : Own s G L P) :
    Own s G (⟨Rect.unit (s := S3x5x5120) off ![1, 1, 512] inb, w⟩ :: L) ((j, o) :: P) := by
  intro sp v f y
  have hy1 : (y 1).val < 5 := (y 1).isLt
  by_cases hin : 5 * (y 0).val + (y 1).val = 3 * s + j ∧ o ≤ (y 2).val ∧ (y 2).val < o + 512
  · refine ⟨fun _ => ?_, fun hn => absurd ⟨(j, o), List.mem_cons_self, hin⟩ hn⟩
    obtain ⟨h0, h1, h2⟩ := hin
    refine (hit3 _ _ w L y hoff (by omega) (by omega) ⟨(y 2).val - o, by omega⟩ (by show _ = o + ((y 2).val - o); omega)).trans ((hw _).trans ?_)
    show G (3 * s + j) (o + ((y 2).val - o)) = _
    rw [h0, Nat.add_sub_cancel' h1]
  · have hm := miss3 v f w L y (inb := inb) hoff (by omega)
    refine ⟨fun he => hm.trans ((h sp v f y).1 ?_), fun hn => hm.trans ((h sp v f y).2 ?_)⟩
    · obtain ⟨p, hp, hq⟩ := he
      rcases List.mem_cons.1 hp with rfl | hp
      · exact absurd hq hin
      · exact ⟨p, hp, hq⟩
    · rintro ⟨p, hp, hq⟩
      exact hn ⟨p, List.mem_cons_of_mem _ hp, hq⟩

/-- Where a step stores a chunk of its rows. -/
theorem off3_eq : ∀ i : grid0.Coords, ∀ q : Fin 3, k0_off3 i (BitVec.ofNat 32 q.val) = ![(3 * (i 0).val + q.val) / 5, (3 * (i 0).val + q.val) % 5, 0] := by
  decide +kernel

/-- Where a step stores a chunk of its rows. -/
theorem off4_eq : ∀ i : grid0.Coords, ∀ q : Fin 3, k0_off4 i (BitVec.ofNat 32 q.val) = ![(3 * (i 0).val + q.val) / 5, (3 * (i 0).val + q.val) % 5, 512] := by
  decide +kernel

/-- Where a step stores a chunk of its rows. -/
theorem off5_eq : ∀ i : grid0.Coords, ∀ q : Fin 3, k0_off5 i (BitVec.ofNat 32 q.val) = ![(3 * (i 0).val + q.val) / 5, (3 * (i 0).val + q.val) % 5, 1024] := by
  decide +kernel

/-- Where a step stores a chunk of its rows. -/
theorem off6_eq : ∀ i : grid0.Coords, ∀ q : Fin 3, k0_off6 i (BitVec.ofNat 32 q.val) = ![(3 * (i 0).val + q.val) / 5, (3 * (i 0).val + q.val) % 5, 1536] := by
  decide +kernel

/-- Where a step stores a chunk of its rows. -/
theorem off7_eq : ∀ i : grid0.Coords, ∀ q : Fin 3, k0_off7 i (BitVec.ofNat 32 q.val) = ![(3 * (i 0).val + q.val) / 5, (3 * (i 0).val + q.val) % 5, 2048] := by
  decide +kernel

/-- Where a step stores a chunk of its rows. -/
theorem off8_eq : ∀ i : grid0.Coords, ∀ q : Fin 3, k0_off8 i (BitVec.ofNat 32 q.val) = ![(3 * (i 0).val + q.val) / 5, (3 * (i 0).val + q.val) % 5, 2560] := by
  decide +kernel

/-- Where a step stores a chunk of its rows. -/
theorem off9_eq : ∀ i : grid0.Coords, ∀ q : Fin 3, k0_off9 i (BitVec.ofNat 32 q.val) = ![(3 * (i 0).val + q.val) / 5, (3 * (i 0).val + q.val) % 5, 3072] := by
  decide +kernel

/-- Where a step stores a chunk of its rows. -/
theorem off10_eq : ∀ i : grid0.Coords, ∀ q : Fin 3, k0_off10 i (BitVec.ofNat 32 q.val) = ![(3 * (i 0).val + q.val) / 5, (3 * (i 0).val + q.val) % 5, 3584] := by
  decide +kernel

/-- Where a step stores a chunk of its rows. -/
theorem off11_eq : ∀ i : grid0.Coords, ∀ q : Fin 3, k0_off11 i (BitVec.ofNat 32 q.val) = ![(3 * (i 0).val + q.val) / 5, (3 * (i 0).val + q.val) % 5, 4096] := by
  decide +kernel

/-- Where a step stores a chunk of its rows. -/
theorem off12_eq : ∀ i : grid0.Coords, ∀ q : Fin 3, k0_off12 i (BitVec.ofNat 32 q.val) = ![(3 * (i 0).val + q.val) / 5, (3 * (i 0).val + q.val) % 5, 4608] := by
  decide +kernel

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

/-- The listed pieces. -/
def dagPieces : List (ℕ × ℕ) := [(2, 4608), (1, 4608), (0, 4608), (2, 4096), (1, 4096), (0, 4096), (2, 3584), (1, 3584), (0, 3584), (2, 3072), (1, 3072), (0, 3072), (2, 2560), (1, 2560), (0, 2560), (2, 2048), (1, 2048), (0, 2048), (2, 1536), (1, 1536), (0, 1536), (2, 1024), (1, 1024), (0, 1024), (2, 512), (1, 512), (0, 512), (2, 0), (1, 0), (0, 0)]

/-- Every chunk of every row is listed. -/
theorem mem_dagPieces : ∀ j < 3, ∀ k < 10, (j, 512 * k) ∈ dagPieces := by decide

/-- Only the step's own three rows are listed. -/
theorem lt_dagPieces : ∀ p ∈ dagPieces, p.1 < 3 := by decide

/-- The gradient of the residual gain of a token group. -/
def dagG (tk : ℕ → Row) : ℕ → ℕ → EReal := fun g k => ∑ a : Fin 128, (tk (128 * g + a)).dagp k

/-- The stores of the residual gain's gradient are the listed pieces. -/
theorem dag_own (tk : ℕ → Row) (s : ℕ) (hs : (i 0).val = s) (hrow : ∀ r < 384, row i x0 x1 x4 x5 x6 x7 x8 x9 x10 x11 x17 r = tk (384 * s + r)) :
    Own s (dagG tk) (restRun.sl.H13_30 (F := Ideal) i arg1 harg1 arg2 harg2 arg5 harg5 arg6 harg6 arg7 harg7 arg8 harg8 arg9 harg9 arg10 harg10 arg18 harg18 arg19 arg21 x0 x1 x4 x5 x6 x7 x8 x9 x17) dagPieces := by
  have gs (q j : ℕ) (hq : q = 128 * j) (hj : j ≤ 2) (k : ℕ) : ∑ a : Fin 128, (row i x0 x1 x4 x5 x6 x7 x8 x9 x10 x11 x17 (q + a)).dagp k = ∑ a : Fin 128, (tk (128 * (3 * s + j) + a)).dagp k :=
    Finset.sum_congr rfl fun a _ => by
      have ha := a.isLt
      rw [hrow (q + a) (by omega), show 384 * s + (q + a.val) = 128 * (3 * s + j) + a.val by omega]
  have e9_2 : k0_off12 i 2#32 = ![(3 * s + 2) / 5, (3 * s + 2) % 5, 4608] := hs ▸ off12_eq i 2
  have e9_1 : k0_off12 i 1#32 = ![(3 * s + 1) / 5, (3 * s + 1) % 5, 4608] := hs ▸ off12_eq i 1
  have e9_0 : k0_off12 i 0#32 = ![(3 * s + 0) / 5, (3 * s + 0) % 5, 4608] := hs ▸ off12_eq i 0
  have e8_2 : k0_off11 i 2#32 = ![(3 * s + 2) / 5, (3 * s + 2) % 5, 4096] := hs ▸ off11_eq i 2
  have e8_1 : k0_off11 i 1#32 = ![(3 * s + 1) / 5, (3 * s + 1) % 5, 4096] := hs ▸ off11_eq i 1
  have e8_0 : k0_off11 i 0#32 = ![(3 * s + 0) / 5, (3 * s + 0) % 5, 4096] := hs ▸ off11_eq i 0
  have e7_2 : k0_off10 i 2#32 = ![(3 * s + 2) / 5, (3 * s + 2) % 5, 3584] := hs ▸ off10_eq i 2
  have e7_1 : k0_off10 i 1#32 = ![(3 * s + 1) / 5, (3 * s + 1) % 5, 3584] := hs ▸ off10_eq i 1
  have e7_0 : k0_off10 i 0#32 = ![(3 * s + 0) / 5, (3 * s + 0) % 5, 3584] := hs ▸ off10_eq i 0
  have e6_2 : k0_off9 i 2#32 = ![(3 * s + 2) / 5, (3 * s + 2) % 5, 3072] := hs ▸ off9_eq i 2
  have e6_1 : k0_off9 i 1#32 = ![(3 * s + 1) / 5, (3 * s + 1) % 5, 3072] := hs ▸ off9_eq i 1
  have e6_0 : k0_off9 i 0#32 = ![(3 * s + 0) / 5, (3 * s + 0) % 5, 3072] := hs ▸ off9_eq i 0
  have e5_2 : k0_off8 i 2#32 = ![(3 * s + 2) / 5, (3 * s + 2) % 5, 2560] := hs ▸ off8_eq i 2
  have e5_1 : k0_off8 i 1#32 = ![(3 * s + 1) / 5, (3 * s + 1) % 5, 2560] := hs ▸ off8_eq i 1
  have e5_0 : k0_off8 i 0#32 = ![(3 * s + 0) / 5, (3 * s + 0) % 5, 2560] := hs ▸ off8_eq i 0
  have e4_2 : k0_off7 i 2#32 = ![(3 * s + 2) / 5, (3 * s + 2) % 5, 2048] := hs ▸ off7_eq i 2
  have e4_1 : k0_off7 i 1#32 = ![(3 * s + 1) / 5, (3 * s + 1) % 5, 2048] := hs ▸ off7_eq i 1
  have e4_0 : k0_off7 i 0#32 = ![(3 * s + 0) / 5, (3 * s + 0) % 5, 2048] := hs ▸ off7_eq i 0
  have e3_2 : k0_off6 i 2#32 = ![(3 * s + 2) / 5, (3 * s + 2) % 5, 1536] := hs ▸ off6_eq i 2
  have e3_1 : k0_off6 i 1#32 = ![(3 * s + 1) / 5, (3 * s + 1) % 5, 1536] := hs ▸ off6_eq i 1
  have e3_0 : k0_off6 i 0#32 = ![(3 * s + 0) / 5, (3 * s + 0) % 5, 1536] := hs ▸ off6_eq i 0
  have e2_2 : k0_off5 i 2#32 = ![(3 * s + 2) / 5, (3 * s + 2) % 5, 1024] := hs ▸ off5_eq i 2
  have e2_1 : k0_off5 i 1#32 = ![(3 * s + 1) / 5, (3 * s + 1) % 5, 1024] := hs ▸ off5_eq i 1
  have e2_0 : k0_off5 i 0#32 = ![(3 * s + 0) / 5, (3 * s + 0) % 5, 1024] := hs ▸ off5_eq i 0
  have e1_2 : k0_off4 i 2#32 = ![(3 * s + 2) / 5, (3 * s + 2) % 5, 512] := hs ▸ off4_eq i 2
  have e1_1 : k0_off4 i 1#32 = ![(3 * s + 1) / 5, (3 * s + 1) % 5, 512] := hs ▸ off4_eq i 1
  have e1_0 : k0_off4 i 0#32 = ![(3 * s + 0) / 5, (3 * s + 0) % 5, 512] := hs ▸ off4_eq i 0
  have e0_2 : k0_off3 i 2#32 = ![(3 * s + 2) / 5, (3 * s + 2) % 5, 0] := hs ▸ off3_eq i 2
  have e0_1 : k0_off3 i 1#32 = ![(3 * s + 1) / 5, (3 * s + 1) % 5, 0] := hs ▸ off3_eq i 1
  have e0_0 : k0_off3 i 0#32 = ![(3 * s + 0) / 5, (3 * s + 0) % 5, 0] := hs ▸ off3_eq i 0
  unfold restRun.sl.H13_30 restRun.sl.H13_29 restRun.sl.H13_28 restRun.sl.H13_27 restRun.sl.H13_25 restRun.sl.H13_24 restRun.sl.H13_23 restRun.sl.H13_22 restRun.sl.H13_21 restRun.sl.H13_20 restRun.sl.H13_19 restRun.sl.H13_18 restRun.sl.H13_17 restRun.sl.H13_16 restRun.sl.H13_15 restRun.sl.H13_14 restRun.sl.H13_13 restRun.sl.H13_12 restRun.sl.H13_10 restRun.sl.H13_9 restRun.sl.H13_8 restRun.sl.H13_7 restRun.sl.H13_6 restRun.sl.H13_5 restRun.sl.H13_4 restRun.sl.H13_3 restRun.sl.H13_2 restRun.sl.H13_1 dagPieces
  refine Own.cons (s := s) (j := 2) (o := 4608) (G := dagG tk) e9_2 (fun n => (dag9_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (4608 + n))) ?_
  refine Own.cons (s := s) (j := 1) (o := 4608) (G := dagG tk) e9_1 (fun n => (dag9_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (4608 + n))) ?_
  refine Own.cons (s := s) (j := 0) (o := 4608) (G := dagG tk) e9_0 (fun n => (dag9_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (4608 + n))) ?_
  refine Own.cons (s := s) (j := 2) (o := 4096) (G := dagG tk) e8_2 (fun n => (dag8_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (4096 + n))) ?_
  refine Own.cons (s := s) (j := 1) (o := 4096) (G := dagG tk) e8_1 (fun n => (dag8_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (4096 + n))) ?_
  refine Own.cons (s := s) (j := 0) (o := 4096) (G := dagG tk) e8_0 (fun n => (dag8_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (4096 + n))) ?_
  refine Own.cons (s := s) (j := 2) (o := 3584) (G := dagG tk) e7_2 (fun n => (dag7_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (3584 + n))) ?_
  refine Own.cons (s := s) (j := 1) (o := 3584) (G := dagG tk) e7_1 (fun n => (dag7_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (3584 + n))) ?_
  refine Own.cons (s := s) (j := 0) (o := 3584) (G := dagG tk) e7_0 (fun n => (dag7_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (3584 + n))) ?_
  refine Own.cons (s := s) (j := 2) (o := 3072) (G := dagG tk) e6_2 (fun n => (dag6_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (3072 + n))) ?_
  refine Own.cons (s := s) (j := 1) (o := 3072) (G := dagG tk) e6_1 (fun n => (dag6_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (3072 + n))) ?_
  refine Own.cons (s := s) (j := 0) (o := 3072) (G := dagG tk) e6_0 (fun n => (dag6_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (3072 + n))) ?_
  refine Own.cons (s := s) (j := 2) (o := 2560) (G := dagG tk) e5_2 (fun n => (dag5_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (2560 + n))) ?_
  refine Own.cons (s := s) (j := 1) (o := 2560) (G := dagG tk) e5_1 (fun n => (dag5_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (2560 + n))) ?_
  refine Own.cons (s := s) (j := 0) (o := 2560) (G := dagG tk) e5_0 (fun n => (dag5_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (2560 + n))) ?_
  refine Own.cons (s := s) (j := 2) (o := 2048) (G := dagG tk) e4_2 (fun n => (dag4_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (2048 + n))) ?_
  refine Own.cons (s := s) (j := 1) (o := 2048) (G := dagG tk) e4_1 (fun n => (dag4_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (2048 + n))) ?_
  refine Own.cons (s := s) (j := 0) (o := 2048) (G := dagG tk) e4_0 (fun n => (dag4_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (2048 + n))) ?_
  refine Own.cons (s := s) (j := 2) (o := 1536) (G := dagG tk) e3_2 (fun n => (dag3_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (1536 + n))) ?_
  refine Own.cons (s := s) (j := 1) (o := 1536) (G := dagG tk) e3_1 (fun n => (dag3_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (1536 + n))) ?_
  refine Own.cons (s := s) (j := 0) (o := 1536) (G := dagG tk) e3_0 (fun n => (dag3_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (1536 + n))) ?_
  refine Own.cons (s := s) (j := 2) (o := 1024) (G := dagG tk) e2_2 (fun n => (dag2_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (1024 + n))) ?_
  refine Own.cons (s := s) (j := 1) (o := 1024) (G := dagG tk) e2_1 (fun n => (dag2_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (1024 + n))) ?_
  refine Own.cons (s := s) (j := 0) (o := 1024) (G := dagG tk) e2_0 (fun n => (dag2_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (1024 + n))) ?_
  refine Own.cons (s := s) (j := 2) (o := 512) (G := dagG tk) e1_2 (fun n => (dag1_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (512 + n))) ?_
  refine Own.cons (s := s) (j := 1) (o := 512) (G := dagG tk) e1_1 (fun n => (dag1_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (512 + n))) ?_
  refine Own.cons (s := s) (j := 0) (o := 512) (G := dagG tk) e1_0 (fun n => (dag1_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (512 + n))) ?_
  refine Own.cons (s := s) (j := 2) (o := 0) (G := dagG tk) e0_2 (fun n => (dag0_2_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 256 2 rfl (by omega) (0 + n))) ?_
  refine Own.cons (s := s) (j := 1) (o := 0) (G := dagG tk) e0_1 (fun n => (dag0_1_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 128 1 rfl (by omega) (0 + n))) ?_
  refine Own.cons (s := s) (j := 0) (o := 0) (G := dagG tk) e0_0 (fun n => (dag0_0_eq i arg1 harg1 arg2 harg2 arg5 harg5 arg6 harg6 arg7 harg7 arg8 harg8 arg9 harg9 arg10 harg10 arg18 harg18 arg19 arg21 x0 x1 x4 x5 x6 x7 x8 x9 x10 x11 x17 n).trans (gs 0 0 rfl (by omega) (0 + n))) ?_
  exact Own.nil

/-- A step's stores of the residual gain's gradient: its own three groups' sums, the others as found. -/
theorem dag_left (tk : ℕ → Row) (s : ℕ) (hs : (i 0).val = s) (hrow : ∀ r < 384, row i x0 x1 x4 x5 x6 x7 x8 x9 x10 x11 x17 r = tk (384 * s + r)) (f : arg14.view.ty.Contents (Elt Ideal)) (y : S3x5x5120.Idx) :
    arg14.view.read (Elt Ideal) (arg14.view.writes (Elt Ideal) f (restRun.sl.H13_30 (F := Ideal) i arg1 harg1 arg2 harg2 arg5 harg5 arg6 harg6 arg7 harg7 arg8 harg8 arg9 harg9 arg10 harg10 arg18 harg18 arg19 arg21 x0 x1 x4 x5 x6 x7 x8 x9 x17)) y
      = if (5 * (y 0).val + (y 1).val) / 3 = s then ∑ a : Fin 128, (tk (128 * (5 * (y 0).val + (y 1).val) + a)).dagp (y 2).val else arg14.view.read (Elt Ideal) f y := by
  have hy2 : (y 2).val < 5120 := (y 2).isLt
  have h := dag_own i arg1 harg1 arg2 harg2 arg5 harg5 arg6 harg6 arg7 harg7 arg8 harg8 arg9 harg9 arg10 harg10 arg18 harg18 arg19 arg21 x0 x1 x4 x5 x6 x7 x8 x9 x10 x11 x17 tk s hs hrow _ arg14.view f y
  split
  · exact h.1 ⟨(5 * (y 0).val + (y 1).val - 3 * s, 512 * ((y 2).val / 512)), mem_dagPieces _ (by omega) _ (by omega), by show _ = 3 * s + (_ - 3 * s); omega, by show 512 * _ ≤ _; omega, by show _ < 512 * _ + 512; omega⟩
  · refine h.2 ?_
    rintro ⟨p, hp, hq, _⟩
    have := lt_dagPieces p hp
    omega

end Cert.KernelIdeal.Val
-- ==== Proof.ArraysDag.lean ====
/-
  What the kernel's steps leave of the residual gain's gradient, and the array at the end.
-/
module

public import proofs.«01_k».proof.Proof.Arrays
public import proofs.«01_k».proof.Proof.LeftDag

@[expose] public section

set_option maxRecDepth 16384

noncomputable section

namespace Cert.Tokens

open Idealize.ShloMosaic Idealize.ShloMosaic.TcCoe Idealize.ShloMosaic.Tactic Cert.Spec
open Idealize.SL Idealize.SL.Sem
open Cert.KernelIdeal Cert.KernelIdeal.Gen Cert.KernelIdeal.Body Cert.KernelIdeal.Track Cert.KernelIdeal.Val Cert.KernelIdeal.Link

variable (m : (ℓ : Loc nD τ sig) → Buf (Elt Ideal) ℓ) (c : Dev nD)

/-- The residual gain's gradient by token groups. -/
theorem dagArr_eq (f : ℕ → Row) (y : S3x5x5120.Idx) : dagArr f y = ∑ a : Fin 128, (f (128 * (5 * (y 0).val + (y 1).val) + a)).dagp (y 2).val :=
  Finset.sum_congr rfl fun a _ => by
    rw [show (y 0).val * 640 + (y 1).val * 128 + a.val = 128 * (5 * (y 0).val + (y 1).val) + a.val by omega]

/-- What a point writes into window 13. -/
theorem restAt_w13 (t : Fin cfg0.N) (Y : Vec Ideal S3x5x5120 .f32) (y14 : Vec Ideal S3x5x512 .f32) :
    (restAt m c t (wsc m c) Y y14).1.2.1 = (win0_13.stage (cfg0.slots t 13)).view.writes (Elt Ideal) ((hstage0_13 ((cfg0.slots t 13).cast nbuf0_13)).unread Y) (restRun.sl.H13_30 (F := Ideal) (grid0.coords t) (win0_0.stage (cfg0.slots t 0)) (hstage0_0 ((cfg0.slots t 0).cast nbuf0_0)) (win0_1.stage (cfg0.slots t 1)) (hstage0_1 ((cfg0.slots t 1).cast nbuf0_1)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.whole cc0_scratch3) (iblk m c 0 t) (iblk m c 1 t) (iblk m c 4 t) (iblk m c 5 t) (iblk m c 6 t) (iblk m c 7 t) (iblk m c 8 t) (iblk m c 9 t) (wsc m c)) :=
  rest_w13 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (wsc m c) Y y14

/-- What a point leaves of the residual gain's gradient: its own three groups, the others as found. -/
theorem dag_step (t : Fin cfg0.N) (y14 : Vec Ideal S3x5x512 .f32) (Y : Vec Ideal S3x5x5120 .f32) (y : S3x5x5120.Idx) :
    (ms13 t).view.read (Elt Ideal) (restAt m c t (wsc m c) Y y14).1.2.1 y
      = if (5 * (y 0).val + (y 1).val) / 3 = t.val then dagArr (tok m c) y else Y y := by
  have h := dag_left (grid0.coords t) (win0_0.stage (cfg0.slots t 0)) (hstage0_0 ((cfg0.slots t 0).cast nbuf0_0)) (win0_1.stage (cfg0.slots t 1)) (hstage0_1 ((cfg0.slots t 1).cast nbuf0_1)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_13.stage (cfg0.slots t 13)) (Memref.whole cc0_scratch0) (Memref.isWhole_whole _) (Memref.whole cc0_scratch1) (Memref.whole cc0_scratch3) (iblk m c 0 t) (iblk m c 1 t) (iblk m c 4 t) (iblk m c 5 t) (iblk m c 6 t) (iblk m c 7 t) (iblk m c 8 t) (iblk m c 9 t) (iblk m c 10 t) (iblk m c 11 t) (wsc m c) (tok m c) t.val (coords_val t) (fun r hr => krow_eq m c t r hr) ((hstage0_13 ((cfg0.slots t 13).cast nbuf0_13)).unread Y) y
  rw [show (win0_13.stage (cfg0.slots t 13)).view.read (Elt Ideal) ((hstage0_13 ((cfg0.slots t 13).cast nbuf0_13)).unread Y) y = Y y from congrFun ((hstage0_13 ((cfg0.slots t 13).cast nbuf0_13)).read_unread Y) y] at h
  refine (congrArg (fun W => (ms13 t).view.read (Elt Ideal) W y) (restAt_w13 m c t Y y14)).trans ?_
  rw [dagArr_eq]
  unfold ms13
  exact h

/-- What the data say a point leaves in window 13. -/
theorem after13 (t : Fin cfg0.N) (Y X) (h : (rdat m c).after 13 t Y X) : ∃ y14, X = (ms13 t).view.read (Elt Ideal) (restAt m c t (wsc m c) Y y14).1.2.1 := h

/-- After a point, its own and the earlier points' groups hold their sums. -/
theorem dag_leaves (n : ℕ) : ∀ (t : Fin cfg0.N), t.val = n → ∀ X, (rdat m c).Leaves 13 t X → ∀ y : S3x5x5120.Idx, (5 * (y 0).val + (y 1).val) / 3 ≤ t.val →
    (X : Vec Ideal S3x5x5120 .f32) y = dagArr (tok m c) y := by
  induction n with
  | zero =>
    intro t ht X ⟨Y, hY, hA⟩ y hy
    obtain ⟨y14, rfl⟩ := after13 m c t Y X hA
    refine (dag_step m c t y14 Y y).trans (if_pos (by omega))
  | succ n ih =>
    intro t ht X ⟨Y, hY, hA⟩ y hy
    obtain ⟨y14, rfl⟩ := after13 m c t Y X hA
    refine (dag_step m c t y14 Y y).trans ?_
    split
    · rfl
    · rename_i h
      have hN : t.val < 5 := by have := t.isLt; simpa [show cfg0.N = 5 from N_0] using this
      rcases ((rdat m c).finds_of_pos (w := 13) (t := t) rfl (by omega) Y).1 hY with hf | hl
      · exact absurd ((flush0_13 _).1 hf) (by show ¬ (t.val - 1) % 5 = 4; omega)
      · exact ih _ (by show t.val - 1 = n; omega) Y hl y (by show _ ≤ t.val - 1; omega)

/-- Result 2 of the kernel. -/
theorem ker13 (G) (h : (rdat m c).ArrAt 13 cfg0.N G) : G = dagArr (tok m c) := by
  obtain ⟨X, hX, hG⟩ := Pipeline.RDat.ArrAt.emb_eq_of_wholeAt h (t₀ := tLast) (by decide +kernel)
  funext j
  have e := hG j
  refine e.trans (dag_leaves m c 4 tLast rfl X hX j ?_)
  have hy0 : (j 0).val < 3 := (j 0).isLt
  have hy1 : (j 1).val < 5 := (j 1).isLt
  show _ ≤ 4
  omega

end Cert.Tokens
-- ==== Proof.KvMean.lean ====
/-
  The mean of the norm backward of the kernel, entry by entry.
-/
module

public import proofs.«01_k».proof.Proof.KvGrad

@[expose] public section

set_option maxRecDepth 16384

noncomputable section

namespace Cert.KernelIdeal.Val

open Idealize.ShloMosaic Idealize.ShloMosaic.Tactic Cert.Spec Cert.KernelIdeal Cert.KernelIdeal.Gen Cert.KernelIdeal.Body

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

/-- A longer range's sum is a shorter one's and the last terms. -/
theorem sum4_eq (f : ℕ → EReal) : ∑ q ∈ Finset.range 4, f q = ∑ q ∈ Finset.range 3, f q + f 3 := by
  rw [Finset.sum_range_succ f 3]

/-- A longer range's sum is a shorter one's and the last terms. -/
theorem sum8_eq (f : ℕ → EReal) : ∑ q ∈ Finset.range 8, f q = ∑ q ∈ Finset.range 4, f q + f 4 + f 5 + f 6 + f 7 := by
  rw [Finset.sum_range_succ f 7, Finset.sum_range_succ f 6, Finset.sum_range_succ f 5, Finset.sum_range_succ f 4]

/-- A longer range's sum is a shorter one's and the last terms. -/
theorem sum12_eq (f : ℕ → EReal) : ∑ q ∈ Finset.range 12, f q = ∑ q ∈ Finset.range 8, f q + f 8 + f 9 + f 10 + f 11 := by
  rw [Finset.sum_range_succ f 11, Finset.sum_range_succ f 10, Finset.sum_range_succ f 9, Finset.sum_range_succ f 8]

/-- A longer range's sum is a shorter one's and the last terms. -/
theorem sum16_eq (f : ℕ → EReal) : ∑ q ∈ Finset.range 16, f q = ∑ q ∈ Finset.range 12, f q + f 12 + f 13 + f 14 + f 15 := by
  rw [Finset.sum_range_succ f 15, Finset.sum_range_succ f 14, Finset.sum_range_succ f 13, Finset.sum_range_succ f 12]

/-- A longer range's sum is a shorter one's and the last terms. -/
theorem sum20_eq (f : ℕ → EReal) : ∑ q ∈ Finset.range 20, f q = ∑ q ∈ Finset.range 16, f q + f 16 + f 17 + f 18 + f 19 := by
  rw [Finset.sum_range_succ f 19, Finset.sum_range_succ f 18, Finset.sum_range_succ f 17, Finset.sum_range_succ f 16]

/-- A longer range's sum is a shorter one's and the last terms. -/
theorem sum23_eq (f : ℕ → EReal) : ∑ q ∈ Finset.range 23, f q = ∑ q ∈ Finset.range 20, f q + f 20 + f 21 + f 22 := by
  rw [Finset.sum_range_succ f 22, Finset.sum_range_succ f 21, Finset.sum_range_succ f 20]

/-- A longer range's sum is a shorter one's and the last terms. -/
theorem sum24_eq (f : ℕ → EReal) : ∑ q ∈ Finset.range 24, f q = ∑ q ∈ Finset.range 23, f q + f 23 := by
  rw [Finset.sum_range_succ f 23]

/-- A longer range's sum is a shorter one's and the last terms. -/
theorem sum28_eq (f : ℕ → EReal) : ∑ q ∈ Finset.range 28, f q = ∑ q ∈ Finset.range 24, f q + f 24 + f 25 + f 26 + f 27 := by
  rw [Finset.sum_range_succ f 27, Finset.sum_range_succ f 26, Finset.sum_range_succ f 25, Finset.sum_range_succ f 24]

/-- A longer range's sum is a shorter one's and the last terms. -/
theorem sum32_eq (f : ℕ → EReal) : ∑ q ∈ Finset.range 32, f q = ∑ q ∈ Finset.range 28, f q + f 28 + f 29 + f 30 + f 31 := by
  rw [Finset.sum_range_succ f 31, Finset.sum_range_succ f 30, Finset.sum_range_succ f 29, Finset.sum_range_succ f 28]

/-- A longer range's sum is a shorter one's and the last terms. -/
theorem sum36_eq (f : ℕ → EReal) : ∑ q ∈ Finset.range 36, f q = ∑ q ∈ Finset.range 32, f q + f 32 + f 33 + f 34 + f 35 := by
  rw [Finset.sum_range_succ f 35, Finset.sum_range_succ f 34, Finset.sum_range_succ f 33, Finset.sum_range_succ f 32]

/-- A longer range's sum is a shorter one's and the last terms. -/
theorem sum40_eq (f : ℕ → EReal) : ∑ q ∈ Finset.range 40, f q = ∑ q ∈ Finset.range 36, f q + f 36 + f 37 + f 38 + f 39 := by
  rw [Finset.sum_range_succ f 39, Finset.sum_range_succ f 38, Finset.sum_range_succ f 37, Finset.sum_range_succ f 36]

/-- Partial sums of the norm backward's products over the column blocks, lane by lane. -/
theorem mr_72_eq (r : Fin 384) (a : Fin 128) : restRun.sl.r_72 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 3, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p0_eq i arg1 harg1 arg2 harg2 arg5 harg5 arg6 harg6 arg7 harg7 arg8 harg8 arg9 harg9 arg10 harg10 arg18 harg18 arg19 arg21 x0 x1 x4 x5 x6 x7 x8 x9 x10 x11 x17 r b
  unfold restRun.sl.r_72
  simp only [readAt_unread_eq]
  unfold_payloads
  pointwise []
  simp only [hq, at2_eq x0, at2_eq x1, at2_eq x4, at2_eq x5, at2_eq x7, at2_eq x8, at2_eq x9, at2_eq x10, at2_eq x11, at2_eq x17]
  simp only [Finset.sum_range_succ, Finset.sum_range_zero]
  simp only [← Nat.add_assoc, Nat.reduceMul, Nat.reduceAdd, Nat.zero_add, zero_add]
  rfl

/-- Partial sums of the norm backward's products over the column blocks, lane by lane. -/
theorem mr_74_eq (r : Fin 384) (a : Fin 128) : restRun.sl.r_74 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 4, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p0_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_72_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_74 restRun.sl.r_73
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum4_eq]
  simp only [← Nat.add_assoc, Nat.reduceMul, Nat.reduceAdd, Nat.zero_add, zero_add]
  rfl

/-- Partial sums of the norm backward's products over the column blocks, lane by lane. -/
theorem mr_77_eq (r : Fin 384) (a : Fin 128) : restRun.sl.r_77 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 8, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p1_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_74_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_77
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum8_eq]
  simp only [← Nat.add_assoc, Nat.reduceMul, Nat.reduceAdd, Nat.zero_add, zero_add]
  rfl

/-- Partial sums of the norm backward's products over the column blocks, lane by lane. -/
theorem mr_80_eq (r : Fin 384) (a : Fin 128) : restRun.sl.r_80 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 12, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p2_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_77_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_80
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum12_eq]
  simp only [← Nat.add_assoc, Nat.reduceMul, Nat.reduceAdd, Nat.zero_add, zero_add]
  rfl

/-- Partial sums of the norm backward's products over the column blocks, lane by lane. -/
theorem mr_86_eq (r : Fin 384) (a : Fin 128) : restRun.sl.r_86 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 16, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p3_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_80_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_86
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum16_eq]
  simp only [← Nat.add_assoc, Nat.reduceMul, Nat.reduceAdd, Nat.zero_add, zero_add]
  rfl

/-- Partial sums of the norm backward's products over the column blocks, lane by lane. -/
theorem mr_89_eq (r : Fin 384) (a : Fin 128) : restRun.sl.r_89 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 20, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p4_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_86_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_89
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum20_eq]
  simp only [← Nat.add_assoc, Nat.reduceMul, Nat.reduceAdd, Nat.zero_add, zero_add]
  rfl

/-- Partial sums of the norm backward's products over the column blocks, lane by lane. -/
theorem mr_92_eq (r : Fin 384) (a : Fin 128) : restRun.sl.r_92 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 23, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p5_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_89_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_92
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum23_eq]
  simp only [← Nat.add_assoc, Nat.reduceMul, Nat.reduceAdd, Nat.zero_add, zero_add]
  rfl

/-- Partial sums of the norm backward's products over the column blocks, lane by lane. -/
theorem mr_94_eq (r : Fin 384) (a : Fin 128) : restRun.sl.r_94 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 24, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p5_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_92_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_94 restRun.sl.r_93
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum24_eq]
  simp only [← Nat.add_assoc, Nat.reduceMul, Nat.reduceAdd, Nat.zero_add, zero_add]
  rfl

/-- Partial sums of the norm backward's products over the column blocks, lane by lane. -/
theorem mr_97_eq (r : Fin 384) (a : Fin 128) : restRun.sl.r_97 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 28, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p6_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_94_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_97
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum28_eq]
  simp only [← Nat.add_assoc, Nat.reduceMul, Nat.reduceAdd, Nat.zero_add, zero_add]
  rfl

/-- Partial sums of the norm backward's products over the column blocks, lane by lane. -/
theorem mr_100_eq (r : Fin 384) (a : Fin 128) : restRun.sl.r_100 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 32, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p7_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_97_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_100
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum32_eq]
  simp only [← Nat.add_assoc, Nat.reduceMul, Nat.reduceAdd, Nat.zero_add, zero_add]
  rfl

/-- Partial sums of the norm backward's products over the column blocks, lane by lane. -/
theorem mr_106_eq (r : Fin 384) (a : Fin 128) : restRun.sl.r_106 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r a) = ∑ q ∈ Finset.range 36, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) := by
  have hq (r : Fin 384) (b : Fin 512) := p8_eq i arg1 harg1 arg2 harg2 arg5 harg5 arg6 harg6 arg7 harg7 arg8 harg8 arg9 harg9 arg10 harg10 arg18 harg18 arg19 arg21 x0 x1 x4 x5 x6 x7 x8 x9 x10 x11 x17 r b
  have hp (r : Fin 384) (a : Fin 128) := mr_100_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  unfold restRun.sl.r_106
  simp only [readAt_unread_eq]
  unfold_payloads
  pointwise []
  simp only [hp, hq, at2_eq x0, at2_eq x1, at2_eq x4, at2_eq x5, at2_eq x7, at2_eq x8, at2_eq x9, at2_eq x10, at2_eq x11, at2_eq x17]
  rw [sum36_eq]
  simp only [← Nat.add_assoc, Nat.reduceMul, Nat.reduceAdd, Nat.zero_add, zero_add]
  rfl

end Cert.KernelIdeal.Val
-- ==== Proof.KvDh.lean ====
/-
  The input gradient of the kernel, entry by entry.
-/
module

public import proofs.«01_k».proof.Proof.KvMean

@[expose] public section

set_option maxRecDepth 16384

noncomputable section

namespace Cert.KernelIdeal.Val

open Idealize.ShloMosaic Idealize.ShloMosaic.Tactic Cert.Spec Cert.KernelIdeal Cert.KernelIdeal.Gen Cert.KernelIdeal.Body

variable (i : grid0.Coords) (arg1 : Memref sig .tc .vmem S384x5120 .fp8e4m3) (harg1 : arg1.IsWhole) (arg2 : Memref sig .tc .vmem S384x40 .f32) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .f32) (harg5 : arg5.IsWhole) (arg6 : Memref sig .tc .vmem S32x1 .f32) (harg6 : arg6.IsWhole) (arg7 : Memref sig .tc .vmem S3x5x128 .i32) (harg7 : arg7.IsWhole) (arg8 : Memref sig .tc .vmem S384x512 .bf16) (harg8 : arg8.IsWhole) (arg9 : Memref sig .tc .vmem S384x64 .bf16) (harg9 : arg9.IsWhole) (arg10 : Memref sig .tc .vmem S384x5120 .bf16) (harg10 : arg10.IsWhole) (arg11 : Memref sig .tc .vmem S1x5120 .f32) (harg11 : arg11.IsWhole) (arg12 : Memref sig .tc .vmem S384x5120 .bf16) (harg12 : arg12.IsWhole) (arg13 : Memref sig .tc .vmem S384x5120 .bf16) (harg13 : arg13.IsWhole) (arg14 : Memref sig .tc .vmem S3x5x5120 .f32) (harg14 : arg14.IsWhole) (arg15 : Memref sig .tc .vmem S3x5x512 .f32) (harg15 : arg15.IsWhole) (arg16 : Memref sig .tc .vmem S384x576 .fp8e5m2) (harg16 : arg16.IsWhole) (arg17 : Memref sig .tc .vmem S384x5 .f32) (harg17 : arg17.IsWhole) (arg18 : Memref sig .tc .vmem S576x5120 .bf16) (harg18 : arg18.IsWhole) (arg19 : Memref sig .tc .vmem S384x5120 .bf16) (harg19 : arg19.IsWhole) (arg20 : Memref sig .tc .vmem S384x5120 .f32) (harg20 : arg20.IsWhole) (arg21 : Memref sig .tc .vmem S64x128 .f32) (harg21 : arg21.IsWhole)
  (x0 : Vec Ideal S384x5120 .fp8e4m3) (x1 : Vec Ideal S384x40 .f32) (x2 : Vec Ideal S576x5120 .fp8e4m3) (x3 : Vec Ideal S5x40 .f32) (x4 : Vec Ideal S1x512 .f32) (x5 : Vec Ideal S32x1 .f32) (x6 : Vec Ideal S3x5x128 .i32) (x7 : Vec Ideal S384x512 .bf16) (x8 : Vec Ideal S384x64 .bf16) (x9 : Vec Ideal S384x5120 .bf16) (x10 : Vec Ideal S1x5120 .f32) (x11 : Vec Ideal S384x5120 .bf16) (x17 : Vec Ideal S576x5120 .bf16)

/-- The factor of the input in the norm backward. -/
theorem coef_eq (r : Fin 384) : restRun.sl.r_109 (F := Ideal) i arg1 harg1 arg2 harg2 arg5 harg5 arg6 harg6 arg7 harg7 arg8 harg8 arg9 harg9 arg10 harg10 arg11 harg11 arg18 harg18 arg19 arg21 x0 x1 x4 x5 x6 x7 x8 x9 x10 x17 (ix2 r 0) = ((row i x0 x1 x4 x5 x6 x7 x8 x9 x10 x11 x17 r)).rstdH * ((row i x0 x1 x4 x5 x6 x7 x8 x9 x10 x11 x17 r)).rstdH * ((row i x0 x1 x4 x5 x6 x7 x8 x9 x10 x11 x17 r)).meanH := by
  have hp (r : Fin 384) (a : Fin 128) := mr_106_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r a
  have hq (r : Fin 384) (b : Fin 512) := p9_eq i arg1 harg1 arg2 harg2 arg5 harg5 arg6 harg6 arg7 harg7 arg8 harg8 arg9 harg9 arg10 harg10 arg18 harg18 arg19 arg21 x0 x1 x4 x5 x6 x7 x8 x9 x10 x11 x17 r b
  have hn (r : Fin 384) := rstdH_eq i arg10 harg10 x0 x1 x4 x5 x6 x7 x8 x9 x10 x11 x17 r
  unfold restRun.sl.r_109
  simp only [readAt_unread_eq]
  unfold_payloads
  pointwise []
  simp only [hp, hq, hn, at2_eq x0, at2_eq x1, at2_eq x4, at2_eq x5, at2_eq x7, at2_eq x8, at2_eq x9, at2_eq x10, at2_eq x11, at2_eq x17]
  have hm : ∑ k : Fin 5120, ((row i x0 x1 x4 x5 x6 x7 x8 x9 x10 x11 x17 r)).dx k * ((row i x0 x1 x4 x5 x6 x7 x8 x9 x10 x11 x17 r)).ag k * ((row i x0 x1 x4 x5 x6 x7 x8 x9 x10 x11 x17 r)).h k = ∑ a : Fin 128, (∑ q ∈ Finset.range 36, ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a) + ((row i x0 x1 x4 x5 x6 x7 x8 x9 x10 x11 x17 r)).dx (128 * 36 + a) * ((row i x0 x1 x4 x5 x6 x7 x8 x9 x10 x11 x17 r)).h (128 * 36 + a) * ((row i x0 x1 x4 x5 x6 x7 x8 x9 x10 x11 x17 r)).ag (128 * 36 + a) + ((row i x0 x1 x4 x5 x6 x7 x8 x9 x10 x11 x17 r)).dx (128 * 37 + a) * ((row i x0 x1 x4 x5 x6 x7 x8 x9 x10 x11 x17 r)).h (128 * 37 + a) * ((row i x0 x1 x4 x5 x6 x7 x8 x9 x10 x11 x17 r)).ag (128 * 37 + a) + ((row i x0 x1 x4 x5 x6 x7 x8 x9 x10 x11 x17 r)).dx (128 * 38 + a) * ((row i x0 x1 x4 x5 x6 x7 x8 x9 x10 x11 x17 r)).h (128 * 38 + a) * ((row i x0 x1 x4 x5 x6 x7 x8 x9 x10 x11 x17 r)).ag (128 * 38 + a) + ((row i x0 x1 x4 x5 x6 x7 x8 x9 x10 x11 x17 r)).dx (128 * 39 + a) * ((row i x0 x1 x4 x5 x6 x7 x8 x9 x10 x11 x17 r)).h (128 * 39 + a) * ((row i x0 x1 x4 x5 x6 x7 x8 x9 x10 x11 x17 r)).ag (128 * 39 + a)) := by
    refine (Finset.sum_congr rfl fun k _ => mul_right_comm _ _ _).trans ?_
    rw [← lanes fun k => ((row i x0 x1 x4 x5 x6 x7 x8 x9 x10 x11 x17 r)).dx k * ((row i x0 x1 x4 x5 x6 x7 x8 x9 x10 x11 x17 r)).h k * ((row i x0 x1 x4 x5 x6 x7 x8 x9 x10 x11 x17 r)).ag k]
    exact Finset.sum_congr rfl fun a _ => sum40_eq fun q => ((row i x0 x1 x4 x5 x6 x7 x8 x9 x10 x11 x17 r)).dx (128 * q + a) * ((row i x0 x1 x4 x5 x6 x7 x8 x9 x10 x11 x17 r)).h (128 * q + a) * ((row i x0 x1 x4 x5 x6 x7 x8 x9 x10 x11 x17 r)).ag (128 * q + a)
  unfold Row.meanH
  rw [hm]
  simp only [← Nat.add_assoc, Nat.reduceMul, Nat.reduceAdd]
  rfl

/-- Every store of the scratch holds its part of the gradient times the gain. -/
theorem H19_agrees : Agrees (arr2 (e := .f32) fun r k => ((row i x0 x1 x4 x5 x6 x7 x8 x9 x10 x11 x17 r)).dx k * ((row i x0 x1 x4 x5 x6 x7 x8 x9 x10 x11 x17 r)).ag k) (restRun.sl.H19_10 (F := Ideal) i arg1 harg1 arg2 harg2 arg5 harg5 arg6 harg6 arg7 harg7 arg8 harg8 arg9 harg9 arg11 harg11 arg18 harg18 arg19 arg21 x0 x1 x4 x5 x6 x7 x8 x10 x17) := by
  have hg (r : Fin 384) (n : Fin 576) := gm_eq i arg1 harg1 arg2 harg2 arg5 harg5 arg6 harg6 arg7 harg7 arg8 harg8 arg9 harg9 arg18 harg18 arg19 arg21 x0 x1 x4 x5 x6 x7 x8 x9 x10 x11 x17 r n
  unfold restRun.sl.H19_10 restRun.sl.H19_9 restRun.sl.H19_8 restRun.sl.H19_7 restRun.sl.H19_6 restRun.sl.H19_5 restRun.sl.H19_4 restRun.sl.H19_3 restRun.sl.H19_2 restRun.sl.H19_1 restRun.sl.r_81 restRun.sl.r_101
  refine Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.nil
  all_goals
    simp only [readAt_unread_eq]
    unfold_payloads
    pointwise []
    simp only [hg, at2_eq x0, at2_eq x1, at2_eq x4, at2_eq x5, at2_eq x7, at2_eq x8, at2_eq x9, at2_eq x10, at2_eq x11, at2_eq x17]
    try simp only [Nat.zero_add]
    rfl

/-- The scratch's stores cover it. -/
theorem H19_cover (y : S384x5120.Idx) : ∃ p ∈ restRun.sl.H19_10 (F := Ideal) i arg1 harg1 arg2 harg2 arg5 harg5 arg6 harg6 arg7 harg7 arg8 harg8 arg9 harg9 arg11 harg11 arg18 harg18 arg19 arg21 x0 x1 x4 x5 x6 x7 x8 x10 x17, y ∈ p.1.set :=
  View.cover_of_tiledL (restRun.sl.H19_10 (F := Ideal) i arg1 harg1 arg2 harg2 arg5 harg5 arg6 harg6 arg7 harg7 arg8 harg8 arg9 harg9 arg11 harg11 arg18 harg18 arg19 arg21 x0 x1 x4 x5 x6 x7 x8 x10 x17) S384x512.size (by sl_kernel_rfl) y

/-- A chunk of the gradient times the gain, as loaded back. -/
theorem v2868_eq (a : Fin 384) (b : Fin 512) : restRun.sl.v2868 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (0 + b) * ((row i x0 x1 x4 x5 x6 x7 x8 x9 x10 x11 x17 a)).ag (0 + b) := by
  unfold restRun.sl.v2868
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- A chunk of the gradient times the gain, as loaded back. -/
theorem v2883_eq (a : Fin 384) (b : Fin 512) : restRun.sl.v2883 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (512 + b) * ((row i x0 x1 x4 x5 x6 x7 x8 x9 x10 x11 x17 a)).ag (512 + b) := by
  unfold restRun.sl.v2883
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- A chunk of the gradient times the gain, as loaded back. -/
theorem v2898_eq (a : Fin 384) (b : Fin 512) : restRun.sl.v2898 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (1024 + b) * ((row i x0 x1 x4 x5 x6 x7 x8 x9 x10 x11 x17 a)).ag (1024 + b) := by
  unfold restRun.sl.v2898
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- A chunk of the gradient times the gain, as loaded back. -/
theorem v2913_eq (a : Fin 384) (b : Fin 512) : restRun.sl.v2913 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (1536 + b) * ((row i x0 x1 x4 x5 x6 x7 x8 x9 x10 x11 x17 a)).ag (1536 + b) := by
  unfold restRun.sl.v2913
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- A chunk of the gradient times the gain, as loaded back. -/
theorem v2928_eq (a : Fin 384) (b : Fin 512) : restRun.sl.v2928 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (2048 + b) * ((row i x0 x1 x4 x5 x6 x7 x8 x9 x10 x11 x17 a)).ag (2048 + b) := by
  unfold restRun.sl.v2928
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- A chunk of the gradient times the gain, as loaded back. -/
theorem v2943_eq (a : Fin 384) (b : Fin 512) : restRun.sl.v2943 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (2560 + b) * ((row i x0 x1 x4 x5 x6 x7 x8 x9 x10 x11 x17 a)).ag (2560 + b) := by
  unfold restRun.sl.v2943
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- A chunk of the gradient times the gain, as loaded back. -/
theorem v2958_eq (a : Fin 384) (b : Fin 512) : restRun.sl.v2958 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (3072 + b) * ((row i x0 x1 x4 x5 x6 x7 x8 x9 x10 x11 x17 a)).ag (3072 + b) := by
  unfold restRun.sl.v2958
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- A chunk of the gradient times the gain, as loaded back. -/
theorem v2973_eq (a : Fin 384) (b : Fin 512) : restRun.sl.v2973 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (3584 + b) * ((row i x0 x1 x4 x5 x6 x7 x8 x9 x10 x11 x17 a)).ag (3584 + b) := by
  unfold restRun.sl.v2973
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- A chunk of the gradient times the gain, as loaded back. -/
theorem v2988_eq (a : Fin 384) (b : Fin 512) : restRun.sl.v2988 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (4096 + b) * ((row i x0 x1 x4 x5 x6 x7 x8 x9 x10 x11 x17 a)).ag (4096 + b) := by
  unfold restRun.sl.v2988
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- A chunk of the gradient times the gain, as loaded back. -/
theorem v3003_eq (a : Fin 384) (b : Fin 512) : restRun.sl.v3003 (F := Ideal) i arg1 harg1 arg2 harg2 arg5 harg5 arg6 harg6 arg7 harg7 arg8 harg8 arg9 harg9 arg11 harg11 arg18 harg18 arg19 arg20 arg21 x0 x1 x4 x5 x6 x7 x8 x10 x17 (ix2 a b) = ((row i x0 x1 x4 x5 x6 x7 x8 x9 x10 x11 x17 a)).dx (4608 + b) * ((row i x0 x1 x4 x5 x6 x7 x8 x9 x10 x11 x17 a)).ag (4608 + b) := by
  unfold restRun.sl.v3003
  refine (readCov_of_unit arg20.view (H19_agrees i arg1 harg1 arg2 harg2 arg5 harg5 arg6 harg6 arg7 harg7 arg8 harg8 arg9 harg9 arg11 harg11 arg18 harg18 arg19 arg21 x0 x1 x4 x5 x6 x7 x8 x9 x10 x11 x17) (H19_cover i arg1 harg1 arg2 harg2 arg5 harg5 arg6 harg6 arg7 harg7 arg8 harg8 arg9 harg9 arg11 harg11 arg18 harg18 arg19 arg21 x0 x1 x4 x5 x6 x7 x8 x10 x17) _ a b).trans ?_
  simp only [Nat.zero_add]

/-- Every store of the input gradient holds its part of the tokens' values. -/
theorem dh_agrees : Agrees (arr2 (e := .bf16) fun r k => ((row i x0 x1 x4 x5 x6 x7 x8 x9 x10 x11 x17 r)).dh k) (restRun.sl.H12_10 (F := Ideal) i arg1 harg1 arg2 harg2 arg5 harg5 arg6 harg6 arg7 harg7 arg8 harg8 arg9 harg9 arg10 harg10 arg11 harg11 arg12 harg12 arg18 harg18 arg19 arg20 arg21 x0 x1 x4 x5 x6 x7 x8 x9 x10 x11 x17) := by
  have hn (r : Fin 384) := rstdH_eq i arg10 harg10 x0 x1 x4 x5 x6 x7 x8 x9 x10 x11 x17 r
  have hc (r : Fin 384) := coef_eq i arg1 harg1 arg2 harg2 arg5 harg5 arg6 harg6 arg7 harg7 arg8 harg8 arg9 harg9 arg10 harg10 arg11 harg11 arg18 harg18 arg19 arg21 x0 x1 x4 x5 x6 x7 x8 x9 x10 x11 x17 r
  have w0 (a : Fin 384) (b : Fin 512) := v2868_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have w1 (a : Fin 384) (b : Fin 512) := v2883_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have w2 (a : Fin 384) (b : Fin 512) := v2898_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have w3 (a : Fin 384) (b : Fin 512) := v2913_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have w4 (a : Fin 384) (b : Fin 512) := v2928_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have w5 (a : Fin 384) (b : Fin 512) := v2943_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have w6 (a : Fin 384) (b : Fin 512) := v2958_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have w7 (a : Fin 384) (b : Fin 512) := v2973_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have w8 (a : Fin 384) (b : Fin 512) := v2988_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have w9 (a : Fin 384) (b : Fin 512) := v3003_eq i arg1 harg1 arg2 harg2 arg5 harg5 arg6 harg6 arg7 harg7 arg8 harg8 arg9 harg9 arg11 harg11 arg18 harg18 arg19 arg20 arg21 x0 x1 x4 x5 x6 x7 x8 x9 x10 x11 x17 a b
  have e (w : Row) (k : ℕ) : w.dr k + w.rstdH * (w.dx k * w.ag k - w.h k * (w.rstdH * w.rstdH * w.meanH)) = w.dh k := by
    rw [← mul_assoc]; rfl
  have hc' := hc
  unfold restRun.sl.r_109 at hc'
  simp only [readAt_unread_eq] at hc'
  unfold restRun.sl.H12_10 restRun.sl.H12_5 restRun.sl.H12_3 restRun.sl.r_110 restRun.sl.r_111 restRun.sl.r_112 restRun.sl.r_113 restRun.sl.r_114 restRun.sl.r_115
  simp only [readAt_unread_eq]
  refine Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.cons_unit (fun a b => ?_) <| Agrees.nil
  · pointwise [k0_pay2]
    simp only [w9, hn, hc, at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (4608 + b))
    try simp only [Nat.zero_add]
    rfl
  · pointwise [k0_pay1]
    simp only [w8, hn, hc, at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (4096 + b))
    try simp only [Nat.zero_add]
    rfl
  · pointwise [k0_pay504]
    simp only [w7, hn, hc, at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (3584 + b))
    try simp only [Nat.zero_add]
    rfl
  · pointwise [k0_pay503]
    simp only [w6, hn, hc, at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (3072 + b))
    try simp only [Nat.zero_add]
    rfl
  · pointwise [k0_pay500, k0_pay501, k0_pay502]
    simp only [w5, hn, hc, at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (2560 + b))
    try simp only [Nat.zero_add]
    rfl
  · pointwise [k0_pay499]
    simp only [w4, hn, hc, at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (2048 + b))
    try simp only [Nat.zero_add]
    rfl
  · pointwise [k0_pay498]
    simp only [w3, hn, hc, at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (1536 + b))
    try simp only [Nat.zero_add]
    rfl
  · pointwise [k0_pay497]
    simp only [w2, hn, hc, at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (1024 + b))
    try simp only [Nat.zero_add]
    rfl
  · pointwise [k0_pay496]
    simp only [w1, hn, hc, at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (512 + b))
    try simp only [Nat.zero_add]
    rfl
  · pointwise [k0_pay493, k0_pay494, k0_pay495]
    simp only [w0, hn, hc, hc', at2_eq x0, at2_eq x1, at2_eq x4, at2_eq x5, at2_eq x7, at2_eq x8, at2_eq x9, at2_eq x10, at2_eq x11, at2_eq x17]
    refine Eq.trans ?_ (e ((row i x0 x1 x4 x5 x6 x7 x8 x9 x10 x11 x17 a)) (b))
    try simp only [Nat.zero_add]
    rfl

/-- The stores of the input gradient cover its block. -/
theorem dh_cover (y : S384x5120.Idx) : ∃ p ∈ restRun.sl.H12_10 (F := Ideal) i arg1 harg1 arg2 harg2 arg5 harg5 arg6 harg6 arg7 harg7 arg8 harg8 arg9 harg9 arg10 harg10 arg11 harg11 arg12 harg12 arg18 harg18 arg19 arg20 arg21 x0 x1 x4 x5 x6 x7 x8 x9 x10 x11 x17, y ∈ p.1.set :=
  View.cover_of_tiledL (restRun.sl.H12_10 (F := Ideal) i arg1 harg1 arg2 harg2 arg5 harg5 arg6 harg6 arg7 harg7 arg8 harg8 arg9 harg9 arg10 harg10 arg11 harg11 arg12 harg12 arg18 harg18 arg19 arg20 arg21 x0 x1 x4 x5 x6 x7 x8 x9 x10 x11 x17) S384x512.size (by sl_kernel_rfl) y

/-- A step's stores of the input gradient are its tokens'. -/
theorem dh_left (f : arg13.view.ty.Contents (Elt Ideal)) (y : S384x5120.Idx) :
    arg13.view.read (Elt Ideal) (arg13.view.writes (Elt Ideal) f (restRun.sl.H12_10 (F := Ideal) i arg1 harg1 arg2 harg2 arg5 harg5 arg6 harg6 arg7 harg7 arg8 harg8 arg9 harg9 arg10 harg10 arg11 harg11 arg12 harg12 arg18 harg18 arg19 arg20 arg21 x0 x1 x4 x5 x6 x7 x8 x9 x10 x11 x17)) y = ((row i x0 x1 x4 x5 x6 x7 x8 x9 x10 x11 x17 (y 0))).dh (y 1).val :=
  View.read_writes_apply_of_pieces arg13.view f (arr2 (e := .bf16) fun r k => ((row i x0 x1 x4 x5 x6 x7 x8 x9 x10 x11 x17 r)).dh k) _ (dh_agrees i arg1 harg1 arg2 harg2 arg5 harg5 arg6 harg6 arg7 harg7 arg8 harg8 arg9 harg9 arg10 harg10 arg11 harg11 arg12 harg12 arg18 harg18 arg19 arg20 arg21 x0 x1 x4 x5 x6 x7 x8 x9 x10 x11 x17) y (dh_cover i arg1 harg1 arg2 harg2 arg5 harg5 arg6 harg6 arg7 harg7 arg8 harg8 arg9 harg9 arg10 harg10 arg11 harg11 arg12 harg12 arg18 harg18 arg19 arg20 arg21 x0 x1 x4 x5 x6 x7 x8 x9 x10 x11 x17 y)

end Cert.KernelIdeal.Val
-- ==== Proof.ArraysDh.lean ====
/-
  What the kernel's steps leave of the input gradient, and the array at the end.
-/
module

public import proofs.«01_k».proof.Proof.Arrays
public import proofs.«01_k».proof.Proof.KvDh

@[expose] public section

set_option maxRecDepth 16384

noncomputable section

namespace Cert.Tokens

open Idealize.ShloMosaic Idealize.ShloMosaic.TcCoe Idealize.ShloMosaic.Tactic Cert.Spec
open Idealize.SL Idealize.SL.Sem
open Cert.KernelIdeal Cert.KernelIdeal.Gen Cert.KernelIdeal.Body Cert.KernelIdeal.Track Cert.KernelIdeal.Val Cert.KernelIdeal.Link

variable (m : (ℓ : Loc nD τ sig) → Buf (Elt Ideal) ℓ) (c : Dev nD)

/-- What a point writes into window 12. -/
theorem restAt_w12 (t : Fin cfg0.N) (y13 : Vec Ideal S3x5x5120 .f32) (y14 : Vec Ideal S3x5x512 .f32) :
    (restAt m c t (wsc m c) y13 y14).1.1 = (win0_12.stage (cfg0.slots t 12)).view.writes (Elt Ideal) (win0_12.stage (cfg0.slots t 12)).view.junk (restRun.sl.H12_10 (F := Ideal) (grid0.coords t) (win0_0.stage (cfg0.slots t 0)) (hstage0_0 ((cfg0.slots t 0).cast nbuf0_0)) (win0_1.stage (cfg0.slots t 1)) (hstage0_1 ((cfg0.slots t 1).cast nbuf0_1)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.whole cc0_scratch2) (Memref.whole cc0_scratch3) (iblk m c 0 t) (iblk m c 1 t) (iblk m c 4 t) (iblk m c 5 t) (iblk m c 6 t) (iblk m c 7 t) (iblk m c 8 t) (iblk m c 9 t) (iblk m c 10 t) (iblk m c 11 t) (wsc m c)) :=
  rest_w12 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (wsc m c) y13 y14

/-- What a point leaves of the input gradient: its tokens'. -/
theorem dh_step (t : Fin cfg0.N) (y13 : Vec Ideal S3x5x5120 .f32) (y14 : Vec Ideal S3x5x512 .f32) (y : S384x5120.Idx) :
    (ms12 t).view.read (Elt Ideal) (restAt m c t (wsc m c) y13 y14).1.1 y = (tok m c (384 * t.val + (y 0).val)).dh (y 1).val := by
  have hy : (y 0).val < 384 := (y 0).isLt
  have h := dh_left (grid0.coords t) (win0_0.stage (cfg0.slots t 0)) (hstage0_0 ((cfg0.slots t 0).cast nbuf0_0)) (win0_1.stage (cfg0.slots t 1)) (hstage0_1 ((cfg0.slots t 1).cast nbuf0_1)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (Memref.whole cc0_scratch0) (Memref.isWhole_whole _) (Memref.whole cc0_scratch1) (Memref.whole cc0_scratch2) (Memref.whole cc0_scratch3) (iblk m c 0 t) (iblk m c 1 t) (iblk m c 4 t) (iblk m c 5 t) (iblk m c 6 t) (iblk m c 7 t) (iblk m c 8 t) (iblk m c 9 t) (iblk m c 10 t) (iblk m c 11 t) (wsc m c) (win0_12.stage (cfg0.slots t 12)).view.junk y
  rw [krow_eq m c t (y 0).val hy] at h
  refine (congrArg (fun W => (ms12 t).view.read (Elt Ideal) W y) (restAt_w12 m c t y13 y14)).trans ?_
  unfold ms12
  exact h

/-- What the data say a point leaves in window 12. -/
theorem after12 (t : Fin cfg0.N) (Y X) (h : (rdat m c).after 12 t Y X) : ∃ y13 y14, X = (ms12 t).view.read (Elt Ideal) (restAt m c t (wsc m c) y13 y14).1.1 := h

/-- What a point leaves of the input gradient: its tokens'. -/
theorem dh_leaves (t : Fin cfg0.N) (X) (h : (rdat m c).Leaves 12 t X) (y : S384x5120.Idx) :
    (X : Vec Ideal S384x5120 _) y = (tok m c (384 * t.val + (y 0).val)).dh (y 1).val := by
  obtain ⟨Y, hY, hA⟩ := h
  obtain ⟨y13, y14, rfl⟩ := after12 m c t Y X hA
  exact dh_step m c t y13 y14 y

/-- A step's block of the input gradient. -/
theorem idx12 : ∀ t : Fin cfg0.N, win0_12.index t = ![t.val, 0] :=
  (by decide +kernel : ∀ t : Fin grid0.N, win0_12.index t = ![t.val, 0])

/-- Result 1 of the kernel. -/
theorem ker12 (G) (h : (rdat m c).ArrAt 12 cfg0.N G) : G = dhArr (tok m c) := by
  obtain ⟨X, hX, hA⟩ := Pipeline.RDat.ArrAt.exists_exact h
  have e := hA (Function.update (fun _ _ _ => Classical.arbitrary _) 12 X) fun u _ _ => by rw [Function.update_self]
  rw [e]
  refine Pipeline.Dat.arrAt_eq_of_covers _ 12 _ (by decide +kernel) fun t hf y => ?_
  have hl := dh_leaves m c t (X t) (hX t t.isLt hf)
  have ei := idx12 t
  blk_simp
  rw [Pipeline.RDat.withAfter_after, Function.update_self]
  refine (hl _).trans ?_
  unfold dhArr
  have h0 := (win0_12.rect_emb_val t y 0)
  have h1 := (win0_12.rect_emb_val t y 1)
  rw [ei] at h0 h1
  have a0 : 384 * t.val + (y 0).val = t.val * 384 + (y 0).val := by omega
  have a1 : (y 1).val = 0 * 5120 + (y 1).val := by omega
  exact congr (congrArg (fun n => (tok m c n).dh) (a0.trans h0.symm)) (a1.trans h1.symm)

end Cert.Tokens
-- ==== Proof.Values.lean ====
/-
  The values of the two programs' results, side by side.
-/
module

public import proofs.«01_k».proof.Defs
public import proofs.«01_k».proof.Proof.ArraysQuant
public import proofs.«01_k».proof.Proof.ArraysDag
public import proofs.«01_k».proof.Proof.ArraysDh

@[expose] public section

set_option maxRecDepth 16384

noncomputable section

namespace Cert.KernelIdeal.Track

open Idealize.ShloMosaic Idealize.ShloMosaic.TcCoe
open Idealize.SL Idealize.SL.Sem
open Cert.KernelIdeal Cert.KernelIdeal.Gen Cert.KernelIdeal.Body

variable (m : (ℓ : Loc nD τ sig) → Buf (Elt Ideal) ℓ) (ρ : Dev nD → PrngReg)

/-- Every run of the kernel ends with the results at their values and the arguments unchanged. -/
theorem kernel_run : θ_run defs (onTc (τ := τ) (main (F := Ideal))) ⟨m, fun _ => 0, ρ⟩ (fun r => ∀ c : Dev nD,
      r.2.mem ((c.tc : Thread nD τ).loc main_v21_0) = Cert.Tokens.dhArr (Cert.Tokens.tok m c)
      ∧ r.2.mem ((c.tc : Thread nD τ).loc main_v21_1) = Cert.Tokens.dagArr (Cert.Tokens.tok m c)
      ∧ r.2.mem ((c.tc : Thread nD τ).loc main_v21_2) = Cert.Tokens.dngArr (Cert.Tokens.tok m c)
      ∧ r.2.mem ((c.tc : Thread nD τ).loc main_v21_3) = Cert.Tokens.codeArr (Cert.Tokens.tok m c)
      ∧ r.2.mem ((c.tc : Thread nD τ).loc main_v21_4) = Cert.Tokens.scaleArr (Cert.Tokens.tok m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨Cert.Tokens.ker12 m c _ ((h c).1 12),
      Cert.Tokens.ker13 m c _ ((h c).1 13),
      Cert.Tokens.ker14 m c _ ((h c).1 14),
      Cert.Tokens.ker15 m c _ ((h c).1 15),
      Cert.Tokens.ker16 m c _ ((h c).1 16),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (vrun m ρ)

end Cert.KernelIdeal.Track

namespace Cert.Tokens

open Idealize.ShloMosaic Idealize.ShloMosaic.TcCoe
open Idealize.SL Idealize.SL.Sem

/-- The two programs' tokens agree when their arguments do. -/
theorem tok_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    rtok m' c = tok m c := by
  obtain ⟨h0, h1, h2, h3, h4, h5, h6, h7, h8, h9, h10⟩ := h
  funext s
  unfold rtok tok
  rw [h0, h1, h2, h3, h4, h5, h6, h7, h8, h9, h10]

end Cert.Tokens
-- ==== Proof.lean ====
/-
  The proof of the claims: the three programs' frames, the idealization, and the results' values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m ρ _ => Cert.Kernel.Body.frame m ρ, fun m ρ _ => Cert.KernelIdeal.Body.frame m ρ, fun m ρ _ => Cert.ReferenceIdeal.Gen.frame m ρ, trivial, fun m g m' g' _ hargs => ?_⟩
  refine ⟨fun c => Cert.Tokens.dhArr (Cert.Tokens.tok m c), fun c => Cert.Tokens.dagArr (Cert.Tokens.tok m c), fun c => Cert.Tokens.dngArr (Cert.Tokens.tok m c), fun c => Cert.Tokens.codeArr (Cert.Tokens.tok m c), fun c => Cert.Tokens.scaleArr (Cert.Tokens.tok m c), ?_, ?_⟩
  · exact (θ_run _ _ _).mono (fun r h c => ⟨((h c).1),
      ((h c).2.1),
      ((h c).2.2.1),
      ((h c).2.2.2.1),
      ((h c).2.2.2.2.1),
      (h c).2.2.2.2.2⟩) (Cert.KernelIdeal.Track.kernel_run m g)
  · exact (θ_run _ _ _).mono (fun r h c => ⟨(((h c).1).trans ((Cert.Tokens.ref12 m' c).trans (congrArg Cert.Tokens.dhArr (Cert.Tokens.tok_eq m m' c (hargs c))))),
      (((h c).2.1).trans ((Cert.Tokens.ref13 m' c).trans (congrArg Cert.Tokens.dagArr (Cert.Tokens.tok_eq m m' c (hargs c))))),
      (((h c).2.2.1).trans ((Cert.Tokens.ref14 m' c).trans (congrArg Cert.Tokens.dngArr (Cert.Tokens.tok_eq m m' c (hargs c))))),
      (((h c).2.2.2.1).trans ((Cert.Tokens.ref15 m' c).trans (congrArg Cert.Tokens.codeArr (Cert.Tokens.tok_eq m m' c (hargs c))))),
      (((h c).2.2.2.2.1).trans ((Cert.Tokens.ref16 m' c).trans (congrArg Cert.Tokens.scaleArr (Cert.Tokens.tok_eq m m' c (hargs c))))),
      (h c).2.2.2.2.2⟩) (Cert.ReferenceIdeal.Value.run_blocks m' g')⟩

end Cert.Proof

end
